-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  IdealRules.named_const.Statement Cert.KernelIdeal.κ "q_scale" .f32 0x3E0293EE#32 (((Real.log 2)⁻¹ * (Real.sqrt 128)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v70) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v7)) (v1 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_v8) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_v20) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v23)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v23) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v32) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S8192x2048 : Shape := ⟨2, ![8192, 2048]⟩
abbrev S8192x16 : Shape := ⟨2, ![8192, 16]⟩
abbrev S8192x4112 : Shape := ⟨2, ![8192, 4112]⟩
abbrev S_ : Shape := ⟨0, ![]⟩

class Facts : Prop where
  concatenates_S8192x2048_S8192x2048_S8192x16_S8192x4112_d1 : Shape.Concatenates [S8192x2048, S8192x2048, S8192x16] S8192x4112 1
  bcast_S_S8192x4112 : S_.BroadcastsInDim S8192x4112 (![] : Fin 0 → Fin S8192x4112.rank)

variable [Facts]

def fn {F : FTy → Type} [FloatOps F] (main_arg0 : FVec F S8192x2048 .f32) (main_arg1 : FVec F S8192x2048 .f32) (main_arg2 : FVec F S8192x2048 .f32) (main_arg3 : FVec F S8192x16 .f32) : IVec S8192x4112 1 :=
  let main_v0 : FVec F S8192x4112 .f32 := concatenate S8192x4112 1 [⟨S8192x2048, main_arg0⟩, ⟨S8192x2048, main_arg1⟩, ⟨S8192x16, main_arg3⟩] concatenates_S8192x2048_S8192x2048_S8192x16_S8192x4112_d1
  let main_v1 : FVec F S8192x4112 .f32 := Host.absf main_v0
  let main_cst : FVec F S_ .f32 := constant S_ .f32 0x7F800000#32
  let main_v2 : FVec F S8192x4112 .f32 := broadcastInDim S8192x4112 ![] bcast_S_S8192x4112 main_cst
  let main_v3 : IVec S8192x4112 1 := cmpf .olt main_v1 main_v2
  main_v3
-- ==== Kernel.lean ====
abbrev S8192x2048 : Shape := ⟨2, ![8192, 2048]⟩
abbrev S8192x16 : Shape := ⟨2, ![8192, 16]⟩
abbrev S8192x4096 : Shape := ⟨2, ![8192, 4096]⟩
abbrev S_ : Shape := ⟨0, ![]⟩
abbrev S8192x32 : Shape := ⟨2, ![8192, 32]⟩
abbrev S8192x80 : Shape := ⟨2, ![8192, 80]⟩
abbrev S8192x128 : Shape := ⟨2, ![8192, 128]⟩
abbrev S128x8192 : Shape := ⟨2, ![128, 8192]⟩
abbrev S128x1x8192 : Shape := ⟨3, ![128, 1, 8192]⟩
abbrev S512x256 : Shape := ⟨2, ![512, 256]⟩
abbrev S8192x256 : Shape := ⟨2, ![8192, 256]⟩
abbrev S2x1x8192 : Shape := ⟨3, ![2, 1, 8192]⟩
abbrev S2x512x128 : Shape := ⟨3, ![2, 512, 128]⟩
abbrev S1x1x128 : Shape := ⟨3, ![1, 1, 128]⟩
abbrev S1x128 : Shape := ⟨2, ![1, 128]⟩
abbrev S1x1 : Shape := ⟨2, ![1, 1]⟩
abbrev S512x128 : Shape := ⟨2, ![512, 128]⟩
abbrev S2048x128 : Shape := ⟨2, ![2048, 128]⟩
abbrev S1x1x2048 : Shape := ⟨3, ![1, 1, 2048]⟩
abbrev S1x2048 : Shape := ⟨2, ![1, 2048]⟩
abbrev S512x2048 : Shape := ⟨2, ![512, 2048]⟩
abbrev S1x512x128 : Shape := ⟨3, ![1, 512, 128]⟩
abbrev S512 : Shape := ⟨1, ![512]⟩
abbrev S512x1 : Shape := ⟨2, ![512, 1]⟩
abbrev S1x1x512 : Shape := ⟨3, ![1, 1, 512]⟩
abbrev S1x512 : Shape := ⟨2, ![1, 512]⟩
abbrev S512x512 : Shape := ⟨2, ![512, 512]⟩

abbrev nBuf : Space → Nat
  | .hbm => 14
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x16, .f32⟩
  | .hbm, ⟨4, _⟩ => ⟨S8192x4096, .f32⟩
  | .hbm, ⟨5, _⟩ => ⟨S8192x4096, .bf16⟩
  | .hbm, ⟨6, _⟩ => ⟨S_, .f32⟩
  | .hbm, ⟨7, _⟩ => ⟨S8192x32, .f32⟩
  | .hbm, ⟨8, _⟩ => ⟨S_, .f32⟩
  | .hbm, ⟨9, _⟩ => ⟨S8192x80, .f32⟩
  | .hbm, ⟨10, _⟩ => ⟨S8192x128, .f32⟩
  | .hbm, ⟨11, _⟩ => ⟨S128x8192, .f32⟩
  | .hbm, ⟨12, _⟩ => ⟨S128x1x8192, .f32⟩
  | .hbm, ⟨13, _⟩ => ⟨S8192x2048, .bf16⟩
  | .local _ .vmem, ⟨0, _⟩ => ⟨S512x256, .f32⟩
  | .local _ .vmem, ⟨1, _⟩ => ⟨S512x256, .f32⟩
  | .local _ .vmem, ⟨2, _⟩ => ⟨S8192x256, .bf16⟩
  | .local _ .vmem, ⟨3, _⟩ => ⟨S8192x256, .bf16⟩
  | .local _ .vmem, ⟨4, _⟩ => ⟨S8192x256, .bf16⟩
  | .local _ .vmem, ⟨5, _⟩ => ⟨S8192x256, .bf16⟩
  | .local _ .vmem, ⟨6, _⟩ => ⟨S2x1x8192, .f32⟩
  | .local _ .vmem, ⟨7, _⟩ => ⟨S2x1x8192, .f32⟩
  | .local _ .vmem, ⟨8, _⟩ => ⟨S512x256, .bf16⟩
  | .local _ .vmem, ⟨9, _⟩ => ⟨S512x256, .bf16⟩
  | .local _ .vmem, ⟨10, _⟩ => ⟨S2x512x128, .f32⟩
  | .local _ .vmem, ⟨11, _⟩ => ⟨S2x512x128, .f32⟩
  | .local _ .vmem, ⟨12, _⟩ => ⟨S2x512x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_off1 (i : grid0.Coords) : Fin 3 → Nat :=
  let c0_10 : Index := 0#32
  let c0_11 : Index := 0#32
  let arg1 : BitVec 32 := BitVec.ofNat 32 (i 1).val
  let c512_i32 : BitVec 32 := 512#32
  let v0 : BitVec 32 := Scalar.muli arg1 c512_i32
  let v1 : BitVec 32 := v0
  let v14 : Index := Scalar.indexCast v1
  ![0, 0, v14.toNat]
def k0_off2 (i : grid0.Coords) : Fin 3 → Nat :=
  let c1 : Index := 1#32
  let c0_12 : Index := 0#32
  let arg1 : BitVec 32 := BitVec.ofNat 32 (i 1).val
  let c512_i32 : BitVec 32 := 512#32
  let v0 : BitVec 32 := Scalar.muli arg1 c512_i32
  let v1 : BitVec 32 := v0
  let v18 : Index := Scalar.indexCast v1
  ![1, 0, v18.toNat]
@[reducible] def k0_t1_loop (i : grid0.Coords) : Scf.Loop 32 :=
  let c0_i32_23 : BitVec 32 := 0#32
  let arg1 : BitVec 32 := BitVec.ofNat 32 (i 1).val
  let c0_i32 : BitVec 32 := 0#32
  let v31 : BitVec 1 := Scalar.cmpi .sgt arg1 c0_i32
  let v32 : BitVec 32 := Scalar.extui v31
  let c0_i32_18 : BitVec 32 := 0#32
  let v33 : BitVec 1 := Scalar.cmpi .slt arg1 c0_i32_18
  let v34 : BitVec 32 := Scalar.extui v33
  let v35 : BitVec 32 := Scalar.subi v32 v34
  let c4_i32 : BitVec 32 := 4#32
  let c0_i32_19 : BitVec 32 := 0#32
  let v36 : BitVec 1 := Scalar.cmpi .sgt c4_i32 c0_i32_19
  let v37 : BitVec 32 := Scalar.extui v36
  let c0_i32_20 : BitVec 32 := 0#32
  let v38 : BitVec 1 := Scalar.cmpi .slt c4_i32 c0_i32_20
  let v39 : BitVec 32 := Scalar.extui v38
  let v40 : BitVec 32 := Scalar.subi v37 v39
  let v41 : BitVec 1 := Scalar.cmpi .ne v35 v40
  let v42 : BitVec 32 := Scalar.remsi arg1 c4_i32
  let c0_i32_21 : BitVec 32 := 0#32
  let v43 : BitVec 1 := Scalar.cmpi .ne v42 c0_i32_21
  let v44 : BitVec 1 := Scalar.andi v41 v43
  let v30 : BitVec 32 := Scalar.divsi arg1 c4_i32
  let c1_i32 : BitVec 32 := 1#32
  let v45 : BitVec 32 := Scalar.subi v30 c1_i32
  let v46 : BitVec 32 := Scalar.select v44 v45 v30
  let v47 : BitVec 32 := Scalar.subi v46 c0_i32_23
  let c1_i32_24 : BitVec 32 := 1#32
  let v49 : BitVec 32 := Scalar.divsi v47 c1_i32_24
  let v50 : BitVec 32 := Scalar.muli v49 c1_i32_24
  let v51 : BitVec 32 := Scalar.addi c0_i32_23 v50
  let c1_i32_25 : BitVec 32 := 1#32
  ⟨c0_i32_23, v51, c1_i32_25⟩
def k0_mult2 (i : grid0.Coords) (k0_t1 : Fin (k0_t1_loop i).trips) : BitVec 32 :=
  let c0_i32_23 : BitVec 32 := 0#32
  let c1_i32_25 : BitVec 32 := 1#32
  let arg10 : BitVec 32 := Scf.iv c0_i32_23 c1_i32_25 k0_t1
  let c2048_i32 : BitVec 32 := 2048#32
  let v203 : BitVec 32 := Scalar.muli arg10 c2048_i32
  v203
def k0_off3 (i : grid0.Coords) (k0_t1 : Fin (k0_t1_loop i).trips) : Fin 2 → Nat :=
  let c0_i32_23 : BitVec 32 := 0#32
  let c1_i32_25 : BitVec 32 := 1#32
  let arg10 : BitVec 32 := Scf.iv c0_i32_23 c1_i32_25 k0_t1
  let c2048_i32 : BitVec 32 := 2048#32
  let v203 : BitVec 32 := Scalar.muli arg10 c2048_i32
  let v204 : BitVec 32 := v203
  let v205 : Index := Scalar.indexCast v204
  let c0_107 : Index := 0#32
  ![v205.toNat, 0]
def k0_off4 (i : grid0.Coords) (k0_t1 : Fin (k0_t1_loop i).trips) : Fin 3 → Nat :=
  let c0_109 : Index := 0#32
  let c0_110 : Index := 0#32
  let c0_i32_23 : BitVec 32 := 0#32
  let c1_i32_25 : BitVec 32 := 1#32
  let arg10 : BitVec 32 := Scf.iv c0_i32_23 c1_i32_25 k0_t1
  let c2048_i32 : BitVec 32 := 2048#32
  let v203 : BitVec 32 := Scalar.muli arg10 c2048_i32
  let v204 : BitVec 32 := v203
  let v211 : Index := Scalar.indexCast v204
  ![0, 0, v211.toNat]
def k0_off5 (i : grid0.Coords) (k0_t1 : Fin (k0_t1_loop i).trips) : Fin 2 → Nat :=
  let c0_i32_23 : BitVec 32 := 0#32
  let c1_i32_25 : BitVec 32 := 1#32
  let arg10 : BitVec 32 := Scf.iv c0_i32_23 c1_i32_25 k0_t1
  let c2048_i32 : BitVec 32 := 2048#32
  let v203 : BitVec 32 := Scalar.muli arg10 c2048_i32
  let v204 : BitVec 32 := v203
  let v282 : Index := Scalar.indexCast v204
  let c128_133 : Index := 128#32
  ![v282.toNat, 128]
def k0_off6 (i : grid0.Coords) (k0_t1 : Fin (k0_t1_loop i).trips) : Fin 3 → Nat :=
  let c1_135 : Index := 1#32
  let c0_136 : Index := 0#32
  let c0_i32_23 : BitVec 32 := 0#32
  let c1_i32_25 : BitVec 32 := 1#32
  let arg10 : BitVec 32 := Scf.iv c0_i32_23 c1_i32_25 k0_t1
  let c2048_i32 : BitVec 32 := 2048#32
  let v203 : BitVec 32 := Scalar.muli arg10 c2048_i32
  let v204 : BitVec 32 := v203
  let v288 : Index := Scalar.indexCast v204
  ![1, 0, v288.toNat]
@[reducible] def k0_t2_loop (i : grid0.Coords) : Scf.Loop 32 :=
  let c0_i32_23 : BitVec 32 := 0#32
  let arg1 : BitVec 32 := BitVec.ofNat 32 (i 1).val
  let c0_i32 : BitVec 32 := 0#32
  let v31 : BitVec 1 := Scalar.cmpi .sgt arg1 c0_i32
  let v32 : BitVec 32 := Scalar.extui v31
  let c0_i32_18 : BitVec 32 := 0#32
  let v33 : BitVec 1 := Scalar.cmpi .slt arg1 c0_i32_18
  let v34 : BitVec 32 := Scalar.extui v33
  let v35 : BitVec 32 := Scalar.subi v32 v34
  let c4_i32 : BitVec 32 := 4#32
  let c0_i32_19 : BitVec 32 := 0#32
  let v36 : BitVec 1 := Scalar.cmpi .sgt c4_i32 c0_i32_19
  let v37 : BitVec 32 := Scalar.extui v36
  let c0_i32_20 : BitVec 32 := 0#32
  let v38 : BitVec 1 := Scalar.cmpi .slt c4_i32 c0_i32_20
  let v39 : BitVec 32 := Scalar.extui v38
  let v40 : BitVec 32 := Scalar.subi v37 v39
  let v41 : BitVec 1 := Scalar.cmpi .ne v35 v40
  let v42 : BitVec 32 := Scalar.remsi arg1 c4_i32
  let c0_i32_21 : BitVec 32 := 0#32
  let v43 : BitVec 1 := Scalar.cmpi .ne v42 c0_i32_21
  let v44 : BitVec 1 := Scalar.andi v41 v43
  let v30 : BitVec 32 := Scalar.divsi arg1 c4_i32
  let c1_i32 : BitVec 32 := 1#32
  let v45 : BitVec 32 := Scalar.subi v30 c1_i32
  let v46 : BitVec 32 := Scalar.select v44 v45 v30
  let v47 : BitVec 32 := Scalar.subi v46 c0_i32_23
  let c1_i32_24 : BitVec 32 := 1#32
  let v49 : BitVec 32 := Scalar.divsi v47 c1_i32_24
  let v50 : BitVec 32 := Scalar.muli v49 c1_i32_24
  let v51 : BitVec 32 := Scalar.addi c0_i32_23 v50
  let v48 : BitVec 32 := Scalar.addi c0_i32_23 v47
  let c1_i32_26 : BitVec 32 := 1#32
  ⟨v51, v48, c1_i32_26⟩
def k0_mult3 (i : grid0.Coords) (k0_t2 : Fin (k0_t2_loop i).trips) : BitVec 32 :=
  let c0_i32_23 : BitVec 32 := 0#32
  let arg1 : BitVec 32 := BitVec.ofNat 32 (i 1).val
  let c0_i32 : BitVec 32 := 0#32
  let v31 : BitVec 1 := Scalar.cmpi .sgt arg1 c0_i32
  let v32 : BitVec 32 := Scalar.extui v31
  let c0_i32_18 : BitVec 32 := 0#32
  let v33 : BitVec 1 := Scalar.cmpi .slt arg1 c0_i32_18
  let v34 : BitVec 32 := Scalar.extui v33
  let v35 : BitVec 32 := Scalar.subi v32 v34
  let c4_i32 : BitVec 32 := 4#32
  let c0_i32_19 : BitVec 32 := 0#32
  let v36 : BitVec 1 := Scalar.cmpi .sgt c4_i32 c0_i32_19
  let v37 : BitVec 32 := Scalar.extui v36
  let c0_i32_20 : BitVec 32 := 0#32
  let v38 : BitVec 1 := Scalar.cmpi .slt c4_i32 c0_i32_20
  let v39 : BitVec 32 := Scalar.extui v38
  let v40 : BitVec 32 := Scalar.subi v37 v39
  let v41 : BitVec 1 := Scalar.cmpi .ne v35 v40
  let v42 : BitVec 32 := Scalar.remsi arg1 c4_i32
  let c0_i32_21 : BitVec 32 := 0#32
  let v43 : BitVec 1 := Scalar.cmpi .ne v42 c0_i32_21
  let v44 : BitVec 1 := Scalar.andi v41 v43
  let v30 : BitVec 32 := Scalar.divsi arg1 c4_i32
  let c1_i32 : BitVec 32 := 1#32
  let v45 : BitVec 32 := Scalar.subi v30 c1_i32
  let v46 : BitVec 32 := Scalar.select v44 v45 v30
  let v47 : BitVec 32 := Scalar.subi v46 c0_i32_23
  let c1_i32_24 : BitVec 32 := 1#32
  let v49 : BitVec 32 := Scalar.divsi v47 c1_i32_24
  let v50 : BitVec 32 := Scalar.muli v49 c1_i32_24
  let v51 : BitVec 32 := Scalar.addi c0_i32_23 v50
  let c1_i32_26 : BitVec 32 := 1#32
  let arg10 : BitVec 32 := Scf.iv v51 c1_i32_26 k0_t2
  let c2048_i32 : BitVec 32 := 2048#32
  let v203 : BitVec 32 := Scalar.muli arg10 c2048_i32
  v203
def k0_off7 (i : grid0.Coords) (k0_t2 : Fin (k0_t2_loop i).trips) : Fin 2 → Nat :=
  let c0_i32_23 : BitVec 32 := 0#32
  let arg1 : BitVec 32 := BitVec.ofNat 32 (i 1).val
  let c0_i32 : BitVec 32 := 0#32
  let v31 : BitVec 1 := Scalar.cmpi .sgt arg1 c0_i32
  let v32 : BitVec 32 := Scalar.extui v31
  let c0_i32_18 : BitVec 32 := 0#32
  let v33 : BitVec 1 := Scalar.cmpi .slt arg1 c0_i32_18
  let v34 : BitVec 32 := Scalar.extui v33
  let v35 : BitVec 32 := Scalar.subi v32 v34
  let c4_i32 : BitVec 32 := 4#32
  let c0_i32_19 : BitVec 32 := 0#32
  let v36 : BitVec 1 := Scalar.cmpi .sgt c4_i32 c0_i32_19
  let v37 : BitVec 32 := Scalar.extui v36
  let c0_i32_20 : BitVec 32 := 0#32
  let v38 : BitVec 1 := Scalar.cmpi .slt c4_i32 c0_i32_20
  let v39 : BitVec 32 := Scalar.extui v38
  let v40 : BitVec 32 := Scalar.subi v37 v39
  let v41 : BitVec 1 := Scalar.cmpi .ne v35 v40
  let v42 : BitVec 32 := Scalar.remsi arg1 c4_i32
  let c0_i32_21 : BitVec 32 := 0#32
  let v43 : BitVec 1 := Scalar.cmpi .ne v42 c0_i32_21
  let v44 : BitVec 1 := Scalar.andi v41 v43
  let v30 : BitVec 32 := Scalar.divsi arg1 c4_i32
  let c1_i32 : BitVec 32 := 1#32
  let v45 : BitVec 32 := Scalar.subi v30 c1_i32
  let v46 : BitVec 32 := Scalar.select v44 v45 v30
  let v47 : BitVec 32 := Scalar.subi v46 c0_i32_23
  let c1_i32_24 : BitVec 32 := 1#32
  let v49 : BitVec 32 := Scalar.divsi v47 c1_i32_24
  let v50 : BitVec 32 := Scalar.muli v49 c1_i32_24
  let v51 : BitVec 32 := Scalar.addi c0_i32_23 v50
  let c1_i32_26 : BitVec 32 := 1#32
  let arg10 : BitVec 32 := Scf.iv v51 c1_i32_26 k0_t2
  let c2048_i32 : BitVec 32 := 2048#32
  let v203 : BitVec 32 := Scalar.muli arg10 c2048_i32
  let v204 : BitVec 32 := v203
  let v205 : Index := Scalar.indexCast v204
  let c0_107 : Index := 0#32
  ![v205.toNat, 0]
def k0_off8 (i : grid0.Coords) (k0_t2 : Fin (k0_t2_loop i).trips) : Fin 3 → Nat :=
  let c0_109 : Index := 0#32
  let c0_110 : Index := 0#32
  let c0_i32_23 : BitVec 32 := 0#32
  let arg1 : BitVec 32 := BitVec.ofNat 32 (i 1).val
  let c0_i32 : BitVec 32 := 0#32
  let v31 : BitVec 1 := Scalar.cmpi .sgt arg1 c0_i32
  let v32 : BitVec 32 := Scalar.extui v31
  let c0_i32_18 : BitVec 32 := 0#32
  let v33 : BitVec 1 := Scalar.cmpi .slt arg1 c0_i32_18
  let v34 : BitVec 32 := Scalar.extui v33
  let v35 : BitVec 32 := Scalar.subi v32 v34
  let c4_i32 : BitVec 32 := 4#32
  let c0_i32_19 : BitVec 32 := 0#32
  let v36 : BitVec 1 := Scalar.cmpi .sgt c4_i32 c0_i32_19
  let v37 : BitVec 32 := Scalar.extui v36
  let c0_i32_20 : BitVec 32 := 0#32
  let v38 : BitVec 1 := Scalar.cmpi .slt c4_i32 c0_i32_20
  let v39 : BitVec 32 := Scalar.extui v38
  let v40 : BitVec 32 := Scalar.subi v37 v39
  let v41 : BitVec 1 := Scalar.cmpi .ne v35 v40
  let v42 : BitVec 32 := Scalar.remsi arg1 c4_i32
  let c0_i32_21 : BitVec 32 := 0#32
  let v43 : BitVec 1 := Scalar.cmpi .ne v42 c0_i32_21
  let v44 : BitVec 1 := Scalar.andi v41 v43
  let v30 : BitVec 32 := Scalar.divsi arg1 c4_i32
  let c1_i32 : BitVec 32 := 1#32
  let v45 : BitVec 32 := Scalar.subi v30 c1_i32
  let v46 : BitVec 32 := Scalar.select v44 v45 v30
  let v47 : BitVec 32 := Scalar.subi v46 c0_i32_23
  let c1_i32_24 : BitVec 32 := 1#32
  let v49 : BitVec 32 := Scalar.divsi v47 c1_i32_24
  let v50 : BitVec 32 := Scalar.muli v49 c1_i32_24
  let v51 : BitVec 32 := Scalar.addi c0_i32_23 v50
  let c1_i32_26 : BitVec 32 := 1#32
  let arg10 : BitVec 32 := Scf.iv v51 c1_i32_26 k0_t2
  let c2048_i32 : BitVec 32 := 2048#32
  let v203 : BitVec 32 := Scalar.muli arg10 c2048_i32
  let v204 : BitVec 32 := v203
  let v211 : Index := Scalar.indexCast v204
  ![0, 0, v211.toNat]
def k0_off9 (i : grid0.Coords) (k0_t2 : Fin (k0_t2_loop i).trips) : Fin 2 → Nat :=
  let c0_i32_23 : BitVec 32 := 0#32
  let arg1 : BitVec 32 := BitVec.ofNat 32 (i 1).val
  let c0_i32 : BitVec 32 := 0#32
  let v31 : BitVec 1 := Scalar.cmpi .sgt arg1 c0_i32
  let v32 : BitVec 32 := Scalar.extui v31
  let c0_i32_18 : BitVec 32 := 0#32
  let v33 : BitVec 1 := Scalar.cmpi .slt arg1 c0_i32_18
  let v34 : BitVec 32 := Scalar.extui v33
  let v35 : BitVec 32 := Scalar.subi v32 v34
  let c4_i32 : BitVec 32 := 4#32
  let c0_i32_19 : BitVec 32 := 0#32
  let v36 : BitVec 1 := Scalar.cmpi .sgt c4_i32 c0_i32_19
  let v37 : BitVec 32 := Scalar.extui v36
  let c0_i32_20 : BitVec 32 := 0#32
  let v38 : BitVec 1 := Scalar.cmpi .slt c4_i32 c0_i32_20
  let v39 : BitVec 32 := Scalar.extui v38
  let v40 : BitVec 32 := Scalar.subi v37 v39
  let v41 : BitVec 1 := Scalar.cmpi .ne v35 v40
  let v42 : BitVec 32 := Scalar.remsi arg1 c4_i32
  let c0_i32_21 : BitVec 32 := 0#32
  let v43 : BitVec 1 := Scalar.cmpi .ne v42 c0_i32_21
  let v44 : BitVec 1 := Scalar.andi v41 v43
  let v30 : BitVec 32 := Scalar.divsi arg1 c4_i32
  let c1_i32 : BitVec 32 := 1#32
  let v45 : BitVec 32 := Scalar.subi v30 c1_i32
  let v46 : BitVec 32 := Scalar.select v44 v45 v30
  let v47 : BitVec 32 := Scalar.subi v46 c0_i32_23
  let c1_i32_24 : BitVec 32 := 1#32
  let v49 : BitVec 32 := Scalar.divsi v47 c1_i32_24
  let v50 : BitVec 32 := Scalar.muli v49 c1_i32_24
  let v51 : BitVec 32 := Scalar.addi c0_i32_23 v50
  let c1_i32_26 : BitVec 32 := 1#32
  let arg10 : BitVec 32 := Scf.iv v51 c1_i32_26 k0_t2
  let c2048_i32 : BitVec 32 := 2048#32
  let v203 : BitVec 32 := Scalar.muli arg10 c2048_i32
  let v204 : BitVec 32 := v203
  let v282 : Index := Scalar.indexCast v204
  let c128_133 : Index := 128#32
  ![v282.toNat, 128]
def k0_off10 (i : grid0.Coords) (k0_t2 : Fin (k0_t2_loop i).trips) : Fin 3 → Nat :=
  let c1_135 : Index := 1#32
  let c0_136 : Index := 0#32
  let c0_i32_23 : BitVec 32 := 0#32
  let arg1 : BitVec 32 := BitVec.ofNat 32 (i 1).val
  let c0_i32 : BitVec 32 := 0#32
  let v31 : BitVec 1 := Scalar.cmpi .sgt arg1 c0_i32
  let v32 : BitVec 32 := Scalar.extui v31
  let c0_i32_18 : BitVec 32 := 0#32
  let v33 : BitVec 1 := Scalar.cmpi .slt arg1 c0_i32_18
  let v34 : BitVec 32 := Scalar.extui v33
  let v35 : BitVec 32 := Scalar.subi v32 v34
  let c4_i32 : BitVec 32 := 4#32
  let c0_i32_19 : BitVec 32 := 0#32
  let v36 : BitVec 1 := Scalar.cmpi .sgt c4_i32 c0_i32_19
  let v37 : BitVec 32 := Scalar.extui v36
  let c0_i32_20 : BitVec 32 := 0#32
  let v38 : BitVec 1 := Scalar.cmpi .slt c4_i32 c0_i32_20
  let v39 : BitVec 32 := Scalar.extui v38
  let v40 : BitVec 32 := Scalar.subi v37 v39
  let v41 : BitVec 1 := Scalar.cmpi .ne v35 v40
  let v42 : BitVec 32 := Scalar.remsi arg1 c4_i32
  let c0_i32_21 : BitVec 32 := 0#32
  let v43 : BitVec 1 := Scalar.cmpi .ne v42 c0_i32_21
  let v44 : BitVec 1 := Scalar.andi v41 v43
  let v30 : BitVec 32 := Scalar.divsi arg1 c4_i32
  let c1_i32 : BitVec 32 := 1#32
  let v45 : BitVec 32 := Scalar.subi v30 c1_i32
  let v46 : BitVec 32 := Scalar.select v44 v45 v30
  let v47 : BitVec 32 := Scalar.subi v46 c0_i32_23
  let c1_i32_24 : BitVec 32 := 1#32
  let v49 : BitVec 32 := Scalar.divsi v47 c1_i32_24
  let v50 : BitVec 32 := Scalar.muli v49 c1_i32_24
  let v51 : BitVec 32 := Scalar.addi c0_i32_23 v50
  let c1_i32_26 : BitVec 32 := 1#32
  let arg10 : BitVec 32 := Scf.iv v51 c1_i32_26 k0_t2
  let c2048_i32 : BitVec 32 := 2048#32
  let v203 : BitVec 32 := Scalar.muli arg10 c2048_i32
  let v204 : BitVec 32 := v203
  let v288 : Index := Scalar.indexCast v204
  ![1, 0, v288.toNat]
def k0_cond1 (i : grid0.Coords) : BitVec 1 :=
  let arg1 : BitVec 32 := BitVec.ofNat 32 (i 1).val
  let c0_i32 : BitVec 32 := 0#32
  let v31 : BitVec 1 := Scalar.cmpi .sgt arg1 c0_i32
  let v32 : BitVec 32 := Scalar.extui v31
  let c0_i32_18 : BitVec 32 := 0#32
  let v33 : BitVec 1 := Scalar.cmpi .slt arg1 c0_i32_18
  let v34 : BitVec 32 := Scalar.extui v33
  let v35 : BitVec 32 := Scalar.subi v32 v34
  let c4_i32 : BitVec 32 := 4#32
  let c0_i32_19 : BitVec 32 := 0#32
  let v36 : BitVec 1 := Scalar.cmpi .sgt c4_i32 c0_i32_19
  let v37 : BitVec 32 := Scalar.extui v36
  let c0_i32_20 : BitVec 32 := 0#32
  let v38 : BitVec 1 := Scalar.cmpi .slt c4_i32 c0_i32_20
  let v39 : BitVec 32 := Scalar.extui v38
  let v40 : BitVec 32 := Scalar.subi v37 v39
  let v41 : BitVec 1 := Scalar.cmpi .ne v35 v40
  let v42 : BitVec 32 := Scalar.remsi arg1 c4_i32
  let c0_i32_21 : BitVec 32 := 0#32
  let v43 : BitVec 1 := Scalar.cmpi .ne v42 c0_i32_21
  let v44 : BitVec 1 := Scalar.andi v41 v43
  let v30 : BitVec 32 := Scalar.divsi arg1 c4_i32
  let c1_i32 : BitVec 32 := 1#32
  let v45 : BitVec 32 := Scalar.subi v30 c1_i32
  let v46 : BitVec 32 := Scalar.select v44 v45 v30
  let c4_i32_27 : BitVec 32 := 4#32
  let v52 : BitVec 32 := Scalar.muli v46 c4_i32_27
  let v53 : BitVec 32 := Scalar.subi arg1 v52
  let c0_i32_28 : BitVec 32 := 0#32
  let v54 : BitVec 1 := Scalar.cmpi .sgt v53 c0_i32_28
  let v55 : BitVec 32 := Scalar.extui v54
  let c0_i32_29 : BitVec 32 := 0#32
  let v56 : BitVec 1 := Scalar.cmpi .ne v55 c0_i32_29
  v56

def k0_mult4 (i : grid0.Coords) : BitVec 32 :=
  let arg1 : BitVec 32 := BitVec.ofNat 32 (i 1).val
  let c0_i32 : BitVec 32 := 0#32
  let v31 : BitVec 1 := Scalar.cmpi .sgt arg1 c0_i32
  let v32 : BitVec 32 := Scalar.extui v31
  let c0_i32_18 : BitVec 32 := 0#32
  let v33 : BitVec 1 := Scalar.cmpi .slt arg1 c0_i32_18
  let v34 : BitVec 32 := Scalar.extui v33
  let v35 : BitVec 32 := Scalar.subi v32 v34
  let c4_i32 : BitVec 32 := 4#32
  let c0_i32_19 : BitVec 32 := 0#32
  let v36 : BitVec 1 := Scalar.cmpi .sgt c4_i32 c0_i32_19
  let v37 : BitVec 32 := Scalar.extui v36
  let c0_i32_20 : BitVec 32 := 0#32
  let v38 : BitVec 1 := Scalar.cmpi .slt c4_i32 c0_i32_20
  let v39 : BitVec 32 := Scalar.extui v38
  let v40 : BitVec 32 := Scalar.subi v37 v39
  let v41 : BitVec 1 := Scalar.cmpi .ne v35 v40
  let v42 : BitVec 32 := Scalar.remsi arg1 c4_i32
  let c0_i32_21 : BitVec 32 := 0#32
  let v43 : BitVec 1 := Scalar.cmpi .ne v42 c0_i32_21
  let v44 : BitVec 1 := Scalar.andi v41 v43
  let v30 : BitVec 32 := Scalar.divsi arg1 c4_i32
  let c1_i32 : BitVec 32 := 1#32
  let v45 : BitVec 32 := Scalar.subi v30 c1_i32
  let v46 : BitVec 32 := Scalar.select v44 v45 v30
  let c4_i32_107 : BitVec 32 := 4#32
  let v203 : BitVec 32 := Scalar.muli v46 c4_i32_107
  let c0_i32_108 : BitVec 32 := 0#32
  let v204 : BitVec 32 := Scalar.addi v203 c0_i32_108
  let c512_i32_109 : BitVec 32 := 512#32
  let v205 : BitVec 32 := Scalar.muli v204 c512_i32_109
  v205
def k0_off11 (i : grid0.Coords) : Fin 2 → Nat :=
  let arg1 : BitVec 32 := BitVec.ofNat 32 (i 1).val
  let c0_i32 : BitVec 32 := 0#32
  let v31 : BitVec 1 := Scalar.cmpi .sgt arg1 c0_i32
  let v32 : BitVec 32 := Scalar.extui v31
  let c0_i32_18 : BitVec 32 := 0#32
  let v33 : BitVec 1 := Scalar.cmpi .slt arg1 c0_i32_18
  let v34 : BitVec 32 := Scalar.extui v33
  let v35 : BitVec 32 := Scalar.subi v32 v34
  let c4_i32 : BitVec 32 := 4#32
  let c0_i32_19 : BitVec 32 := 0#32
  let v36 : BitVec 1 := Scalar.cmpi .sgt c4_i32 c0_i32_19
  let v37 : BitVec 32 := Scalar.extui v36
  let c0_i32_20 : BitVec 32 := 0#32
  let v38 : BitVec 1 := Scalar.cmpi .slt c4_i32 c0_i32_20
  let v39 : BitVec 32 := Scalar.extui v38
  let v40 : BitVec 32 := Scalar.subi v37 v39
  let v41 : BitVec 1 := Scalar.cmpi .ne v35 v40
  let v42 : BitVec 32 := Scalar.remsi arg1 c4_i32
  let c0_i32_21 : BitVec 32 := 0#32
  let v43 : BitVec 1 := Scalar.cmpi .ne v42 c0_i32_21
  let v44 : BitVec 1 := Scalar.andi v41 v43
  let v30 : BitVec 32 := Scalar.divsi arg1 c4_i32
  let c1_i32 : BitVec 32 := 1#32
  let v45 : BitVec 32 := Scalar.subi v30 c1_i32
  let v46 : BitVec 32 := Scalar.select v44 v45 v30
  let c4_i32_107 : BitVec 32 := 4#32
  let v203 : BitVec 32 := Scalar.muli v46 c4_i32_107
  let c0_i32_108 : BitVec 32 := 0#32
  let v204 : BitVec 32 := Scalar.addi v203 c0_i32_108
  let c512_i32_109 : BitVec 32 := 512#32
  let v205 : BitVec 32 := Scalar.muli v204 c512_i32_109
  let v206 : BitVec 32 := v205
  let v207 : Index := Scalar.indexCast v206
  let c0_110 : Index := 0#32
  ![v207.toNat, 0]
def k0_off12 (i : grid0.Coords) : Fin 3 → Nat :=
  let c0_112 : Index := 0#32
  let c0_113 : Index := 0#32
  let arg1 : BitVec 32 := BitVec.ofNat 32 (i 1).val
  let c0_i32 : BitVec 32 := 0#32
  let v31 : BitVec 1 := Scalar.cmpi .sgt arg1 c0_i32
  let v32 : BitVec 32 := Scalar.extui v31
  let c0_i32_18 : BitVec 32 := 0#32
  let v33 : BitVec 1 := Scalar.cmpi .slt arg1 c0_i32_18
  let v34 : BitVec 32 := Scalar.extui v33
  let v35 : BitVec 32 := Scalar.subi v32 v34
  let c4_i32 : BitVec 32 := 4#32
  let c0_i32_19 : BitVec 32 := 0#32
  let v36 : BitVec 1 := Scalar.cmpi .sgt c4_i32 c0_i32_19
  let v37 : BitVec 32 := Scalar.extui v36
  let c0_i32_20 : BitVec 32 := 0#32
  let v38 : BitVec 1 := Scalar.cmpi .slt c4_i32 c0_i32_20
  let v39 : BitVec 32 := Scalar.extui v38
  let v40 : BitVec 32 := Scalar.subi v37 v39
  let v41 : BitVec 1 := Scalar.cmpi .ne v35 v40
  let v42 : BitVec 32 := Scalar.remsi arg1 c4_i32
  let c0_i32_21 : BitVec 32 := 0#32
  let v43 : BitVec 1 := Scalar.cmpi .ne v42 c0_i32_21
  let v44 : BitVec 1 := Scalar.andi v41 v43
  let v30 : BitVec 32 := Scalar.divsi arg1 c4_i32
  let c1_i32 : BitVec 32 := 1#32
  let v45 : BitVec 32 := Scalar.subi v30 c1_i32
  let v46 : BitVec 32 := Scalar.select v44 v45 v30
  let c4_i32_107 : BitVec 32 := 4#32
  let v203 : BitVec 32 := Scalar.muli v46 c4_i32_107
  let c0_i32_108 : BitVec 32 := 0#32
  let v204 : BitVec 32 := Scalar.addi v203 c0_i32_108
  let c512_i32_109 : BitVec 32 := 512#32
  let v205 : BitVec 32 := Scalar.muli v204 c512_i32_109
  let v206 : BitVec 32 := v205
  let v213 : Index := Scalar.indexCast v206
  ![0, 0, v213.toNat]
def k0_off13 (i : grid0.Coords) : Fin 2 → Nat :=
  let arg1 : BitVec 32 := BitVec.ofNat 32 (i 1).val
  let c0_i32 : BitVec 32 := 0#32
  let v31 : BitVec 1 := Scalar.cmpi .sgt arg1 c0_i32
  let v32 : BitVec 32 := Scalar.extui v31
  let c0_i32_18 : BitVec 32 := 0#32
  let v33 : BitVec 1 := Scalar.cmpi .slt arg1 c0_i32_18
  let v34 : BitVec 32 := Scalar.extui v33
  let v35 : BitVec 32 := Scalar.subi v32 v34
  let c4_i32 : BitVec 32 := 4#32
  let c0_i32_19 : BitVec 32 := 0#32
  let v36 : BitVec 1 := Scalar.cmpi .sgt c4_i32 c0_i32_19
  let v37 : BitVec 32 := Scalar.extui v36
  let c0_i32_20 : BitVec 32 := 0#32
  let v38 : BitVec 1 := Scalar.cmpi .slt c4_i32 c0_i32_20
  let v39 : BitVec 32 := Scalar.extui v38
  let v40 : BitVec 32 := Scalar.subi v37 v39
  let v41 : BitVec 1 := Scalar.cmpi .ne v35 v40
  let v42 : BitVec 32 := Scalar.remsi arg1 c4_i32
  let c0_i32_21 : BitVec 32 := 0#32
  let v43 : BitVec 1 := Scalar.cmpi .ne v42 c0_i32_21
  let v44 : BitVec 1 := Scalar.andi v41 v43
  let v30 : BitVec 32 := Scalar.divsi arg1 c4_i32
  let c1_i32 : BitVec 32 := 1#32
  let v45 : BitVec 32 := Scalar.subi v30 c1_i32
  let v46 : BitVec 32 := Scalar.select v44 v45 v30
  let c4_i32_107 : BitVec 32 := 4#32
  let v203 : BitVec 32 := Scalar.muli v46 c4_i32_107
  let c0_i32_108 : BitVec 32 := 0#32
  let v204 : BitVec 32 := Scalar.addi v203 c0_i32_108
  let c512_i32_109 : BitVec 32 := 512#32
  let v205 : BitVec 32 := Scalar.muli v204 c512_i32_109
  let v206 : BitVec 32 := v205
  let v260 : Index := Scalar.indexCast v206
  let c128_136 : Index := 128#32
  ![v260.toNat, 128]
def k0_off14 (i : grid0.Coords) : Fin 3 → Nat :=
  let c1_138 : Index := 1#32
  let c0_139 : Index := 0#32
  let arg1 : BitVec 32 := BitVec.ofNat 32 (i 1).val
  let c0_i32 : BitVec 32 := 0#32
  let v31 : BitVec 1 := Scalar.cmpi .sgt arg1 c0_i32
  let v32 : BitVec 32 := Scalar.extui v31
  let c0_i32_18 : BitVec 32 := 0#32
  let v33 : BitVec 1 := Scalar.cmpi .slt arg1 c0_i32_18
  let v34 : BitVec 32 := Scalar.extui v33
  let v35 : BitVec 32 := Scalar.subi v32 v34
  let c4_i32 : BitVec 32 := 4#32
  let c0_i32_19 : BitVec 32 := 0#32
  let v36 : BitVec 1 := Scalar.cmpi .sgt c4_i32 c0_i32_19
  let v37 : BitVec 32 := Scalar.extui v36
  let c0_i32_20 : BitVec 32 := 0#32
  let v38 : BitVec 1 := Scalar.cmpi .slt c4_i32 c0_i32_20
  let v39 : BitVec 32 := Scalar.extui v38
  let v40 : BitVec 32 := Scalar.subi v37 v39
  let v41 : BitVec 1 := Scalar.cmpi .ne v35 v40
  let v42 : BitVec 32 := Scalar.remsi arg1 c4_i32
  let c0_i32_21 : BitVec 32 := 0#32
  let v43 : BitVec 1 := Scalar.cmpi .ne v42 c0_i32_21
  let v44 : BitVec 1 := Scalar.andi v41 v43
  let v30 : BitVec 32 := Scalar.divsi arg1 c4_i32
  let c1_i32 : BitVec 32 := 1#32
  let v45 : BitVec 32 := Scalar.subi v30 c1_i32
  let v46 : BitVec 32 := Scalar.select v44 v45 v30
  let c4_i32_107 : BitVec 32 := 4#32
  let v203 : BitVec 32 := Scalar.muli v46 c4_i32_107
  let c0_i32_108 : BitVec 32 := 0#32
  let v204 : BitVec 32 := Scalar.addi v203 c0_i32_108
  let c512_i32_109 : BitVec 32 := 512#32
  let v205 : BitVec 32 := Scalar.muli v204 c512_i32_109
  let v206 : BitVec 32 := v205
  let v266 : Index := Scalar.indexCast v206
  ![1, 0, v266.toNat]
def k0_cond2 (i : grid0.Coords) : BitVec 1 :=
  let arg1 : BitVec 32 := BitVec.ofNat 32 (i 1).val
  let c0_i32 : BitVec 32 := 0#32
  let v31 : BitVec 1 := Scalar.cmpi .sgt arg1 c0_i32
  let v32 : BitVec 32 := Scalar.extui v31
  let c0_i32_18 : BitVec 32 := 0#32
  let v33 : BitVec 1 := Scalar.cmpi .slt arg1 c0_i32_18
  let v34 : BitVec 32 := Scalar.extui v33
  let v35 : BitVec 32 := Scalar.subi v32 v34
  let c4_i32 : BitVec 32 := 4#32
  let c0_i32_19 : BitVec 32 := 0#32
  let v36 : BitVec 1 := Scalar.cmpi .sgt c4_i32 c0_i32_19
  let v37 : BitVec 32 := Scalar.extui v36
  let c0_i32_20 : BitVec 32 := 0#32
  let v38 : BitVec 1 := Scalar.cmpi .slt c4_i32 c0_i32_20
  let v39 : BitVec 32 := Scalar.extui v38
  let v40 : BitVec 32 := Scalar.subi v37 v39
  let v41 : BitVec 1 := Scalar.cmpi .ne v35 v40
  let v42 : BitVec 32 := Scalar.remsi arg1 c4_i32
  let c0_i32_21 : BitVec 32 := 0#32
  let v43 : BitVec 1 := Scalar.cmpi .ne v42 c0_i32_21
  let v44 : BitVec 1 := Scalar.andi v41 v43
  let v30 : BitVec 32 := Scalar.divsi arg1 c4_i32
  let c1_i32 : BitVec 32 := 1#32
  let v45 : BitVec 32 := Scalar.subi v30 c1_i32
  let v46 : BitVec 32 := Scalar.select v44 v45 v30
  let c4_i32_30 : BitVec 32 := 4#32
  let v57 : BitVec 32 := Scalar.muli v46 c4_i32_30
  let v58 : BitVec 32 := Scalar.subi arg1 v57
  let c1_i32_31 : BitVec 32 := 1#32
  let v59 : BitVec 1 := Scalar.cmpi .sgt v58 c1_i32_31
  let v60 : BitVec 32 := Scalar.extui v59
  let c0_i32_32 : BitVec 32 := 0#32
  let v61 : BitVec 1 := Scalar.cmpi .ne v60 c0_i32_32
  v61

def k0_mult5 (i : grid0.Coords) : BitVec 32 :=
  let arg1 : BitVec 32 := BitVec.ofNat 32 (i 1).val
  let c0_i32 : BitVec 32 := 0#32
  let v31 : BitVec 1 := Scalar.cmpi .sgt arg1 c0_i32
  let v32 : BitVec 32 := Scalar.extui v31
  let c0_i32_18 : BitVec 32 := 0#32
  let v33 : BitVec 1 := Scalar.cmpi .slt arg1 c0_i32_18
  let v34 : BitVec 32 := Scalar.extui v33
  let v35 : BitVec 32 := Scalar.subi v32 v34
  let c4_i32 : BitVec 32 := 4#32
  let c0_i32_19 : BitVec 32 := 0#32
  let v36 : BitVec 1 := Scalar.cmpi .sgt c4_i32 c0_i32_19
  let v37 : BitVec 32 := Scalar.extui v36
  let c0_i32_20 : BitVec 32 := 0#32
  let v38 : BitVec 1 := Scalar.cmpi .slt c4_i32 c0_i32_20
  let v39 : BitVec 32 := Scalar.extui v38
  let v40 : BitVec 32 := Scalar.subi v37 v39
  let v41 : BitVec 1 := Scalar.cmpi .ne v35 v40
  let v42 : BitVec 32 := Scalar.remsi arg1 c4_i32
  let c0_i32_21 : BitVec 32 := 0#32
  let v43 : BitVec 1 := Scalar.cmpi .ne v42 c0_i32_21
  let v44 : BitVec 1 := Scalar.andi v41 v43
  let v30 : BitVec 32 := Scalar.divsi arg1 c4_i32
  let c1_i32 : BitVec 32 := 1#32
  let v45 : BitVec 32 := Scalar.subi v30 c1_i32
  let v46 : BitVec 32 := Scalar.select v44 v45 v30
  let c4_i32_107 : BitVec 32 := 4#32
  let v203 : BitVec 32 := Scalar.muli v46 c4_i32_107
  let c1_i32_108 : BitVec 32 := 1#32
  let v204 : BitVec 32 := Scalar.addi v203 c1_i32_108
  let c512_i32_109 : BitVec 32 := 512#32
  let v205 : BitVec 32 := Scalar.muli v204 c512_i32_109
  v205
def k0_off15 (i : grid0.Coords) : Fin 2 → Nat :=
  let arg1 : BitVec 32 := BitVec.ofNat 32 (i 1).val
  let c0_i32 : BitVec 32 := 0#32
  let v31 : BitVec 1 := Scalar.cmpi .sgt arg1 c0_i32
  let v32 : BitVec 32 := Scalar.extui v31
  let c0_i32_18 : BitVec 32 := 0#32
  let v33 : BitVec 1 := Scalar.cmpi .slt arg1 c0_i32_18
  let v34 : BitVec 32 := Scalar.extui v33
  let v35 : BitVec 32 := Scalar.subi v32 v34
  let c4_i32 : BitVec 32 := 4#32
  let c0_i32_19 : BitVec 32 := 0#32
  let v36 : BitVec 1 := Scalar.cmpi .sgt c4_i32 c0_i32_19
  let v37 : BitVec 32 := Scalar.extui v36
  let c0_i32_20 : BitVec 32 := 0#32
  let v38 : BitVec 1 := Scalar.cmpi .slt c4_i32 c0_i32_20
  let v39 : BitVec 32 := Scalar.extui v38
  let v40 : BitVec 32 := Scalar.subi v37 v39
  let v41 : BitVec 1 := Scalar.cmpi .ne v35 v40
  let v42 : BitVec 32 := Scalar.remsi arg1 c4_i32
  let c0_i32_21 : BitVec 32 := 0#32
  let v43 : BitVec 1 := Scalar.cmpi .ne v42 c0_i32_21
  let v44 : BitVec 1 := Scalar.andi v41 v43
  let v30 : BitVec 32 := Scalar.divsi arg1 c4_i32
  let c1_i32 : BitVec 32 := 1#32
  let v45 : BitVec 32 := Scalar.subi v30 c1_i32
  let v46 : BitVec 32 := Scalar.select v44 v45 v30
  let c4_i32_107 : BitVec 32 := 4#32
  let v203 : BitVec 32 := Scalar.muli v46 c4_i32_107
  let c1_i32_108 : BitVec 32 := 1#32
  let v204 : BitVec 32 := Scalar.addi v203 c1_i32_108
  let c512_i32_109 : BitVec 32 := 512#32
  let v205 : BitVec 32 := Scalar.muli v204 c512_i32_109
  let v206 : BitVec 32 := v205
  let v207 : Index := Scalar.indexCast v206
  let c0_110 : Index := 0#32
  ![v207.toNat, 0]
def k0_off16 (i : grid0.Coords) : Fin 3 → Nat :=
  let c0_112 : Index := 0#32
  let c0_113 : Index := 0#32
  let arg1 : BitVec 32 := BitVec.ofNat 32 (i 1).val
  let c0_i32 : BitVec 32 := 0#32
  let v31 : BitVec 1 := Scalar.cmpi .sgt arg1 c0_i32
  let v32 : BitVec 32 := Scalar.extui v31
  let c0_i32_18 : BitVec 32 := 0#32
  let v33 : BitVec 1 := Scalar.cmpi .slt arg1 c0_i32_18
  let v34 : BitVec 32 := Scalar.extui v33
  let v35 : BitVec 32 := Scalar.subi v32 v34
  let c4_i32 : BitVec 32 := 4#32
  let c0_i32_19 : BitVec 32 := 0#32
  let v36 : BitVec 1 := Scalar.cmpi .sgt c4_i32 c0_i32_19
  let v37 : BitVec 32 := Scalar.extui v36
  let c0_i32_20 : BitVec 32 := 0#32
  let v38 : BitVec 1 := Scalar.cmpi .slt c4_i32 c0_i32_20
  let v39 : BitVec 32 := Scalar.extui v38
  let v40 : BitVec 32 := Scalar.subi v37 v39
  let v41 : BitVec 1 := Scalar.cmpi .ne v35 v40
  let v42 : BitVec 32 := Scalar.remsi arg1 c4_i32
  let c0_i32_21 : BitVec 32 := 0#32
  let v43 : BitVec 1 := Scalar.cmpi .ne v42 c0_i32_21
  let v44 : BitVec 1 := Scalar.andi v41 v43
  let v30 : BitVec 32 := Scalar.divsi arg1 c4_i32
  let c1_i32 : BitVec 32 := 1#32
  let v45 : BitVec 32 := Scalar.subi v30 c1_i32
  let v46 : BitVec 32 := Scalar.select v44 v45 v30
  let c4_i32_107 : BitVec 32 := 4#32
  let v203 : BitVec 32 := Scalar.muli v46 c4_i32_107
  let c1_i32_108 : BitVec 32 := 1#32
  let v204 : BitVec 32 := Scalar.addi v203 c1_i32_108
  let c512_i32_109 : BitVec 32 := 512#32
  let v205 : BitVec 32 := Scalar.muli v204 c512_i32_109
  let v206 : BitVec 32 := v205
  let v213 : Index := Scalar.indexCast v206
  ![0, 0, v213.toNat]
def k0_off17 (i : grid0.Coords) : Fin 2 → Nat :=
  let arg1 : BitVec 32 := BitVec.ofNat 32 (i 1).val
  let c0_i32 : BitVec 32 := 0#32
  let v31 : BitVec 1 := Scalar.cmpi .sgt arg1 c0_i32
  let v32 : BitVec 32 := Scalar.extui v31
  let c0_i32_18 : BitVec 32 := 0#32
  let v33 : BitVec 1 := Scalar.cmpi .slt arg1 c0_i32_18
  let v34 : BitVec 32 := Scalar.extui v33
  let v35 : BitVec 32 := Scalar.subi v32 v34
  let c4_i32 : BitVec 32 := 4#32
  let c0_i32_19 : BitVec 32 := 0#32
  let v36 : BitVec 1 := Scalar.cmpi .sgt c4_i32 c0_i32_19
  let v37 : BitVec 32 := Scalar.extui v36
  let c0_i32_20 : BitVec 32 := 0#32
  let v38 : BitVec 1 := Scalar.cmpi .slt c4_i32 c0_i32_20
  let v39 : BitVec 32 := Scalar.extui v38
  let v40 : BitVec 32 := Scalar.subi v37 v39
  let v41 : BitVec 1 := Scalar.cmpi .ne v35 v40
  let v42 : BitVec 32 := Scalar.remsi arg1 c4_i32
  let c0_i32_21 : BitVec 32 := 0#32
  let v43 : BitVec 1 := Scalar.cmpi .ne v42 c0_i32_21
  let v44 : BitVec 1 := Scalar.andi v41 v43
  let v30 : BitVec 32 := Scalar.divsi arg1 c4_i32
  let c1_i32 : BitVec 32 := 1#32
  let v45 : BitVec 32 := Scalar.subi v30 c1_i32
  let v46 : BitVec 32 := Scalar.select v44 v45 v30
  let c4_i32_107 : BitVec 32 := 4#32
  let v203 : BitVec 32 := Scalar.muli v46 c4_i32_107
  let c1_i32_108 : BitVec 32 := 1#32
  let v204 : BitVec 32 := Scalar.addi v203 c1_i32_108
  let c512_i32_109 : BitVec 32 := 512#32
  let v205 : BitVec 32 := Scalar.muli v204 c512_i32_109
  let v206 : BitVec 32 := v205
  let v260 : Index := Scalar.indexCast v206
  let c128_136 : Index := 128#32
  ![v260.toNat, 128]
def k0_off18 (i : grid0.Coords) : Fin 3 → Nat :=
  let c1_138 : Index := 1#32
  let c0_139 : Index := 0#32
  let arg1 : BitVec 32 := BitVec.ofNat 32 (i 1).val
  let c0_i32 : BitVec 32 := 0#32
  let v31 : BitVec 1 := Scalar.cmpi .sgt arg1 c0_i32
  let v32 : BitVec 32 := Scalar.extui v31
  let c0_i32_18 : BitVec 32 := 0#32
  let v33 : BitVec 1 := Scalar.cmpi .slt arg1 c0_i32_18
  let v34 : BitVec 32 := Scalar.extui v33
  let v35 : BitVec 32 := Scalar.subi v32 v34
  let c4_i32 : BitVec 32 := 4#32
  let c0_i32_19 : BitVec 32 := 0#32
  let v36 : BitVec 1 := Scalar.cmpi .sgt c4_i32 c0_i32_19
  let v37 : BitVec 32 := Scalar.extui v36
  let c0_i32_20 : BitVec 32 := 0#32
  let v38 : BitVec 1 := Scalar.cmpi .slt c4_i32 c0_i32_20
  let v39 : BitVec 32 := Scalar.extui v38
  let v40 : BitVec 32 := Scalar.subi v37 v39
  let v41 : BitVec 1 := Scalar.cmpi .ne v35 v40
  let v42 : BitVec 32 := Scalar.remsi arg1 c4_i32
  let c0_i32_21 : BitVec 32 := 0#32
  let v43 : BitVec 1 := Scalar.cmpi .ne v42 c0_i32_21
  let v44 : BitVec 1 := Scalar.andi v41 v43
  let v30 : BitVec 32 := Scalar.divsi arg1 c4_i32
  let c1_i32 : BitVec 32 := 1#32
  let v45 : BitVec 32 := Scalar.subi v30 c1_i32
  let v46 : BitVec 32 := Scalar.select v44 v45 v30
  let c4_i32_107 : BitVec 32 := 4#32
  let v203 : BitVec 32 := Scalar.muli v46 c4_i32_107
  let c1_i32_108 : BitVec 32 := 1#32
  let v204 : BitVec 32 := Scalar.addi v203 c1_i32_108
  let c512_i32_109 : BitVec 32 := 512#32
  let v205 : BitVec 32 := Scalar.muli v204 c512_i32_109
  let v206 : BitVec 32 := v205
  let v266 : Index := Scalar.indexCast v206
  ![1, 0, v266.toNat]
def k0_cond3 (i : grid0.Coords) : BitVec 1 :=
  let arg1 : BitVec 32 := BitVec.ofNat 32 (i 1).val
  let c0_i32 : BitVec 32 := 0#32
  let v31 : BitVec 1 := Scalar.cmpi .sgt arg1 c0_i32
  let v32 : BitVec 32 := Scalar.extui v31
  let c0_i32_18 : BitVec 32 := 0#32
  let v33 : BitVec 1 := Scalar.cmpi .slt arg1 c0_i32_18
  let v34 : BitVec 32 := Scalar.extui v33
  let v35 : BitVec 32 := Scalar.subi v32 v34
  let c4_i32 : BitVec 32 := 4#32
  let c0_i32_19 : BitVec 32 := 0#32
  let v36 : BitVec 1 := Scalar.cmpi .sgt c4_i32 c0_i32_19
  let v37 : BitVec 32 := Scalar.extui v36
  let c0_i32_20 : BitVec 32 := 0#32
  let v38 : BitVec 1 := Scalar.cmpi .slt c4_i32 c0_i32_20
  let v39 : BitVec 32 := Scalar.extui v38
  let v40 : BitVec 32 := Scalar.subi v37 v39
  let v41 : BitVec 1 := Scalar.cmpi .ne v35 v40
  let v42 : BitVec 32 := Scalar.remsi arg1 c4_i32
  let c0_i32_21 : BitVec 32 := 0#32
  let v43 : BitVec 1 := Scalar.cmpi .ne v42 c0_i32_21
  let v44 : BitVec 1 := Scalar.andi v41 v43
  let v30 : BitVec 32 := Scalar.divsi arg1 c4_i32
  let c1_i32 : BitVec 32 := 1#32
  let v45 : BitVec 32 := Scalar.subi v30 c1_i32
  let v46 : BitVec 32 := Scalar.select v44 v45 v30
  let c4_i32_33 : BitVec 32 := 4#32
  let v62 : BitVec 32 := Scalar.muli v46 c4_i32_33
  let v63 : BitVec 32 := Scalar.subi arg1 v62
  let c2_i32 : BitVec 32 := 2#32
  let v64 : BitVec 1 := Scalar.cmpi .sgt v63 c2_i32
  let v65 : BitVec 32 := Scalar.extui v64
  let c0_i32_34 : BitVec 32 := 0#32
  let v66 : BitVec 1 := Scalar.cmpi .ne v65 c0_i32_34
  v66

def k0_mult6 (i : grid0.Coords) : BitVec 32 :=
  let arg1 : BitVec 32 := BitVec.ofNat 32 (i 1).val
  let c0_i32 : BitVec 32 := 0#32
  let v31 : BitVec 1 := Scalar.cmpi .sgt arg1 c0_i32
  let v32 : BitVec 32 := Scalar.extui v31
  let c0_i32_18 : BitVec 32 := 0#32
  let v33 : BitVec 1 := Scalar.cmpi .slt arg1 c0_i32_18
  let v34 : BitVec 32 := Scalar.extui v33
  let v35 : BitVec 32 := Scalar.subi v32 v34
  let c4_i32 : BitVec 32 := 4#32
  let c0_i32_19 : BitVec 32 := 0#32
  let v36 : BitVec 1 := Scalar.cmpi .sgt c4_i32 c0_i32_19
  let v37 : BitVec 32 := Scalar.extui v36
  let c0_i32_20 : BitVec 32 := 0#32
  let v38 : BitVec 1 := Scalar.cmpi .slt c4_i32 c0_i32_20
  let v39 : BitVec 32 := Scalar.extui v38
  let v40 : BitVec 32 := Scalar.subi v37 v39
  let v41 : BitVec 1 := Scalar.cmpi .ne v35 v40
  let v42 : BitVec 32 := Scalar.remsi arg1 c4_i32
  let c0_i32_21 : BitVec 32 := 0#32
  let v43 : BitVec 1 := Scalar.cmpi .ne v42 c0_i32_21
  let v44 : BitVec 1 := Scalar.andi v41 v43
  let v30 : BitVec 32 := Scalar.divsi arg1 c4_i32
  let c1_i32 : BitVec 32 := 1#32
  let v45 : BitVec 32 := Scalar.subi v30 c1_i32
  let v46 : BitVec 32 := Scalar.select v44 v45 v30
  let c4_i32_107 : BitVec 32 := 4#32
  let v203 : BitVec 32 := Scalar.muli v46 c4_i32_107
  let c2_i32_108 : BitVec 32 := 2#32
  let v204 : BitVec 32 := Scalar.addi v203 c2_i32_108
  let c512_i32_109 : BitVec 32 := 512#32
  let v205 : BitVec 32 := Scalar.muli v204 c512_i32_109
  v205
def k0_off19 (i : grid0.Coords) : Fin 2 → Nat :=
  let arg1 : BitVec 32 := BitVec.ofNat 32 (i 1).val
  let c0_i32 : BitVec 32 := 0#32
  let v31 : BitVec 1 := Scalar.cmpi .sgt arg1 c0_i32
  let v32 : BitVec 32 := Scalar.extui v31
  let c0_i32_18 : BitVec 32 := 0#32
  let v33 : BitVec 1 := Scalar.cmpi .slt arg1 c0_i32_18
  let v34 : BitVec 32 := Scalar.extui v33
  let v35 : BitVec 32 := Scalar.subi v32 v34
  let c4_i32 : BitVec 32 := 4#32
  let c0_i32_19 : BitVec 32 := 0#32
  let v36 : BitVec 1 := Scalar.cmpi .sgt c4_i32 c0_i32_19
  let v37 : BitVec 32 := Scalar.extui v36
  let c0_i32_20 : BitVec 32 := 0#32
  let v38 : BitVec 1 := Scalar.cmpi .slt c4_i32 c0_i32_20
  let v39 : BitVec 32 := Scalar.extui v38
  let v40 : BitVec 32 := Scalar.subi v37 v39
  let v41 : BitVec 1 := Scalar.cmpi .ne v35 v40
  let v42 : BitVec 32 := Scalar.remsi arg1 c4_i32
  let c0_i32_21 : BitVec 32 := 0#32
  let v43 : BitVec 1 := Scalar.cmpi .ne v42 c0_i32_21
  let v44 : BitVec 1 := Scalar.andi v41 v43
  let v30 : BitVec 32 := Scalar.divsi arg1 c4_i32
  let c1_i32 : BitVec 32 := 1#32
  let v45 : BitVec 32 := Scalar.subi v30 c1_i32
  let v46 : BitVec 32 := Scalar.select v44 v45 v30
  let c4_i32_107 : BitVec 32 := 4#32
  let v203 : BitVec 32 := Scalar.muli v46 c4_i32_107
  let c2_i32_108 : BitVec 32 := 2#32
  let v204 : BitVec 32 := Scalar.addi v203 c2_i32_108
  let c512_i32_109 : BitVec 32 := 512#32
  let v205 : BitVec 32 := Scalar.muli v204 c512_i32_109
  let v206 : BitVec 32 := v205
  let v207 : Index := Scalar.indexCast v206
  let c0_110 : Index := 0#32
  ![v207.toNat, 0]
def k0_off20 (i : grid0.Coords) : Fin 3 → Nat :=
  let c0_112 : Index := 0#32
  let c0_113 : Index := 0#32
  let arg1 : BitVec 32 := BitVec.ofNat 32 (i 1).val
  let c0_i32 : BitVec 32 := 0#32
  let v31 : BitVec 1 := Scalar.cmpi .sgt arg1 c0_i32
  let v32 : BitVec 32 := Scalar.extui v31
  let c0_i32_18 : BitVec 32 := 0#32
  let v33 : BitVec 1 := Scalar.cmpi .slt arg1 c0_i32_18
  let v34 : BitVec 32 := Scalar.extui v33
  let v35 : BitVec 32 := Scalar.subi v32 v34
  let c4_i32 : BitVec 32 := 4#32
  let c0_i32_19 : BitVec 32 := 0#32
  let v36 : BitVec 1 := Scalar.cmpi .sgt c4_i32 c0_i32_19
  let v37 : BitVec 32 := Scalar.extui v36
  let c0_i32_20 : BitVec 32 := 0#32
  let v38 : BitVec 1 := Scalar.cmpi .slt c4_i32 c0_i32_20
  let v39 : BitVec 32 := Scalar.extui v38
  let v40 : BitVec 32 := Scalar.subi v37 v39
  let v41 : BitVec 1 := Scalar.cmpi .ne v35 v40
  let v42 : BitVec 32 := Scalar.remsi arg1 c4_i32
  let c0_i32_21 : BitVec 32 := 0#32
  let v43 : BitVec 1 := Scalar.cmpi .ne v42 c0_i32_21
  let v44 : BitVec 1 := Scalar.andi v41 v43
  let v30 : BitVec 32 := Scalar.divsi arg1 c4_i32
  let c1_i32 : BitVec 32 := 1#32
  let v45 : BitVec 32 := Scalar.subi v30 c1_i32
  let v46 : BitVec 32 := Scalar.select v44 v45 v30
  let c4_i32_107 : BitVec 32 := 4#32
  let v203 : BitVec 32 := Scalar.muli v46 c4_i32_107
  let c2_i32_108 : BitVec 32 := 2#32
  let v204 : BitVec 32 := Scalar.addi v203 c2_i32_108
  let c512_i32_109 : BitVec 32 := 512#32
  let v205 : BitVec 32 := Scalar.muli v204 c512_i32_109
  let v206 : BitVec 32 := v205
  let v213 : Index := Scalar.indexCast v206
  ![0, 0, v213.toNat]
def k0_off21 (i : grid0.Coords) : Fin 2 → Nat :=
  let arg1 : BitVec 32 := BitVec.ofNat 32 (i 1).val
  let c0_i32 : BitVec 32 := 0#32
  let v31 : BitVec 1 := Scalar.cmpi .sgt arg1 c0_i32
  let v32 : BitVec 32 := Scalar.extui v31
  let c0_i32_18 : BitVec 32 := 0#32
  let v33 : BitVec 1 := Scalar.cmpi .slt arg1 c0_i32_18
  let v34 : BitVec 32 := Scalar.extui v33
  let v35 : BitVec 32 := Scalar.subi v32 v34
  let c4_i32 : BitVec 32 := 4#32
  let c0_i32_19 : BitVec 32 := 0#32
  let v36 : BitVec 1 := Scalar.cmpi .sgt c4_i32 c0_i32_19
  let v37 : BitVec 32 := Scalar.extui v36
  let c0_i32_20 : BitVec 32 := 0#32
  let v38 : BitVec 1 := Scalar.cmpi .slt c4_i32 c0_i32_20
  let v39 : BitVec 32 := Scalar.extui v38
  let v40 : BitVec 32 := Scalar.subi v37 v39
  let v41 : BitVec 1 := Scalar.cmpi .ne v35 v40
  let v42 : BitVec 32 := Scalar.remsi arg1 c4_i32
  let c0_i32_21 : BitVec 32 := 0#32
  let v43 : BitVec 1 := Scalar.cmpi .ne v42 c0_i32_21
  let v44 : BitVec 1 := Scalar.andi v41 v43
  let v30 : BitVec 32 := Scalar.divsi arg1 c4_i32
  let c1_i32 : BitVec 32 := 1#32
  let v45 : BitVec 32 := Scalar.subi v30 c1_i32
  let v46 : BitVec 32 := Scalar.select v44 v45 v30
  let c4_i32_107 : BitVec 32 := 4#32
  let v203 : BitVec 32 := Scalar.muli v46 c4_i32_107
  let c2_i32_108 : BitVec 32 := 2#32
  let v204 : BitVec 32 := Scalar.addi v203 c2_i32_108
  let c512_i32_109 : BitVec 32 := 512#32
  let v205 : BitVec 32 := Scalar.muli v204 c512_i32_109
  let v206 : BitVec 32 := v205
  let v260 : Index := Scalar.indexCast v206
  let c128_136 : Index := 128#32
  ![v260.toNat, 128]
def k0_off22 (i : grid0.Coords) : Fin 3 → Nat :=
  let c1_138 : Index := 1#32
  let c0_139 : Index := 0#32
  let arg1 : BitVec 32 := BitVec.ofNat 32 (i 1).val
  let c0_i32 : BitVec 32 := 0#32
  let v31 : BitVec 1 := Scalar.cmpi .sgt arg1 c0_i32
  let v32 : BitVec 32 := Scalar.extui v31
  let c0_i32_18 : BitVec 32 := 0#32
  let v33 : BitVec 1 := Scalar.cmpi .slt arg1 c0_i32_18
  let v34 : BitVec 32 := Scalar.extui v33
  let v35 : BitVec 32 := Scalar.subi v32 v34
  let c4_i32 : BitVec 32 := 4#32
  let c0_i32_19 : BitVec 32 := 0#32
  let v36 : BitVec 1 := Scalar.cmpi .sgt c4_i32 c0_i32_19
  let v37 : BitVec 32 := Scalar.extui v36
  let c0_i32_20 : BitVec 32 := 0#32
  let v38 : BitVec 1 := Scalar.cmpi .slt c4_i32 c0_i32_20
  let v39 : BitVec 32 := Scalar.extui v38
  let v40 : BitVec 32 := Scalar.subi v37 v39
  let v41 : BitVec 1 := Scalar.cmpi .ne v35 v40
  let v42 : BitVec 32 := Scalar.remsi arg1 c4_i32
  let c0_i32_21 : BitVec 32 := 0#32
  let v43 : BitVec 1 := Scalar.cmpi .ne v42 c0_i32_21
  let v44 : BitVec 1 := Scalar.andi v41 v43
  let v30 : BitVec 32 := Scalar.divsi arg1 c4_i32
  let c1_i32 : BitVec 32 := 1#32
  let v45 : BitVec 32 := Scalar.subi v30 c1_i32
  let v46 : BitVec 32 := Scalar.select v44 v45 v30
  let c4_i32_107 : BitVec 32 := 4#32
  let v203 : BitVec 32 := Scalar.muli v46 c4_i32_107
  let c2_i32_108 : BitVec 32 := 2#32
  let v204 : BitVec 32 := Scalar.addi v203 c2_i32_108
  let c512_i32_109 : BitVec 32 := 512#32
  let v205 : BitVec 32 := Scalar.muli v204 c512_i32_109
  let v206 : BitVec 32 := v205
  let v266 : Index := Scalar.indexCast v206
  ![1, 0, v266.toNat]
def k0_off23 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v67 : Index := Scalar.indexCast v1
  let c0_35 : Index := 0#32
  ![v67.toNat, 0]
def k0_off24 (i : grid0.Coords) : Fin 3 → Nat :=
  let c0_37 : Index := 0#32
  let c0_38 : Index := 0#32
  let arg1 : BitVec 32 := BitVec.ofNat 32 (i 1).val
  let c512_i32 : BitVec 32 := 512#32
  let v0 : BitVec 32 := Scalar.muli arg1 c512_i32
  let v1 : BitVec 32 := v0
  let v73 : Index := Scalar.indexCast v1
  ![0, 0, v73.toNat]
def k0_off25 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v125 : Index := Scalar.indexCast v1
  let c128_62 : Index := 128#32
  ![v125.toNat, 128]
def k0_off26 (i : grid0.Coords) : Fin 3 → Nat :=
  let c1_64 : Index := 1#32
  let c0_65 : Index := 0#32
  let arg1 : BitVec 32 := BitVec.ofNat 32 (i 1).val
  let c512_i32 : BitVec 32 := 512#32
  let v0 : BitVec 32 := Scalar.muli arg1 c512_i32
  let v1 : BitVec 32 := v0
  let v131 : Index := Scalar.indexCast v1
  ![1, 0, v131.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "log2e" => some (((Real.log 2)⁻¹ : ℝ) : EReal)
  | "q_scale" => some (((Real.log 2)⁻¹ * (Real.sqrt 128)⁻¹ : ℝ) : EReal)
  | _ => none
-- ==== ReferenceIdeal.lean ====
abbrev S8192x2048 : Shape := ⟨2, ![8192, 2048]⟩
abbrev S8192x16 : Shape := ⟨2, ![8192, 16]⟩
abbrev S8192x16x128 : Shape := ⟨3, ![8192, 16, 128]⟩
abbrev S_ : Shape := ⟨0, ![]⟩
abbrev S16x8192 : Shape := ⟨2, ![16, 8192]⟩
abbrev S16x8192x8192 : Shape := ⟨3, ![16, 8192, 8192]⟩
abbrev S16x8192x1 : Shape := ⟨3, ![16, 8192, 1]⟩
abbrev S16x1x8192 : Shape := ⟨3, ![16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x128x8192 : Shape := ⟨3, ![16, 128, 8192]⟩

abbrev nBuf : Space → Nat
  | .hbm => 48
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x16, .f32⟩
  | .hbm, ⟨4, _⟩ => ⟨S8192x16x128, .f32⟩
  | .hbm, ⟨5, _⟩ => ⟨S_, .f32⟩
  | .hbm, ⟨6, _⟩ => ⟨S_, .f32⟩
  | .hbm, ⟨7, _⟩ => ⟨S8192x16x128, .f32⟩
  | .hbm, ⟨8, _⟩ => ⟨S8192x16x128, .f32⟩
  | .hbm, ⟨9, _⟩ => ⟨S8192x16x128, .f32⟩
  | .hbm, ⟨10, _⟩ => ⟨S8192x16x128, .f32⟩
  | .hbm, ⟨11, _⟩ => ⟨S16x8192, .f32⟩
  | .hbm, ⟨12, _⟩ => ⟨S16x8192x8192, .f32⟩
  | .hbm, ⟨13, _⟩ => ⟨S16x8192x1, .f32⟩
  | .hbm, ⟨14, _⟩ => ⟨S16x1x8192, .f32⟩
  | .hbm, ⟨15, _⟩ => ⟨S16x8192x8192, .f32⟩
  | .hbm, ⟨16, _⟩ => ⟨S16x8192x8192, .f32⟩
  | .hbm, ⟨17, _⟩ => ⟨S16x8192x8192, .f32⟩
  | .hbm, ⟨18, _⟩ => ⟨S16x8192x8192, .f32⟩
  | .hbm, ⟨19, _⟩ => ⟨S8192, .i32⟩
  | .hbm, ⟨20, _⟩ => ⟨S1x8192, .i32⟩
  | .hbm, ⟨21, _⟩ => ⟨S8192x1, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S_, .f32⟩
  | .hbm, ⟨26, _⟩ => ⟨S_, .f32⟩
  | .hbm, ⟨27, _⟩ => ⟨S16x8192x8192, .i1⟩
  | .hbm, ⟨28, _⟩ => ⟨S16x8192x8192, .f32⟩
  | .hbm, ⟨29, _⟩ => ⟨S16x8192x8192, .f32⟩
  | .hbm, ⟨30, _⟩ => ⟨S_, .f32⟩
  | .hbm, ⟨31, _⟩ => ⟨S16x8192, .f32⟩
  | .hbm, ⟨32, _⟩ => ⟨S_, .f32⟩
  | .hbm, ⟨33, _⟩ => ⟨S16x8192, .f32⟩
  | .hbm, ⟨34, _⟩ => ⟨S16x8192, .f32⟩
  | .hbm, ⟨35, _⟩ => ⟨S16x8192x1, .f32⟩
  | .hbm, ⟨36, _⟩ => ⟨S16x8192x8192, .f32⟩
  | .hbm, ⟨37, _⟩ => ⟨S16x8192x8192, .f32⟩
  | .hbm, ⟨38, _⟩ => ⟨S16x8192x8192, .f32⟩
  | .hbm, ⟨39, _⟩ => ⟨S_, .f32⟩
  | .hbm, ⟨40, _⟩ => ⟨S16x8192, .f32⟩
  | .hbm, ⟨41, _⟩ => ⟨S16x8192x1, .f32⟩
  | .hbm, ⟨42, _⟩ => ⟨S16x8192x8192, .f32⟩
  | .hbm, ⟨43, _⟩ => ⟨S16x8192x8192, .f32⟩
  | .hbm, ⟨44, _⟩ => ⟨S16x128x8192, .f32⟩
  | .hbm, ⟨45, _⟩ => ⟨S8192x16x128, .f32⟩
  | .hbm, ⟨46, _⟩ => ⟨S8192x2048, .f32⟩
  | .hbm, ⟨47, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel2.lean ====
abbrev S8192x4096 : Shape := ⟨2, ![8192, 4096]⟩
abbrev S2x4x4096 : Shape := ⟨3, ![2, 4, 4096]⟩
abbrev S1x4096x4096 : Shape := ⟨3, ![1, 4096, 4096]⟩
abbrev S2x4096x11008 : Shape := ⟨3, ![2, 4096, 11008]⟩
abbrev S2x11008x4096 : Shape := ⟨3, ![2, 11008, 4096]⟩
abbrev S2048x4096 : Shape := ⟨2, ![2048, 4096]⟩
abbrev S1x4096x256 : Shape := ⟨3, ![1, 4096, 256]⟩
abbrev S2048x256 : Shape := ⟨2, ![2048, 256]⟩
abbrev S4096x256 : Shape := ⟨2, ![4096, 256]⟩
abbrev S1x1x4096 : Shape := ⟨3, ![1, 1, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S8192x11008 : Shape := ⟨2, ![8192, 11008]⟩
abbrev S11008x4096 : Shape := ⟨2, ![11008, 4096]⟩
abbrev S1x64x4096 : Shape := ⟨3, ![1, 64, 4096]⟩
abbrev S64x4096 : Shape := ⟨2, ![64, 4096]⟩
abbrev S512x11008 : Shape := ⟨2, ![512, 11008]⟩
abbrev S11008x512 : Shape := ⟨2, ![11008, 512]⟩
abbrev S512x512 : Shape := ⟨2, ![512, 512]⟩

abbrev nBuf : Space → Nat
  | .hbm => 25
  | .vmem => 41
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S2x4x4096, .f32⟩
  | .hbm, ⟨3, _⟩ => ⟨S1x4096x4096, .f32⟩
  | .hbm, ⟨4, _⟩ => ⟨S1x4096x4096, .f32⟩
  | .hbm, ⟨5, _⟩ => ⟨S2x4096x11008, .f32⟩
  | .hbm, ⟨6, _⟩ => ⟨S2x4096x11008, .f32⟩
  | .hbm, ⟨7, _⟩ => ⟨S2x11008x4096, .f32⟩
  | .hbm, ⟨8, _⟩ => ⟨S8192x4096, .bf16⟩
  | .hbm, ⟨9, _⟩ => ⟨S8192x4096, .bf16⟩
  | .hbm, ⟨10, _⟩ => ⟨S1x1x4096, .f32⟩
  | .hbm, ⟨11, _⟩ => ⟨S4096, .f32⟩
  | .hbm, ⟨12, _⟩ => ⟨S1x1x4096, .f32⟩
  | .hbm, ⟨13, _⟩ => ⟨S4096, .f32⟩
  | .hbm, ⟨14, _⟩ => ⟨S1x4096, .f32⟩
  | .hbm, ⟨15, _⟩ => ⟨S1x4096, .f32⟩
  | .hbm, ⟨16, _⟩ => ⟨S8192x4096, .f32⟩
  | .hbm, ⟨17, _⟩ => ⟨S8192x4096, .bf16⟩
  | .hbm, ⟨18, _⟩ => ⟨S8192x11008, .bf16⟩
  | .hbm, ⟨19, _⟩ => ⟨S11008x4096, .bf16⟩
  | .hbm, ⟨20, _⟩ => ⟨S8192x4096, .bf16⟩
  | .hbm, ⟨21, _⟩ => ⟨S1x1x4096, .f32⟩
  | .hbm, ⟨22, _⟩ => ⟨S4096, .f32⟩
  | .hbm, ⟨23, _⟩ => ⟨S1x4096, .f32⟩
  | .hbm, ⟨24, _⟩ => ⟨S8192x4096, .f32⟩
  | .local _ .vmem, ⟨0, _⟩ => ⟨S2048x4096, .bf16⟩
  | .local _ .vmem, ⟨1, _⟩ => ⟨S1x4096x256, .f32⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S2048x256, .bf16⟩
  | .local _ .vmem, ⟨6, _⟩ => ⟨S2048x256, .bf16⟩
  | .local _ .vmem, ⟨7, _⟩ => ⟨S256x4096, .f32⟩
  | .local _ .vmem, ⟨8, _⟩ => ⟨S256x4096, .f32⟩
  | .local _ .vmem, ⟨9, _⟩ => ⟨S256x4096, .bf16⟩
  | .local _ .vmem, ⟨10, _⟩ => ⟨S256x4096, .bf16⟩
  | .local _ .vmem, ⟨11, _⟩ => ⟨S1x4096, .f32⟩
  | .local _ .vmem, ⟨12, _⟩ => ⟨S1x4096, .f32⟩
  | .local _ .vmem, ⟨13, _⟩ => ⟨S256x4096, .f32⟩
  | .local _ .vmem, ⟨14, _⟩ => ⟨S256x4096, .f32⟩
  | .local _ .vmem, ⟨15, _⟩ => ⟨S256x4096, .bf16⟩
  | .local _ .vmem, ⟨16, _⟩ => ⟨S256x4096, .bf16⟩
  | .local _ .vmem, ⟨17, _⟩ => ⟨S2048x4096, .bf16⟩
  | .local _ .vmem, ⟨18, _⟩ => ⟨S1x4096x256, .f32⟩
  | .local _ .vmem, ⟨19, _⟩ => ⟨S1x4096x256, .f32⟩
  | .local _ .vmem, ⟨20, _⟩ => ⟨S1x4096x256, .f32⟩
  | .local _ .vmem, ⟨21, _⟩ => ⟨S1x4096x256, .f32⟩
  | .local _ .vmem, ⟨22, _⟩ => ⟨S1x64x4096, .f32⟩
  | .local _ .vmem, ⟨23, _⟩ => ⟨S1x64x4096, .f32⟩
  | .local _ .vmem, ⟨24, _⟩ => ⟨S2048x256, .bf16⟩
  | .local _ .vmem, ⟨25, _⟩ => ⟨S2048x256, .bf16⟩
  | .local _ .vmem, ⟨26, _⟩ => ⟨S64x4096, .bf16⟩
  | .local _ .vmem, ⟨27, _⟩ => ⟨S64x4096, .bf16⟩
  | .local _ .vmem, ⟨28, _⟩ => ⟨S512x11008, .bf16⟩
  | .local _ .vmem, ⟨29, _⟩ => ⟨S512x11008, .bf16⟩
  | .local _ .vmem, ⟨30, _⟩ => ⟨S11008x512, .bf16⟩
  | .local _ .vmem, ⟨31, _⟩ => ⟨S11008x512, .bf16⟩
  | .local _ .vmem, ⟨32, _⟩ => ⟨S512x512, .bf16⟩
  | .local _ .vmem, ⟨33, _⟩ => ⟨S512x512, .bf16⟩
  | .local _ .vmem, ⟨34, _⟩ => ⟨S256x4096, .f32⟩
  | .local _ .vmem, ⟨35, _⟩ => ⟨S256x4096, .f32⟩
  | .local _ .vmem, ⟨36, _⟩ => ⟨S256x4096, .bf16⟩
  | .local _ .vmem, ⟨37, _⟩ => ⟨S256x4096, .bf16⟩
  | .local _ .vmem, ⟨38, _⟩ => ⟨S1x4096, .f32⟩
  | .local _ .vmem, ⟨39, _⟩ => ⟨S256x4096, .f32⟩
  | .local _ .vmem, ⟨40, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v9_0 : Ref sig .tc := ⟨.hbm, 18, rfl⟩
abbrev main_v9_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg3_1 : Ref sig .tc := ⟨.vmem, 40, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc2_sem5_0 : DmaSem sig := 26
abbrev cc2_sem5_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem3_1 : DmaSem sig := 40

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x4096 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![4, 43], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc2_transform_3 (i : grid2.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_5 (i : grid2.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c0_i32 : BitVec 32 := 0#32
  let c0_i32_0 : BitVec 32 := 0#32
  ![v1.toNat, c0_i32.toNat]

abbrev stage2_0 : Fin 1 → Memref sig .tc .vmem S2048x4096 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 2 → Memref sig .tc .vmem S1x4096x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x4096x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1x64x4096 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S2048x256 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S64x4096 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨2, ![16, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x11008 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S11008x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x4096 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S256x4096 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x4096 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S256x4096 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]
-- ==== Reference2Ideal.lean ====
abbrev S8192x4096 : Shape := ⟨2, ![8192, 4096]⟩
abbrev S2x4x4096 : Shape := ⟨3, ![2, 4, 4096]⟩
abbrev S1x4096x4096 : Shape := ⟨3, ![1, 4096, 4096]⟩
abbrev S2x4096x11008 : Shape := ⟨3, ![2, 4096, 11008]⟩
abbrev S2x11008x4096 : Shape := ⟨3, ![2, 11008, 4096]⟩
abbrev S1x4x4096 : Shape := ⟨3, ![1, 4, 4096]⟩
abbrev S4x4096 : Shape := ⟨2, ![4, 4096]⟩
abbrev S4096x4096 : Shape := ⟨2, ![4096, 4096]⟩
abbrev S_ : Shape := ⟨0, ![]⟩
abbrev S1x4096 : Shape := ⟨2, ![1, 4096]⟩
abbrev S4096 : Shape := ⟨1, ![4096]⟩
abbrev S8192 : Shape := ⟨1, ![8192]⟩
abbrev S8192x1 : Shape := ⟨2, ![8192, 1]⟩
abbrev S1x4096x11008 : Shape := ⟨3, ![1, 4096, 11008]⟩
abbrev S4096x11008 : Shape := ⟨2, ![4096, 11008]⟩
abbrev S1x11008x4096 : Shape := ⟨3, ![1, 11008, 4096]⟩
abbrev S11008x4096 : Shape := ⟨2, ![11008, 4096]⟩
abbrev S8192x11008 : Shape := ⟨2, ![8192, 11008]⟩

abbrev nBuf : Space → Nat
  | .hbm => 98
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S2x4x4096, .f32⟩
  | .hbm, ⟨3, _⟩ => ⟨S1x4096x4096, .f32⟩
  | .hbm, ⟨4, _⟩ => ⟨S1x4096x4096, .f32⟩
  | .hbm, ⟨5, _⟩ => ⟨S2x4096x11008, .f32⟩
  | .hbm, ⟨6, _⟩ => ⟨S2x4096x11008, .f32⟩
  | .hbm, ⟨7, _⟩ => ⟨S2x11008x4096, .f32⟩
  | .hbm, ⟨8, _⟩ => ⟨S1x4x4096, .f32⟩
  | .hbm, ⟨9, _⟩ => ⟨S4x4096, .f32⟩
  | .hbm, ⟨10, _⟩ => ⟨S4096x4096, .f32⟩
  | .hbm, ⟨11, _⟩ => ⟨S8192x4096, .f32⟩
  | .hbm, ⟨12, _⟩ => ⟨S4096x4096, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S8192x4096, .f32⟩
  | .hbm, ⟨21, _⟩ => ⟨S8192x4096, .f32⟩
  | .hbm, ⟨22, _⟩ => ⟨S8192x4096, .f32⟩
  | .hbm, ⟨23, _⟩ => ⟨S1x4096, .f32⟩
  | .hbm, ⟨24, _⟩ => ⟨S4096, .f32⟩
  | .hbm, ⟨25, _⟩ => ⟨S8192x4096, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x4096, .f32⟩
  | .hbm, ⟨37, _⟩ => ⟨S8192x4096, .f32⟩
  | .hbm, ⟨38, _⟩ => ⟨S1x4096, .f32⟩
  | .hbm, ⟨39, _⟩ => ⟨S8192x4096, .f32⟩
  | .hbm, ⟨40, _⟩ => ⟨S8192x4096, .f32⟩
  | .hbm, ⟨41, _⟩ => ⟨S8192x4096, .f32⟩
  | .hbm, ⟨42, _⟩ => ⟨S1x4096, .f32⟩
  | .hbm, ⟨43, _⟩ => ⟨S4096, .f32⟩
  | .hbm, ⟨44, _⟩ => ⟨S8192x4096, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S8192x1, .f32⟩
  | .hbm, ⟨55, _⟩ => ⟨S8192x4096, .f32⟩
  | .hbm, ⟨56, _⟩ => ⟨S8192x4096, .f32⟩
  | .hbm, ⟨57, _⟩ => ⟨S1x4096, .f32⟩
  | .hbm, ⟨58, _⟩ => ⟨S8192x4096, .f32⟩
  | .hbm, ⟨59, _⟩ => ⟨S8192x4096, .f32⟩
  | .hbm, ⟨60, _⟩ => ⟨S1x4096x11008, .f32⟩
  | .hbm, ⟨61, _⟩ => ⟨S4096x11008, .f32⟩
  | .hbm, ⟨62, _⟩ => ⟨S1x4096x11008, .f32⟩
  | .hbm, ⟨63, _⟩ => ⟨S4096x11008, .f32⟩
  | .hbm, ⟨64, _⟩ => ⟨S1x11008x4096, .f32⟩
  | .hbm, ⟨65, _⟩ => ⟨S11008x4096, .f32⟩
  | .hbm, ⟨66, _⟩ => ⟨S8192x11008, .f32⟩
  | .hbm, ⟨67, _⟩ => ⟨S8192x11008, .f32⟩
  | .hbm, ⟨68, _⟩ => ⟨S8192x11008, .f32⟩
  | .hbm, ⟨69, _⟩ => ⟨S_, .f32⟩
  | .hbm, ⟨70, _⟩ => ⟨S8192x11008, .f32⟩
  | .hbm, ⟨71, _⟩ => ⟨S8192x11008, .f32⟩
  | .hbm, ⟨72, _⟩ => ⟨S_, .f32⟩
  | .hbm, ⟨73, _⟩ => ⟨S8192x11008, .f32⟩
  | .hbm, ⟨74, _⟩ => ⟨S8192x11008, .f32⟩
  | .hbm, ⟨75, _⟩ => ⟨S8192x11008, .f32⟩
  | .hbm, ⟨76, _⟩ => ⟨S8192x11008, .f32⟩
  | .hbm, ⟨77, _⟩ => ⟨S8192x11008, .f32⟩
  | .hbm, ⟨78, _⟩ => ⟨S8192x4096, .f32⟩
  | .hbm, ⟨79, _⟩ => ⟨S1x4096, .f32⟩
  | .hbm, ⟨80, _⟩ => ⟨S4096, .f32⟩
  | .hbm, ⟨81, _⟩ => ⟨S8192x4096, .f32⟩
  | .hbm, ⟨82, _⟩ => ⟨S_, .f32⟩
  | .hbm, ⟨83, _⟩ => ⟨S8192, .f32⟩
  | .hbm, ⟨84, _⟩ => ⟨S8192x1, .f32⟩
  | .hbm, ⟨85, _⟩ => ⟨S_, .f32⟩
  | .hbm, ⟨86, _⟩ => ⟨S8192x1, .f32⟩
  | .hbm, ⟨87, _⟩ => ⟨S8192x1, .f32⟩
  | .hbm, ⟨88, _⟩ => ⟨S_, .f32⟩
  | .hbm, ⟨89, _⟩ => ⟨S8192x1, .f32⟩
  | .hbm, ⟨90, _⟩ => ⟨S8192x1, .f32⟩
  | .hbm, ⟨91, _⟩ => ⟨S8192x1, .f32⟩
  | .hbm, ⟨92, _⟩ => ⟨S8192x4096, .f32⟩
  | .hbm, ⟨93, _⟩ => ⟨S8192x4096, .f32⟩
  | .hbm, ⟨94, _⟩ => ⟨S1x4096, .f32⟩
  | .hbm, ⟨95, _⟩ => ⟨S8192x4096, .f32⟩
  | .hbm, ⟨96, _⟩ => ⟨S8192x4096, .f32⟩
  | .hbm, ⟨97, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_call0_v0 : Ref sig .tc := ⟨.hbm, 67, rfl⟩
abbrev main_call0_v1 : Ref sig .tc := ⟨.hbm, 68, rfl⟩
abbrev main_call0_cst : Ref sig .tc := ⟨.hbm, 69, rfl⟩
abbrev main_call0_v2 : Ref sig .tc := ⟨.hbm, 70, rfl⟩
abbrev main_call0_v3 : Ref sig .tc := ⟨.hbm, 71, rfl⟩
abbrev main_call0_cst_0 : Ref sig .tc := ⟨.hbm, 72, rfl⟩
abbrev main_call0_v4 : Ref sig .tc := ⟨.hbm, 73, rfl⟩
abbrev main_call0_v5 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_7 : Ref sig .tc := ⟨.hbm, 82, rfl⟩
abbrev main_v58 : Ref sig .tc := ⟨.hbm, 83, rfl⟩
abbrev main_v59 : Ref sig .tc := ⟨.hbm, 84, rfl⟩
abbrev main_cst_8 : Ref sig .tc := ⟨.hbm, 85, rfl⟩
abbrev main_v60 : Ref sig .tc := ⟨.hbm, 86, rfl⟩
abbrev main_v61 : Ref sig .tc := ⟨.hbm, 87, rfl⟩
abbrev main_cst_9 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩

abbrev nD : Nat := 1
abbrev τ : Topo := Topo.v7x

variable {F : FTy → Type} [FloatOps F]
-- ==== Kernel3.lean ====
abbrev S8192x4096 : Shape := ⟨2, ![8192, 4096]⟩
abbrev S2x4x4096 : Shape := ⟨3, ![2, 4, 4096]⟩
abbrev S1x4096x14384 : Shape := ⟨3, ![1, 4096, 14384]⟩
abbrev S4096x14384 : Shape := ⟨2, ![4096, 14384]⟩
abbrev S4096x6144 : Shape := ⟨2, ![4096, 6144]⟩
abbrev S1x1x4096 : Shape := ⟨3, ![1, 1, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S8192x2048 : Shape := ⟨2, ![8192, 2048]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 12
  | .vmem => 17
  | .smem => 0
  | _ => 0

abbrev bufTy : (tb : Table) → Fin (tcTables nBuf tb) → BufTy
  | .hbm, ⟨0, _⟩ => ⟨S8192x4096, .f32⟩
  | .hbm, ⟨1, _⟩ => ⟨S2x4x4096, .f32⟩
  | .hbm, ⟨2, _⟩ => ⟨S1x4096x14384, .f32⟩
  | .hbm, ⟨3, _⟩ => ⟨S4096x14384, .f32⟩
  | .hbm, ⟨4, _⟩ => ⟨S4096x6144, .f32⟩
  | .hbm, ⟨5, _⟩ => ⟨S4096x6144, .bf16⟩
  | .hbm, ⟨6, _⟩ => ⟨S1x1x4096, .f32⟩
  | .hbm, ⟨7, _⟩ => ⟨S4096, .f32⟩
  | .hbm, ⟨8, _⟩ => ⟨S1x4096, .f32⟩
  | .hbm, ⟨9, _⟩ => ⟨S8192x4096, .bf16⟩
  | .hbm, ⟨10, _⟩ => ⟨S8192x2048, .bf16⟩
  | .hbm, ⟨11, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | .local _ .vmem, ⟨5, _⟩ => ⟨S1024x4096, .bf16⟩
  | .local _ .vmem, ⟨6, _⟩ => ⟨S1024x4096, .bf16⟩
  | .local _ .vmem, ⟨7, _⟩ => ⟨S4096x512, .bf16⟩
  | .local _ .vmem, ⟨8, _⟩ => ⟨S4096x512, .bf16⟩
  | .local _ .vmem, ⟨9, _⟩ => ⟨S1024x512, .bf16⟩
  | .local _ .vmem, ⟨10, _⟩ => ⟨S1024x512, .bf16⟩
  | .local _ .vmem, ⟨11, _⟩ => ⟨S1024x4096, .bf16⟩
  | .local _ .vmem, ⟨12, _⟩ => ⟨S1024x4096, .bf16⟩
  | .local _ .vmem, ⟨13, _⟩ => ⟨S4096x512, .bf16⟩
  | .local _ .vmem, ⟨14, _⟩ => ⟨S4096x512, .bf16⟩
  | .local _ .vmem, ⟨15, _⟩ => ⟨S1024x512, .bf16⟩
  | .local _ .vmem, ⟨16, _⟩ => ⟨S1024x512, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== Reference3Ideal.lean ====
abbrev S8192x4096 : Shape := ⟨2, ![8192, 4096]⟩
abbrev S2x4x4096 : Shape := ⟨3, ![2, 4, 4096]⟩
abbrev S1x4096x14384 : Shape := ⟨3, ![1, 4096, 14384]⟩
abbrev S1x1x4096 : Shape := ⟨3, ![1, 1, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S4096x14384 : Shape := ⟨2, ![4096, 14384]⟩
abbrev S8192x14384 : Shape := ⟨2, ![8192, 14384]⟩
abbrev S8192x2048 : Shape := ⟨2, ![8192, 2048]⟩

abbrev nBuf : Space → Nat
  | .hbm => 27
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2x4x4096, .f32⟩
  | .hbm, ⟨2, _⟩ => ⟨S1x4096x14384, .f32⟩
  | .hbm, ⟨3, _⟩ => ⟨S1x1x4096, .f32⟩
  | .hbm, ⟨4, _⟩ => ⟨S4096, .f32⟩
  | .hbm, ⟨5, _⟩ => ⟨S8192x4096, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x4096, .f32⟩
  | .hbm, ⟨17, _⟩ => ⟨S8192x4096, .f32⟩
  | .hbm, ⟨18, _⟩ => ⟨S1x4096, .f32⟩
  | .hbm, ⟨19, _⟩ => ⟨S8192x4096, .f32⟩
  | .hbm, ⟨20, _⟩ => ⟨S8192x4096, .f32⟩
  | .hbm, ⟨21, _⟩ => ⟨S4096x14384, .f32⟩
  | .hbm, ⟨22, _⟩ => ⟨S8192x14384, .f32⟩
  | .hbm, ⟨23, _⟩ => ⟨S8192x2048, .f32⟩
  | .hbm, ⟨24, _⟩ => ⟨S8192x2048, .bf16⟩
  | .hbm, ⟨25, _⟩ => ⟨S8192x4096, .f32⟩
  | .hbm, ⟨26, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Kernel4.lean ====
abbrev S8192x2048 : Shape := ⟨2, ![8192, 2048]⟩
abbrev S1x4096x4096 : Shape := ⟨3, ![1, 4096, 4096]⟩
abbrev S8192x4096 : Shape := ⟨2, ![8192, 4096]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x4096x4096, .f32⟩
  | .hbm, ⟨3, _⟩ => ⟨S8192x2048, .bf16⟩
  | .hbm, ⟨4, _⟩ => ⟨S8192x2048, .bf16⟩
  | .hbm, ⟨5, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S1x2048x512, .f32⟩
  | .local _ .vmem, ⟨8, _⟩ => ⟨S1024x512, .bf16⟩
  | .local _ .vmem, ⟨9, _⟩ => ⟨S1024x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c1_i32 : BitVec 32 := 1#32
  let c0_i32_1 : BitVec 32 := 0#32
  ![c0_i32_0.toNat, c1_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S8192x2048 : Shape := ⟨2, ![8192, 2048]⟩
abbrev S1x4096x4096 : Shape := ⟨3, ![1, 4096, 4096]⟩
abbrev S8192x4096 : Shape := ⟨2, ![8192, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x4096x4096, .f32⟩
  | .hbm, ⟨3, _⟩ => ⟨S8192x4096, .f32⟩
  | .hbm, ⟨4, _⟩ => ⟨S4096x4096, .f32⟩
  | .hbm, ⟨5, _⟩ => ⟨S8192x4096, .f32⟩
  | .hbm, ⟨6, _⟩ => ⟨S8192x4096, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S8192x4096 : Shape := ⟨2, ![8192, 4096]⟩
abbrev S1x4096x14384 : Shape := ⟨3, ![1, 4096, 14384]⟩
abbrev S8192x8192 : Shape := ⟨2, ![8192, 8192]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S1x4096x14384, .f32⟩
  | .hbm, ⟨2, _⟩ => ⟨S8192x4096, .bf16⟩
  | .hbm, ⟨3, _⟩ => ⟨S8192x8192, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S8192x4096 : Shape := ⟨2, ![8192, 4096]⟩
abbrev S1x4096x14384 : Shape := ⟨3, ![1, 4096, 14384]⟩
abbrev S4096x14384 : Shape := ⟨2, ![4096, 14384]⟩
abbrev S8192x14384 : Shape := ⟨2, ![8192, 14384]⟩
abbrev S8192x8192 : Shape := ⟨2, ![8192, 8192]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096x14384, .f32⟩
  | .hbm, ⟨2, _⟩ => ⟨S4096x14384, .f32⟩
  | .hbm, ⟨3, _⟩ => ⟨S8192x14384, .f32⟩
  | .hbm, ⟨4, _⟩ => ⟨S8192x8192, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S8192x4096 : Shape := ⟨2, ![8192, 4096]⟩
abbrev S1x4096x14384 : Shape := ⟨3, ![1, 4096, 14384]⟩
abbrev S1x16 : Shape := ⟨2, ![1, 16]⟩
abbrev S4096x14384 : Shape := ⟨2, ![4096, 14384]⟩
abbrev S4096x32 : Shape := ⟨2, ![4096, 32]⟩
abbrev S4096x16 : Shape := ⟨2, ![4096, 16]⟩
abbrev S_ : Shape := ⟨0, ![]⟩
abbrev S4096x80 : Shape := ⟨2, ![4096, 80]⟩
abbrev S4096x128 : Shape := ⟨2, ![4096, 128]⟩
abbrev S8x128 : Shape := ⟨2, ![8, 128]⟩
abbrev S16 : Shape := ⟨1, ![16]⟩
abbrev S1 : Shape := ⟨1, ![1]⟩
abbrev S2 : Shape := ⟨1, ![2]⟩
abbrev S8192x128 : Shape := ⟨2, ![8192, 128]⟩
abbrev S512x4096 : Shape := ⟨2, ![512, 4096]⟩
abbrev S512x128 : Shape := ⟨2, ![512, 128]⟩
abbrev S1x128 : Shape := ⟨2, ![1, 128]⟩
abbrev S128x128 : Shape := ⟨2, ![128, 128]⟩

abbrev nBuf : Space → Nat
  | .hbm => 37
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S1x4096x14384, .f32⟩
  | .hbm, ⟨2, _⟩ => ⟨S1x16, .f32⟩
  | .hbm, ⟨3, _⟩ => ⟨S1x16, .f32⟩
  | .hbm, ⟨4, _⟩ => ⟨S1x16, .f32⟩
  | .hbm, ⟨5, _⟩ => ⟨S4096x14384, .f32⟩
  | .hbm, ⟨6, _⟩ => ⟨S4096x32, .f32⟩
  | .hbm, ⟨7, _⟩ => ⟨S4096x16, .f32⟩
  | .hbm, ⟨8, _⟩ => ⟨S_, .f32⟩
  | .hbm, ⟨9, _⟩ => ⟨S4096x80, .f32⟩
  | .hbm, ⟨10, _⟩ => ⟨S4096x128, .f32⟩
  | .hbm, ⟨11, _⟩ => ⟨S4096x128, .bf16⟩
  | .hbm, ⟨12, _⟩ => ⟨S_, .f32⟩
  | .hbm, ⟨13, _⟩ => ⟨S8x128, .f32⟩
  | .hbm, ⟨14, _⟩ => ⟨S16, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S8x128, .f32⟩
  | .hbm, ⟨21, _⟩ => ⟨S16, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S8x128, .f32⟩
  | .hbm, ⟨28, _⟩ => ⟨S16, .f32⟩
  | .hbm, ⟨29, _⟩ => ⟨S_, .i32⟩
  | .hbm, ⟨30, _⟩ => ⟨S1, .i32⟩
  | .hbm, ⟨31, _⟩ => ⟨S_, .i32⟩
  | .hbm, ⟨32, _⟩ => ⟨S1, .i32⟩
  | .hbm, ⟨33, _⟩ => ⟨S2, .i32⟩
  | .hbm, ⟨34, _⟩ => ⟨S8x128, .f32⟩
  | .hbm, ⟨35, _⟩ => ⟨S8192x4096, .bf16⟩
  | .hbm, ⟨36, _⟩ => ⟨S8192x128, .f32⟩
  | .local _ .vmem, ⟨0, _⟩ => ⟨S512x4096, .bf16⟩
  | .local _ .vmem, ⟨1, _⟩ => ⟨S512x4096, .bf16⟩
  | .local _ .vmem, ⟨2, _⟩ => ⟨S4096x128, .bf16⟩
  | .local _ .vmem, ⟨3, _⟩ => ⟨S8x128, .f32⟩
  | .local _ .vmem, ⟨4, _⟩ => ⟨S512x128, .f32⟩
  | .local _ .vmem, ⟨5, _⟩ => ⟨S512x128, .f32⟩
  | .local _ .vmem, ⟨6, _⟩ => ⟨S1x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_c_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S8192x4096 : Shape := ⟨2, ![8192, 4096]⟩
abbrev S1x4096x14384 : Shape := ⟨3, ![1, 4096, 14384]⟩
abbrev S1x16 : Shape := ⟨2, ![1, 16]⟩
abbrev S4096x14384 : Shape := ⟨2, ![4096, 14384]⟩
abbrev S8192x14384 : Shape := ⟨2, ![8192, 14384]⟩
abbrev S8192x16 : Shape := ⟨2, ![8192, 16]⟩
abbrev S16 : Shape := ⟨1, ![16]⟩
abbrev S_ : Shape := ⟨0, ![]⟩
abbrev S64x128x16 : Shape := ⟨3, ![64, 128, 16]⟩
abbrev S8192x80 : Shape := ⟨2, ![8192, 80]⟩
abbrev S8192x128 : Shape := ⟨2, ![8192, 128]⟩

abbrev nBuf : Space → Nat
  | .hbm => 73
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096x14384, .f32⟩
  | .hbm, ⟨2, _⟩ => ⟨S1x16, .f32⟩
  | .hbm, ⟨3, _⟩ => ⟨S1x16, .f32⟩
  | .hbm, ⟨4, _⟩ => ⟨S1x16, .f32⟩
  | .hbm, ⟨5, _⟩ => ⟨S4096x14384, .f32⟩
  | .hbm, ⟨6, _⟩ => ⟨S8192x14384, .f32⟩
  | .hbm, ⟨7, _⟩ => ⟨S8192x16, .f32⟩
  | .hbm, ⟨8, _⟩ => ⟨S8192x16, .f32⟩
  | .hbm, ⟨9, _⟩ => ⟨S8192x16, .f32⟩
  | .hbm, ⟨10, _⟩ => ⟨S16, .f32⟩
  | .hbm, ⟨11, _⟩ => ⟨S16, .f32⟩
  | .hbm, ⟨12, _⟩ => ⟨S16, .f32⟩
  | .hbm, ⟨13, _⟩ => ⟨S16, .f32⟩
  | .hbm, ⟨14, _⟩ => ⟨S1x16, .f32⟩
  | .hbm, ⟨15, _⟩ => ⟨S8192x16, .f32⟩
  | .hbm, ⟨16, _⟩ => ⟨S8192x16, .f32⟩
  | .hbm, ⟨17, _⟩ => ⟨S_, .f32⟩
  | .hbm, ⟨18, _⟩ => ⟨S8192x16, .f32⟩
  | .hbm, ⟨19, _⟩ => ⟨S8192x16, .f32⟩
  | .hbm, ⟨20, _⟩ => ⟨S8192x16, .f32⟩
  | .hbm, ⟨21, _⟩ => ⟨S8192x16, .f32⟩
  | .hbm, ⟨22, _⟩ => ⟨S8192x16, .i1⟩
  | .hbm, ⟨23, _⟩ => ⟨S8192x16, .f32⟩
  | .hbm, ⟨24, _⟩ => ⟨S8192x16, .f32⟩
  | .hbm, ⟨25, _⟩ => ⟨S8192x16, .f32⟩
  | .hbm, ⟨26, _⟩ => ⟨S8192x16, .f32⟩
  | .hbm, ⟨27, _⟩ => ⟨S8192x16, .f32⟩
  | .hbm, ⟨28, _⟩ => ⟨S8192x16, .f32⟩
  | .hbm, ⟨29, _⟩ => ⟨S8192x16, .f32⟩
  | .hbm, ⟨30, _⟩ => ⟨S8192x16, .f32⟩
  | .hbm, ⟨31, _⟩ => ⟨S1x16, .f32⟩
  | .hbm, ⟨32, _⟩ => ⟨S8192x16, .f32⟩
  | .hbm, ⟨33, _⟩ => ⟨S8192x16, .f32⟩
  | .hbm, ⟨34, _⟩ => ⟨S64x128x16, .f32⟩
  | .hbm, ⟨35, _⟩ => ⟨S_, .f32⟩
  | .hbm, ⟨36, _⟩ => ⟨S_, .f32⟩
  | .hbm, ⟨37, _⟩ => ⟨S64x128x16, .f32⟩
  | .hbm, ⟨38, _⟩ => ⟨S8192x16, .f32⟩
  | .hbm, ⟨39, _⟩ => ⟨S16, .f32⟩
  | .hbm, ⟨40, _⟩ => ⟨S1x16, .f32⟩
  | .hbm, ⟨41, _⟩ => ⟨S8192x16, .f32⟩
  | .hbm, ⟨42, _⟩ => ⟨S8192x16, .f32⟩
  | .hbm, ⟨43, _⟩ => ⟨S8192x16, .f32⟩
  | .hbm, ⟨44, _⟩ => ⟨S_, .f32⟩
  | .hbm, ⟨45, _⟩ => ⟨S8192x16, .f32⟩
  | .hbm, ⟨46, _⟩ => ⟨S8192x16, .f32⟩
  | .hbm, ⟨47, _⟩ => ⟨S8192x16, .f32⟩
  | .hbm, ⟨48, _⟩ => ⟨S8192x16, .f32⟩
  | .hbm, ⟨49, _⟩ => ⟨S8192x16, .i1⟩
  | .hbm, ⟨50, _⟩ => ⟨S8192x16, .f32⟩
  | .hbm, ⟨51, _⟩ => ⟨S8192x16, .f32⟩
  | .hbm, ⟨52, _⟩ => ⟨S8192x16, .f32⟩
  | .hbm, ⟨53, _⟩ => ⟨S8192x16, .f32⟩
  | .hbm, ⟨54, _⟩ => ⟨S8192x16, .f32⟩
  | .hbm, ⟨55, _⟩ => ⟨S8192x16, .f32⟩
  | .hbm, ⟨56, _⟩ => ⟨S8192x16, .f32⟩
  | .hbm, ⟨57, _⟩ => ⟨S8192x16, .f32⟩
  | .hbm, ⟨58, _⟩ => ⟨S8192x16, .f32⟩
  | .hbm, ⟨59, _⟩ => ⟨S_, .f32⟩
  | .hbm, ⟨60, _⟩ => ⟨S_, .f32⟩
  | .hbm, ⟨61, _⟩ => ⟨S8192x16, .f32⟩
  | .hbm, ⟨62, _⟩ => ⟨S8192x16, .f32⟩
  | .hbm, ⟨63, _⟩ => ⟨S8192x16, .f32⟩
  | .hbm, ⟨64, _⟩ => ⟨S_, .f32⟩
  | .hbm, ⟨65, _⟩ => ⟨S8192x16, .f32⟩
  | .hbm, ⟨66, _⟩ => ⟨S8192x16, .f32⟩
  | .hbm, ⟨67, _⟩ => ⟨S_, .f32⟩
  | .hbm, ⟨68, _⟩ => ⟨S8192x16, .f32⟩
  | .hbm, ⟨69, _⟩ => ⟨S8192x16, .f32⟩
  | .hbm, ⟨70, _⟩ => ⟨S_, .f32⟩
  | .hbm, ⟨71, _⟩ => ⟨S8192x80, .f32⟩
  | .hbm, ⟨72, _⟩ => ⟨S8192x128, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_call1_call0_cst : Ref sig .tc := ⟨.hbm, 35, rfl⟩
abbrev main_call1_call0_v0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call2_v0 : Ref sig .tc := ⟨.hbm, 43, rfl⟩
abbrev main_call2_call0_cst : Ref sig .tc := ⟨.hbm, 44, rfl⟩
abbrev main_call2_call0_v0 : Ref sig .tc := ⟨.hbm, 45, rfl⟩
abbrev main_call2_call0_v1 : Ref sig .tc := ⟨.hbm, 46, rfl⟩
abbrev main_call2_call0_v2 : Ref sig .tc := ⟨.hbm, 47, rfl⟩
abbrev main_call2_call0_v3 : Ref sig .tc := ⟨.hbm, 48, rfl⟩
abbrev main_call2_call0_v4 : Ref sig .tc := ⟨.hbm, 49, rfl⟩
abbrev main_call2_call0_v5 : Ref sig .tc := ⟨.hbm, 50, rfl⟩
abbrev main_call2_call0_v6 : Ref sig .tc := ⟨.hbm, 51, rfl⟩
abbrev main_call2_call0_v7 : Ref sig .tc := ⟨.hbm, 52, rfl⟩
abbrev main_call2_call0_v8 : Ref sig .tc := ⟨.hbm, 53, rfl⟩
abbrev main_call2_call0_v9 : Ref sig .tc := ⟨.hbm, 54, rfl⟩
abbrev main_call2_call0_v10 : Ref sig .tc := ⟨.hbm, 55, rfl⟩
abbrev main_call2_call0_v11 : Ref sig .tc := ⟨.hbm, 56, rfl⟩
abbrev main_call2_v1 : Ref sig .tc := ⟨.hbm, 57, rfl⟩
abbrev main_v23 : Ref sig .tc := ⟨.hbm, 58, rfl⟩
abbrev main_call3_call0_cst : Ref sig .tc := ⟨.hbm, 59, rfl⟩
abbrev main_call3_call0_v0 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_cst : Ref sig .tc := ⟨.hbm, 64, rfl⟩
abbrev main_v27 : Ref sig .tc := ⟨.hbm, 65, rfl⟩
abbrev main_v28 : Ref sig .tc := ⟨.hbm, 66, rfl⟩
abbrev main_cst_0 : Ref sig .tc := ⟨.hbm, 67, rfl⟩
abbrev main_v29 : Ref sig .tc := ⟨.hbm, 68, rfl⟩
abbrev main_v30 : Ref sig .tc := ⟨.hbm, 69, rfl⟩
abbrev main_cst_1 : Ref sig .tc := ⟨.hbm, 70, rfl⟩
abbrev main_v31 : Ref sig .tc := ⟨.hbm, 71, rfl⟩
abbrev main_v32 : Ref sig .tc := ⟨.hbm, 72, rfl⟩

abbrev nD : Nat := 1
abbrev τ : Topo := Topo.v7x

variable {F : FTy → Type} [FloatOps F]
-- ==== Proof.Math.lean ====
/- A softmax that is taken in blocks of keys, over the extended reals: one query row.
   The running maximum, the running sum of weights and the running weighted sum of values are kept per lane of a
   128-lane register; `RowInv` says what they hold after `nb` groups of 128 keys, `RowInv.step` takes a further block in,
   and `RowInv.final` reads the quotient at the end. `attn` is the value both programs compute at a row. -/
module

public import Idealize.ShloMosaic.PureOps.Ideal
public import Idealize.ShloMosaic.PureOps.Ideal.Laws
public import Mathlib.Analysis.SpecialFunctions.Pow.Real

@[expose] public section

noncomputable section

namespace Cert.Fox

open Idealize.ShloMosaic

/-! ## Sums -/

/-- A real factor that is not negative goes into a sum of extended reals. -/
theorem mul_sum_coe {ι : Type} (s : Finset ι) (a : ℝ) (ha : 0 ≤ a) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi,
      EReal.left_distrib_of_nonneg_of_ne_top (EReal.coe_nonneg.mpr ha) (EReal.coe_ne_top a), ih]

theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- `128 * nb` numbers, lane by lane. -/
theorem sum_lanes (nb : ℕ) (f : ℕ → ℝ) :
    ∑ x : Fin 128, ∑ b ∈ Finset.range nb, f (128 * b + x.val) = ∑ j ∈ Finset.range (128 * nb), f j := by
  rw [Finset.sum_comm]
  induction nb with
  | zero => simp
  | succ n ih =>
    rw [Finset.sum_range_succ, ih, Nat.mul_succ, Finset.sum_range_add, ← Fin.sum_univ_eq_sum_range (fun k => f (128 * n + k)) 128]

/-! ## Weights -/

/-- The weight of a key with score `x` under the reference point `μ`. -/
def wt (x : EReal) (μ : ℝ) : ℝ := if x = ⊥ then 0 else Real.rpow 2 (x.toReal - μ)

theorem wt_nonneg (x : EReal) (μ : ℝ) : 0 ≤ wt x μ := by
  unfold wt
  split
  · exact le_rfl
  · exact Real.rpow_nonneg (by norm_num) _

theorem wt_pos {x : EReal} (h : x ≠ ⊥) (μ : ℝ) : 0 < wt x μ := by
  unfold wt
  rw [if_neg h]
  exact Real.rpow_pos_of_pos (by norm_num) _

theorem exp2_sub_coe {x : EReal} (h : x ≠ ⊤) (μ : ℝ) : Ideal.exp2 (x - (μ : EReal)) = (wt x μ : EReal) := by
  unfold wt
  induction x with
  | bot => rw [if_pos rfl, EReal.bot_sub, Ideal.exp2_bot]; simp
  | top => exact absurd rfl h
  | coe r => rw [if_neg (EReal.coe_ne_bot r), ← EReal.coe_sub, Ideal.exp2_coe, EReal.toReal_coe]

theorem wt_shift (x : EReal) (μ μ' : ℝ) : wt (μ : EReal) μ' * wt x μ = wt x μ' := by
  unfold wt
  rw [if_neg (EReal.coe_ne_bot μ), EReal.toReal_coe]
  split
  · rw [mul_zero]
  · show (2 : ℝ) ^ (μ - μ') * (2 : ℝ) ^ (x.toReal - μ) = (2 : ℝ) ^ (x.toReal - μ')
    rw [← Real.rpow_add (by norm_num)]
    congr 1
    ring

/-! ## The running state of a row -/

/-- What the lanes hold after `nb` groups of 128 keys. -/
def RowInv (sc : ℕ → EReal) (val : ℕ → Fin 128 → EReal) (nb : ℕ) (M L A : Fin 128 → EReal) : Prop :=
  (nb = 0 ∧ ∀ x, M x = ⊥ ∧ L x = 0 ∧ A x = 0) ∨
    ∃ μ : ℝ, ∀ x, M x = μ ∧ L x = ((∑ b ∈ Finset.range nb, wt (sc (128 * b + x.val)) μ : ℝ) : EReal) ∧
      A x = ∑ j ∈ Finset.range (128 * nb), (wt (sc j) μ : EReal) * val j x

theorem RowInv.init (sc : ℕ → EReal) (val : ℕ → Fin 128 → EReal) (M L A : Fin 128 → EReal)
    (hM : ∀ x, M x = ⊥) (hL : ∀ x, L x = 0) (hA : ∀ x, A x = 0) : RowInv sc val 0 M L A :=
  .inl ⟨rfl, fun x => ⟨hM x, hL x, hA x⟩⟩

/-- A maximum over finitely many scores, one of them real and none `⊤`, with any further score that is not `⊤`, is real. -/
theorem max_fold_real {ι : Type} [Fintype ι] (m : EReal) (f : ι → EReal) (hm : m ≠ ⊤) (hf : ∀ i, f i ≠ ⊤) (hr : ∃ i, f i ≠ ⊥) :
    ∃ μ : ℝ, max m ((Finset.univ : Finset ι).fold max ⊥ f) = μ := by
  have h1 : (Finset.univ : Finset ι).fold max ⊥ f < ⊤ :=
    (Finset.fold_max_lt _).mpr ⟨bot_lt_top, fun i _ => lt_top_iff_ne_top.mpr (hf i)⟩
  have h2 : ⊥ < (Finset.univ : Finset ι).fold max ⊥ f := by
    obtain ⟨i, hi⟩ := hr
    exact (Finset.lt_fold_max _).mpr (.inr ⟨i, Finset.mem_univ _, bot_lt_iff_ne_bot.mpr hi⟩)
  have h3 : max m ((Finset.univ : Finset ι).fold max ⊥ f) < ⊤ := max_lt (lt_top_iff_ne_top.mpr hm) h1
  have h4 : ⊥ < max m ((Finset.univ : Finset ι).fold max ⊥ f) := lt_of_lt_of_le h2 (le_max_right _ _)
  exact ⟨_, (EReal.coe_toReal h3.ne h4.ne').symm⟩

/-- A block of `n = 128 * c` keys taken in. -/
theorem RowInv.step {sc : ℕ → EReal} {val : ℕ → Fin 128 → EReal} {nb : ℕ} {M L A M' L' A' : Fin 128 → EReal} (c n : ℕ) (hn : n = 128 * c)
    (h : RowInv sc val nb M L A) (hsc : ∀ j, sc j ≠ ⊤) (hr : ∃ i : Fin n, sc (128 * nb + i.val) ≠ ⊥)
    (hM : ∀ x, M' x = max (M x) ((Finset.univ : Finset (Fin n)).fold max ⊥ fun i => sc (128 * nb + i.val)))
    (hL : ∀ x, L' x = Ideal.exp2 (M x - M' x) * L x + ∑ b ∈ Finset.range c, Ideal.exp2 (sc (128 * nb + (128 * b + x.val)) - M' x))
    (hA : ∀ x, A' x = Ideal.exp2 (M x - M' x) * A x
      + ∑ i : Fin n, Ideal.exp2 (sc (128 * nb + i.val) - M' ⟨i.val % 128, Nat.mod_lt _ (by norm_num)⟩) * val (128 * nb + i.val) x) :
    RowInv sc val (nb + c) M' L' A' := by
  subst hn
  have hMt : ∃ m : EReal, m ≠ ⊤ ∧ ∀ x, M x = m := by
    rcases h with ⟨_, h⟩ | ⟨μ, h⟩
    · exact ⟨⊥, bot_ne_top, fun x => (h x).1⟩
    · exact ⟨μ, EReal.coe_ne_top μ, fun x => (h x).1⟩
  obtain ⟨m, hmt, hm⟩ := hMt
  obtain ⟨μ', hμ'⟩ := max_fold_real m (fun i : Fin (128 * c) => sc (128 * nb + i.val)) hmt (fun i => hsc _) hr
  have hM' : ∀ x, M' x = μ' := fun x => by rw [hM x, hm x, hμ']
  have hsumL : ∀ x : Fin 128, ∑ b ∈ Finset.range c, Ideal.exp2 (sc (128 * nb + (128 * b + x.val)) - M' x)
      = ((∑ b ∈ Finset.range c, wt (sc (128 * (nb + b) + x.val)) μ' : ℝ) : EReal) := by
    intro x
    rw [coe_sum]
    refine Finset.sum_congr rfl fun b _ => ?_
    rw [hM', exp2_sub_coe (hsc _), Nat.mul_add, Nat.add_assoc]
  have hsumA : ∀ x : Fin 128, ∑ i : Fin (128 * c), Ideal.exp2 (sc (128 * nb + i.val) - M' ⟨i.val % 128, Nat.mod_lt _ (by norm_num)⟩) * val (128 * nb + i.val) x
      = ∑ j ∈ Finset.range (128 * c), (wt (sc (128 * nb + j)) μ' : EReal) * val (128 * nb + j) x := by
    intro x
    rw [← Fin.sum_univ_eq_sum_range (fun j => (wt (sc (128 * nb + j)) μ' : EReal) * val (128 * nb + j) x) (128 * c)]
    refine Finset.sum_congr rfl fun i _ => ?_
    rw [hM', exp2_sub_coe (hsc _)]
  refine .inr ⟨μ', fun x => ⟨hM' x, ?_, ?_⟩⟩
  · rw [hL, hsumL, Finset.sum_range_add, EReal.coe_add]
    congr 1
    rcases h with ⟨h0, h⟩ | ⟨μ, h⟩
    · subst h0; rw [(h x).2.1, mul_zero]; simp
    · rw [(h x).2.1, (h x).1, hM', exp2_sub_coe (EReal.coe_ne_top μ), ← EReal.coe_mul, Finset.mul_sum]
      simp only [wt_shift]
  · rw [hA, hsumA, Nat.mul_add, Finset.sum_range_add]
    congr 1
    rcases h with ⟨h0, h⟩ | ⟨μ, h⟩
    · subst h0; rw [(h x).2.2, mul_zero]; simp
    · rw [(h x).2.2, (h x).1, hM', exp2_sub_coe (EReal.coe_ne_top μ), mul_sum_coe _ _ (wt_nonneg _ _)]
      refine Finset.sum_congr rfl fun j _ => ?_
      rw [← mul_assoc, ← EReal.coe_mul, wt_shift]

/-- The quotient at the end of the row. -/
theorem RowInv.final {sc : ℕ → EReal} {val : ℕ → Fin 128 → EReal} {nb : ℕ} {M L A : Fin 128 → EReal}
    (h : RowInv sc val nb M L A) (hr : ∃ j < 128 * nb, sc j ≠ ⊥) : ∃ μ : ℝ, ∀ x,
    Ideal.div (A x) (∑ l : Fin 128, L l) =
      ∑ j ∈ Finset.range (128 * nb), ((wt (sc j) μ * (1 / ∑ j' ∈ Finset.range (128 * nb), wt (sc j') μ) : ℝ) : EReal) * val j x := by
  obtain ⟨j0, hj0, hb⟩ := hr
  rcases h with ⟨h0, _⟩ | ⟨μ, h⟩
  · subst h0; omega
  refine ⟨μ, fun x => ?_⟩
  have hs : ∑ l : Fin 128, L l = ((∑ j' ∈ Finset.range (128 * nb), wt (sc j') μ : ℝ) : EReal) := by
    rw [← sum_lanes nb (fun j => wt (sc j) μ), coe_sum]
    exact Finset.sum_congr rfl fun l _ => (h l).2.1
  have hpos : 0 < ∑ j' ∈ Finset.range (128 * nb), wt (sc j') μ :=
    Finset.sum_pos' (fun j _ => wt_nonneg _ _) ⟨j0, Finset.mem_range.mpr hj0, wt_pos hb μ⟩
  rw [hs, Ideal.div_coe hpos.ne', (h x).2.2, mul_comm, mul_sum_coe _ _ (one_div_nonneg.mpr hpos.le)]
  refine Finset.sum_congr rfl fun j _ => ?_
  rw [← mul_assoc, ← EReal.coe_mul, mul_comm (1 / _)]

/-! ## The value -/

/-- Causal attention at row `i` with real scores `S`. -/
def attn (S : ℕ → ℝ) (i : ℕ) (v : ℕ → EReal) : EReal :=
  ∑ j ∈ Finset.range (i + 1), ((Real.exp (S j) / ∑ j' ∈ Finset.range (i + 1), Real.exp (S j') : ℝ) : EReal) * v j

/-- Weights that are, up to one factor, the exponentials of the scores on the rows `j ≤ i` and zero beyond give `attn`. -/
theorem sum_eq_attn (S : ℕ → ℝ) (i N : ℕ) (hN : i < N) (v : ℕ → EReal) (w : ℕ → ℝ) (κ : ℝ) (hκ : 0 < κ)
    (h1 : ∀ j, j ≤ i → w j = κ * Real.exp (S j)) (h0 : ∀ j, i < j → w j = 0) :
    ∑ j ∈ Finset.range N, ((w j * (1 / ∑ j' ∈ Finset.range N, w j') : ℝ) : EReal) * v j = attn S i v := by
  obtain ⟨t, rfl⟩ : ∃ t, N = (i + 1) + t := ⟨N - (i + 1), by omega⟩
  have hw : ∑ j' ∈ Finset.range (i + 1 + t), w j' = κ * ∑ j' ∈ Finset.range (i + 1), Real.exp (S j') := by
    rw [Finset.sum_range_add, Finset.mul_sum, Finset.sum_eq_zero (s := Finset.range t) (fun j _ => h0 _ (by omega)), add_zero]
    exact Finset.sum_congr rfl fun j hj => h1 j (by have := Finset.mem_range.mp hj; omega)
  have hpos : 0 < ∑ j' ∈ Finset.range (i + 1), Real.exp (S j') :=
    Finset.sum_pos (fun j _ => Real.exp_pos _) ⟨0, Finset.mem_range.mpr (by omega)⟩
  rw [hw, Finset.sum_range_add, Finset.sum_eq_zero (s := Finset.range t), add_zero]
  · refine Finset.sum_congr rfl fun j hj => ?_
    rw [h1 j (by have := Finset.mem_range.mp hj; omega)]
    congr 2
    field_simp
  · intro j _
    rw [h0 _ (by omega), zero_mul, EReal.coe_zero, zero_mul]

/-- The kernel's weights, from scores to base two that differ from `S` by one constant. -/
theorem sum_wt_eq_attn (S : ℕ → ℝ) (sc : ℕ → EReal) (a μ : ℝ) (i N : ℕ) (hN : i < N) (v : ℕ → EReal)
    (h1 : ∀ j, j ≤ i → sc j = ((S j * (Real.log 2)⁻¹ + a : ℝ) : EReal)) (h0 : ∀ j, i < j → sc j = ⊥) :
    ∑ j ∈ Finset.range N, ((wt (sc j) μ * (1 / ∑ j' ∈ Finset.range N, wt (sc j') μ) : ℝ) : EReal) * v j = attn S i v := by
  refine sum_eq_attn S i N hN v (fun j => wt (sc j) μ) ((2 : ℝ) ^ (a - μ)) (Real.rpow_pos_of_pos (by norm_num) _) ?_ ?_
  · intro j hj
    show wt (sc j) μ = _
    rw [h1 j hj]
    unfold wt
    rw [if_neg (EReal.coe_ne_bot _), EReal.toReal_coe]
    show (2 : ℝ) ^ (S j * (Real.log 2)⁻¹ + a - μ) = _
    have hl : Real.log 2 ≠ 0 := (Real.log_pos (by norm_num)).ne'
    rw [show S j * (Real.log 2)⁻¹ + a - μ = (a - μ) + S j * (Real.log 2)⁻¹ by ring, Real.rpow_add (by norm_num)]
    congr 1
    rw [Real.rpow_def_of_pos (by norm_num)]
    congr 1
    field_simp
  · intro j hj
    show wt (sc j) μ = _
    rw [h0 j hj]
    unfold wt
    rw [if_pos rfl]

/-- A softmax taken against any real point, a row of `N` scores at once. -/
theorem softmax_eq_attn (S : ℕ → ℝ) (sc : ℕ → EReal) (m : ℝ) (i N : ℕ) (hN : i < N) (v : ℕ → EReal)
    (h1 : ∀ j, j ≤ i → sc j = (S j : EReal)) (h0 : ∀ j, i < j → sc j = ⊥) :
    ∑ j ∈ Finset.range N, Ideal.div (Ideal.exp (sc j - m)) (∑ j' ∈ Finset.range N, Ideal.exp (sc j' - m)) * v j = attn S i v := by
  let w : ℕ → ℝ := fun j => if j ≤ i then Real.exp (-m) * Real.exp (S j) else 0
  have hw : ∀ j, Ideal.exp (sc j - m) = (w j : EReal) := by
    intro j
    by_cases hj : j ≤ i
    · rw [h1 j hj, ← EReal.coe_sub, Ideal.exp_coe]
      show _ = ((if j ≤ i then Real.exp (-m) * Real.exp (S j) else 0 : ℝ) : EReal)
      rw [if_pos hj, ← Real.exp_add, sub_eq_neg_add]
    · rw [h0 j (by omega), EReal.bot_sub, Ideal.exp_bot]
      show _ = ((if j ≤ i then Real.exp (-m) * Real.exp (S j) else 0 : ℝ) : EReal)
      rw [if_neg hj, EReal.coe_zero]
  have hpos : 0 < ∑ j' ∈ Finset.range N, w j' := by
    refine Finset.sum_pos' (fun j _ => ?_) ⟨i, Finset.mem_range.mpr hN, ?_⟩
    · show 0 ≤ if j ≤ i then Real.exp (-m) * Real.exp (S j) else 0
      split
      · positivity
      · exact le_rfl
    · show 0 < if i ≤ i then Real.exp (-m) * Real.exp (S i) else 0
      rw [if_pos le_rfl]
      positivity
  rw [← sum_eq_attn S i N hN v w (Real.exp (-m)) (Real.exp_pos _) (fun j hj => if_pos hj) (fun j hj => if_neg (by omega))]
  refine Finset.sum_congr rfl fun j _ => ?_
  simp only [hw]
  rw [← coe_sum, Ideal.div_coe hpos.ne', ← EReal.coe_mul]

end Cert.Fox

end
-- ==== Proof.Steps.lean ====
/- The kernel body's block updates at the ideal instance, element by element: the score of a query against a key, and
   the update of the running maximum, sum and accumulator by a block of 2048 or of 512 keys. -/
module

public import proofs.«01_k».proof.Proof.Math
public import proofs.«01_k».proof.Proof.Gen.KernelIdeal.Skeleton
public import Idealize.ShloMosaic.Lib.Pointwise
public import Idealize.ShloMosaic.Lib.Pipeline.Value

@[expose] public section

set_option maxRecDepth 16384
set_option maxHeartbeats 1000000

noncomputable section

namespace Cert.Fox

open Idealize.ShloMosaic Cert.KernelIdeal Cert.KernelIdeal.Gen

/-! ## Constants -/

/-- The factor that turns a natural logarithm into one to base two. -/
def l2e : ℝ := (Real.log 2)⁻¹

/-- The factor on a query: the same, and the inverse root of the head dimension. -/
def qsc : ℝ := (Real.log 2)⁻¹ * (Real.sqrt 128)⁻¹

theorem named_log2e : (Named.named (F := Ideal) κ "log2e" 0x3FB8AA3B#32 : Ideal .f32) = ((l2e : ℝ) : EReal) :=
  IdealRules.named_const.ideal_named_scalar _ _ _ _ rfl

theorem named_q_scale : (Named.named (F := Ideal) κ "q_scale" 0x3E0293EE#32 : Ideal .f32) = ((qsc : ℝ) : EReal) :=
  IdealRules.named_const.ideal_named_scalar _ _ _ _ rfl

theorem neg_inf : Ideal.ofBits .f32 0xFF800000#32 = (⊥ : EReal) := by decide +kernel

/-! ## Scores -/

variable (v17 : FVec Ideal S1x1 .f32) (v25 : FVec Ideal S512x128 .bf16)

/-- The unmasked score, from the query tile, a key row and the two gates. -/
abbrev score1 (q k : Fin 128 → EReal) (c0 c : EReal) : EReal := ∑ d, q d * k d + (c0 - c) * (l2e : EReal)

theorem wide_score (k : Vec Ideal S2048x128 .bf16) (g : Vec Ideal S1x1x2048 .f32) (r : Fin 512) (i : Fin 2048) :
    k0_pay4 v17 v25 k g (ix2 r i) = score1 (fun d => v25 (ix2 r d)) (fun d => k (ix2 i d)) (v17 (ix2 0 0)) (g (ix3 0 0 i)) := by
  pointwise [k0_pay4]
  rw [named_log2e]

theorem rem_score (k : Vec Ideal S512x128 .bf16) (g : Vec Ideal S1x1x512 .f32) (r i : Fin 512) :
    k0_pay40 v17 v25 k g (ix2 r i) = score1 (fun d => v25 (ix2 r d)) (fun d => k (ix2 i d)) (v17 (ix2 0 0)) (g (ix3 0 0 i)) := by
  pointwise [k0_pay40]
  rw [named_log2e]

theorem sle_fin (i r : Fin 512) : IntOp.cmpi CmpIPredicate.sle (BitVec.ofNat 32 i.val) (BitVec.ofNat 32 r.val) = BitVec.ofBool (decide (i.val ≤ r.val)) := by
  have hi := i.isLt
  have hr := r.isLt
  simp only [IntOp.cmpi, BitVec.sle]
  congr 1
  rw [BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  simp

theorem diag_score (k : Vec Ideal S512x128 .bf16) (g : Vec Ideal S1x1x512 .f32) (r i : Fin 512) :
    k0_pay113 v17 v25 k g (ix2 r i) =
      if i.val ≤ r.val then score1 (fun d => v25 (ix2 r d)) (fun d => k (ix2 i d)) (v17 (ix2 0 0)) (g (ix3 0 0 i)) else ⊥ := by
  pointwise [k0_pay113]
  rw [named_log2e, neg_inf, sle_fin]
  by_cases h : i.val ≤ r.val
  · rw [if_pos h, decide_eq_true h]; rfl
  · rw [if_neg h, decide_eq_false h]; rfl

/-! ## A block of 512 keys -/

section narrow

variable (s : FVec Ideal S512x512 .f32) (m l a : Vec Ideal S1x512x128 .f32) (v : FVec Ideal S512x128 .bf16)

theorem max512 (r : Fin 512) (x : Fin 128) :
    k0_pay125 s m (ix2 r x) = max (m (ix3 0 r x)) ((Finset.univ : Finset (Fin 512)).fold max ⊥ fun i => s (ix2 r i)) := by
  pointwise [k0_pay125, k0_pay124]
  rw [neg_inf]

theorem alpha512 (r : Fin 512) (x : Fin 128) :
    k0_pay126 s m (ix2 r x) = Ideal.exp2 (m (ix3 0 r x) - k0_pay125 s m (ix2 r x)) := by
  pointwise [k0_pay126, k0_pay124]
  rfl

theorem p512 (r i : Fin 512) :
    k0_pay127 s m (ix2 r i) = Ideal.exp2 (s (ix2 r i) - k0_pay125 s m (ix2 r ⟨i.val % 128, Nat.mod_lt _ (by norm_num)⟩)) := by
  unfold k0_pay127
  show Ideal.exp2 (s (ix2 r i) - concatenate S512x512 1 (List.replicate 4 ⟨S512x128, k0_pay125 s m⟩) _ (ix2 r i)) = _
  rw [concatenate_replicate_apply (1 : Fin S512x512.rank) 4 (k0_pay125 s m) _ rfl (ix2 r i)
    (ix2 r ⟨i.val % 128, Nat.mod_lt _ (by norm_num)⟩) rfl (fun b hb => by
      match b with
      | ⟨0, _⟩ => rfl
      | ⟨1, _⟩ => exact absurd rfl hb)]

theorem l512 (r : Fin 512) (x : Fin 128) :
    k0_pay128 s m l (ix3 0 r x) = k0_pay126 s m (ix2 r x) * l (ix3 0 r x)
      + (k0_pay127 s m (ix2 r ⟨x.val, by omega⟩) + k0_pay127 s m (ix2 r ⟨128 + x.val, by omega⟩)
        + k0_pay127 s m (ix2 r ⟨256 + x.val, by omega⟩) + k0_pay127 s m (ix2 r ⟨384 + x.val, by omega⟩)) := by
  pointwise [k0_pay128]

theorem acc512 (r : Fin 512) (x : Fin 128) :
    k0_pay129 v s m a (ix3 0 r x) = k0_pay126 s m (ix2 r x) * a (ix3 0 r x) + ∑ i : Fin 512, k0_pay127 s m (ix2 r i) * v (ix2 i x) := by
  pointwise [k0_pay129]

theorem m512 (r : Fin 512) (x : Fin 128) : k0_pay130 s m (ix3 0 r x) = k0_pay125 s m (ix2 r x) := by
  pointwise [k0_pay130]

/-- The update of every row by a block of 512 keys. -/
theorem upd512 {s : FVec Ideal S512x512 .f32} {m l a : Vec Ideal S1x512x128 .f32} {v : FVec Ideal S512x128 .bf16}
    (sc : Fin 512 → ℕ → EReal) (val : ℕ → Fin 128 → EReal) (nb : ℕ)
    (hs : ∀ r i, s (ix2 r i) = sc r (128 * nb + i.val)) (hv : ∀ i x, v (ix2 i x) = val (128 * nb + i.val) x)
    (hsc : ∀ r j, sc r j ≠ ⊤) (hr : ∀ r, ∃ i : Fin 512, sc r (128 * nb + i.val) ≠ ⊥)
    (h : ∀ r, RowInv (sc r) val nb (fun x => m (ix3 0 r x)) (fun x => l (ix3 0 r x)) (fun x => a (ix3 0 r x))) (r : Fin 512) :
    RowInv (sc r) val (nb + 4) (fun x => k0_pay130 s m (ix3 0 r x)) (fun x => k0_pay128 s m l (ix3 0 r x))
      (fun x => k0_pay129 v s m a (ix3 0 r x)) := by
  refine RowInv.step 4 512 rfl (h r) (hsc r) (hr r) (fun x => ?_) (fun x => ?_) (fun x => ?_)
  · rw [m512, max512]
    simp only [hs]
  · have hx := x.isLt
    have hm : ∀ n : ℕ, (128 * n + x.val) % 128 = x.val := fun n => by omega
    simp only [m512, l512, alpha512, p512, hs, Finset.sum_range_succ, Finset.sum_range_zero, zero_add]
    congr 1
    have e : ∀ (j b : ℕ) (hj : j < 512), j = 128 * b + x.val →
        Ideal.exp2 (sc r (128 * nb + j) - k0_pay125 s m (ix2 r ⟨j % 128, Nat.mod_lt _ (by norm_num)⟩))
          = Ideal.exp2 (sc r (128 * nb + (128 * b + x.val)) - k0_pay125 s m (ix2 r x)) := by
      intro j b hj hb
      subst hb
      simp only [hm]
    rw [e _ 0 (by omega) (by omega), e _ 1 (by omega) (by omega), e _ 2 (by omega) (by omega), e _ 3 (by omega) (by omega)]
  · simp only [m512, acc512, alpha512, p512, hs, hv]

end narrow

/-! ## A block of 2048 keys -/

section wide

variable (k : Vec Ideal S2048x128 .bf16) (g : Vec Ideal S1x1x2048 .f32) (m l a : Vec Ideal S1x512x128 .f32) (v : Vec Ideal S2048x128 .bf16)

theorem max2048 (r : Fin 512) (x : Fin 128) :
    k0_pay6 v17 v25 k g m (ix2 r x) = max (m (ix3 0 r x)) ((Finset.univ : Finset (Fin 2048)).fold max ⊥ fun i => k0_pay4 v17 v25 k g (ix2 r i)) := by
  pointwise [k0_pay6, k0_pay5]
  rw [neg_inf]

theorem alpha2048 (r : Fin 512) (x : Fin 128) :
    k0_pay7 v17 v25 k g m (ix2 r x) = Ideal.exp2 (m (ix3 0 r x) - k0_pay6 v17 v25 k g m (ix2 r x)) := by
  pointwise [k0_pay7, k0_pay5]
  rfl

theorem p2048 (r : Fin 512) (i : Fin 2048) :
    k0_pay8 v17 v25 k g m (ix2 r i) = Ideal.exp2 (k0_pay4 v17 v25 k g (ix2 r i) - k0_pay6 v17 v25 k g m (ix2 r ⟨i.val % 128, Nat.mod_lt _ (by norm_num)⟩)) := by
  unfold k0_pay8
  show Ideal.exp2 (k0_pay4 v17 v25 k g (ix2 r i) - concatenate S512x2048 1 (List.replicate 16 ⟨S512x128, k0_pay6 v17 v25 k g m⟩) _ (ix2 r i)) = _
  rw [concatenate_replicate_apply (1 : Fin S512x2048.rank) 16 (k0_pay6 v17 v25 k g m) _ rfl (ix2 r i)
    (ix2 r ⟨i.val % 128, Nat.mod_lt _ (by norm_num)⟩) rfl (fun b hb => by
      match b with
      | ⟨0, _⟩ => rfl
      | ⟨1, _⟩ => exact absurd rfl hb)]

/-- What the body stores of the running sum, and of the accumulator, by a wide block. -/
abbrev lWide : FVec Ideal S1x512x128 .f32 :=
  k0_pay10 (k0_pay7 v17 v25 k g m) (k0_pay8 v17 v25 k g m) (k0_pay9 v17 v25 k g m) l

abbrev accWide : FVec Ideal S1x512x128 .f32 :=
  k0_pay11 (k0_pay3 v) (k0_pay7 v17 v25 k g m) (k0_pay8 v17 v25 k g m) a

theorem l2048 (r : Fin 512) (x : Fin 128) :
    lWide v17 v25 k g m l (ix3 0 r x) = k0_pay7 v17 v25 k g m (ix2 r x) * l (ix3 0 r x)
      + (k0_pay8 v17 v25 k g m (ix2 r ⟨x.val, by omega⟩) + k0_pay8 v17 v25 k g m (ix2 r ⟨128 + x.val, by omega⟩)
        + k0_pay8 v17 v25 k g m (ix2 r ⟨256 + x.val, by omega⟩) + k0_pay8 v17 v25 k g m (ix2 r ⟨384 + x.val, by omega⟩)
        + k0_pay8 v17 v25 k g m (ix2 r ⟨512 + x.val, by omega⟩) + k0_pay8 v17 v25 k g m (ix2 r ⟨640 + x.val, by omega⟩)
        + k0_pay8 v17 v25 k g m (ix2 r ⟨768 + x.val, by omega⟩) + k0_pay8 v17 v25 k g m (ix2 r ⟨896 + x.val, by omega⟩)
        + k0_pay8 v17 v25 k g m (ix2 r ⟨1024 + x.val, by omega⟩) + k0_pay8 v17 v25 k g m (ix2 r ⟨1152 + x.val, by omega⟩)
        + k0_pay8 v17 v25 k g m (ix2 r ⟨1280 + x.val, by omega⟩) + k0_pay8 v17 v25 k g m (ix2 r ⟨1408 + x.val, by omega⟩)
        + k0_pay8 v17 v25 k g m (ix2 r ⟨1536 + x.val, by omega⟩) + k0_pay8 v17 v25 k g m (ix2 r ⟨1664 + x.val, by omega⟩)
        + k0_pay8 v17 v25 k g m (ix2 r ⟨1792 + x.val, by omega⟩) + k0_pay8 v17 v25 k g m (ix2 r ⟨1920 + x.val, by omega⟩)) := by
  pointwise [lWide, k0_pay10, k0_pay9]

theorem acc2048 (r : Fin 512) (x : Fin 128) :
    accWide v17 v25 k g m a v (ix3 0 r x) = k0_pay7 v17 v25 k g m (ix2 r x) * a (ix3 0 r x) + ∑ i : Fin 2048, k0_pay8 v17 v25 k g m (ix2 r i) * v (ix2 i x) := by
  pointwise [accWide, k0_pay11, k0_pay3]

theorem m2048 (r : Fin 512) (x : Fin 128) : k0_pay12 (k0_pay6 v17 v25 k g m) (ix3 0 r x) = k0_pay6 v17 v25 k g m (ix2 r x) := by
  pointwise [k0_pay12]

/-- The update of every row by a block of 2048 keys. -/
theorem upd2048 {v17 : FVec Ideal S1x1 .f32} {v25 : FVec Ideal S512x128 .bf16} {k : Vec Ideal S2048x128 .bf16} {g : Vec Ideal S1x1x2048 .f32}
    {m l a : Vec Ideal S1x512x128 .f32} {v : Vec Ideal S2048x128 .bf16}
    (sc : Fin 512 → ℕ → EReal) (val : ℕ → Fin 128 → EReal) (nb : ℕ)
    (hs : ∀ r i, k0_pay4 v17 v25 k g (ix2 r i) = sc r (128 * nb + i.val)) (hv : ∀ i x, v (ix2 i x) = val (128 * nb + i.val) x)
    (hsc : ∀ r j, sc r j ≠ ⊤) (hr : ∀ r, ∃ i : Fin 2048, sc r (128 * nb + i.val) ≠ ⊥)
    (h : ∀ r, RowInv (sc r) val nb (fun x => m (ix3 0 r x)) (fun x => l (ix3 0 r x)) (fun x => a (ix3 0 r x))) (r : Fin 512) :
    RowInv (sc r) val (nb + 16) (fun x => k0_pay12 (k0_pay6 v17 v25 k g m) (ix3 0 r x)) (fun x => lWide v17 v25 k g m l (ix3 0 r x))
      (fun x => accWide v17 v25 k g m a v (ix3 0 r x)) := by
  refine RowInv.step 16 2048 rfl (h r) (hsc r) (hr r) (fun x => ?_) (fun x => ?_) (fun x => ?_)
  · rw [m2048, max2048]
    simp only [hs]
  · have hx := x.isLt
    have hm : ∀ n : ℕ, (128 * n + x.val) % 128 = x.val := fun n => by omega
    simp only [m2048, l2048, alpha2048, p2048, hs, Finset.sum_range_succ, Finset.sum_range_zero, zero_add]
    congr 1
    have e : ∀ (j b : ℕ) (hj : j < 2048), j = 128 * b + x.val →
        Ideal.exp2 (sc r (128 * nb + j) - k0_pay6 v17 v25 k g m (ix2 r ⟨j % 128, Nat.mod_lt _ (by norm_num)⟩))
          = Ideal.exp2 (sc r (128 * nb + (128 * b + x.val)) - k0_pay6 v17 v25 k g m (ix2 r x)) := by
      intro j b hj hb
      subst hb
      simp only [hm]
    rw [e _ 0 (by omega) (by omega), e _ 1 (by omega) (by omega), e _ 2 (by omega) (by omega), e _ 3 (by omega) (by omega),
      e _ 4 (by omega) (by omega), e _ 5 (by omega) (by omega), e _ 6 (by omega) (by omega), e _ 7 (by omega) (by omega),
      e _ 8 (by omega) (by omega), e _ 9 (by omega) (by omega), e _ 10 (by omega) (by omega), e _ 11 (by omega) (by omega),
      e _ 12 (by omega) (by omega), e _ 13 (by omega) (by omega), e _ 14 (by omega) (by omega), e _ 15 (by omega) (by omega)]
  · simp only [m2048, acc2048, alpha2048, p2048, hs, hv]

end wide

/-! ## The end of a tile -/

theorem out_at (l a : Vec Ideal S1x512x128 .f32) (r : Fin 512) (x : Fin 128) :
    k0_pay2 l a (ix2 r x) = Ideal.div (a (ix3 0 r x)) (∑ y : Fin 128, l (ix3 0 r y)) := by
  pointwise [k0_pay2]

theorem out_at' (l a : Vec Ideal S1x512x128 .f32) (r : Fin 512) (x : Fin 128) :
    k0_pay1 l a (ix2 r x) = Ideal.div (a (ix3 0 r x)) (∑ y : Fin 128, l (ix3 0 r y)) := by
  pointwise [k0_pay1]

/-! ## The start of a tile -/

theorem gate_at (w : Vec Ideal S1x1x128 .f32) : k0_pay84 w (ix2 0 0) = w (ix3 0 0 0) := by
  pointwise [k0_pay84]

theorem gate_at' (w : Vec Ideal S1x1x128 .f32) : k0_pay85 w (ix2 0 0) = w (ix3 0 0 0) := by
  pointwise [k0_pay85]

theorem query_at (w : Vec Ideal S512x128 .f32) (r : Fin 512) (d : Fin 128) : k0_pay86 w (ix2 r d) = w (ix2 r d) * (qsc : EReal) := by
  pointwise [k0_pay86]
  rw [named_q_scale]

theorem query_at' (w : Vec Ideal S512x128 .f32) (r : Fin 512) (d : Fin 128) : k0_pay87 w (ix2 r d) = w (ix2 r d) * (qsc : EReal) := by
  pointwise [k0_pay87]
  rw [named_q_scale]

theorem zero_m (e : Fin 2) (r : Fin 512) (x : Fin 128) : k0_pay81 (F := Ideal) (ix3 e r x) = ⊥ := by
  pointwise [k0_pay81]
  exact neg_inf

theorem zero_l (e : Fin 2) (r : Fin 512) (x : Fin 128) : k0_pay82 (F := Ideal) (ix3 e r x) = 0 := by
  pointwise [k0_pay82]

theorem zero_acc (e : Fin 2) (r : Fin 512) (x : Fin 128) : k0_pay83 (F := Ideal) (ix3 e r x) = 0 := by
  pointwise [k0_pay83]

end Cert.Fox

end
-- ==== Proof.State.lean ====
/- The three scratch buffers as lists of writes, and the running softmax's invariant on what they hold: what a block of 512
   or of 2048 keys writes for one head keeps it, and leaves the other head's half alone. -/
module

public import proofs.«01_k».proof.Proof.Steps
public import proofs.«01_k».proof.Proof.Gen.KernelIdeal.Frame

@[expose] public section

set_option maxRecDepth 16384
set_option maxHeartbeats 1000000

noncomputable section

namespace Cert.Fox

open Idealize.ShloMosaic Cert.KernelIdeal Cert.KernelIdeal.Gen

/-- The writes to one scratch buffer, the last one first. -/
abbrev Writes := List (View.Piece (Elt Ideal) S2x512x128 .f32)

/-- The whole scratch buffer, its first head's half, its second head's half. -/
abbrev HF : Rect S2x512x128 := Rect.unit ![0, 0, 0] S2x512x128.size inb_S2x512x128_S2x512x128_0_0_0
abbrev H0 : Rect S2x512x128 := Rect.unit ![0, 0, 0] S1x512x128.size inb_S2x512x128_S1x512x128_0_0_0
abbrev H1 : Rect S2x512x128 := Rect.unit ![1, 0, 0] S1x512x128.size inb_S2x512x128_S1x512x128_1_0_0

theorem embF (e : Fin 2) (r : Fin 512) (x : Fin 128) : HF.emb (ix3 e r x) = ix3 e r x := by
  funext a; apply Fin.ext
  match a with
  | ⟨0, _⟩ => show 0 + 1 * e.val = e.val; omega
  | ⟨1, _⟩ => show 0 + 1 * r.val = r.val; omega
  | ⟨2, _⟩ => show 0 + 1 * x.val = x.val; omega

theorem emb0 (r : Fin 512) (x : Fin 128) : H0.emb (ix3 0 r x) = ix3 0 r x := by
  funext a; apply Fin.ext
  match a with
  | ⟨0, _⟩ => rfl
  | ⟨1, _⟩ => show 0 + 1 * r.val = r.val; omega
  | ⟨2, _⟩ => show 0 + 1 * x.val = x.val; omega

theorem emb1 (r : Fin 512) (x : Fin 128) : H1.emb (ix3 0 r x) = ix3 1 r x := by
  funext a; apply Fin.ext
  match a with
  | ⟨0, _⟩ => rfl
  | ⟨1, _⟩ => show 0 + 1 * r.val = r.val; omega
  | ⟨2, _⟩ => show 0 + 1 * x.val = x.val; omega

theorem canonF (w : FVec Ideal S2x512x128 .f32) (L : Writes) (e : Fin 2) (r : Fin 512) (x : Fin 128) :
    View.canon (⟨HF, w⟩ :: L) (ix3 e r x) = w (ix3 e r x) := by
  conv_lhs => rw [← embF e r x]
  exact View.canon_cons_emb HF w L _

theorem canon0 (w : FVec Ideal S1x512x128 .f32) (L : Writes) (r : Fin 512) (x : Fin 128) :
    View.canon (⟨H0, w⟩ :: L) (ix3 0 r x) = w (ix3 0 r x) := by
  conv_lhs => rw [← emb0 r x]
  exact View.canon_cons_emb H0 w L _

theorem canon1 (w : FVec Ideal S1x512x128 .f32) (L : Writes) (r : Fin 512) (x : Fin 128) :
    View.canon (⟨H1, w⟩ :: L) (ix3 1 r x) = w (ix3 0 r x) := by
  conv_lhs => rw [← emb1 r x]
  exact View.canon_cons_emb H1 w L _

theorem not_mem0 (r : Fin 512) (x : Fin 128) : (ix3 1 r x : S2x512x128.Idx) ∉ H0.set := by
  intro h
  obtain ⟨i, hi, he⟩ := H0.mem_set.mp h 0
  have hi' : i < 1 := hi
  have he' : (1 : ℕ) = 0 + 1 * i := he
  omega

theorem not_mem1 (r : Fin 512) (x : Fin 128) : (ix3 0 r x : S2x512x128.Idx) ∉ H1.set := by
  intro h
  obtain ⟨i, hi, he⟩ := H1.mem_set.mp h 0
  have he' : (0 : ℕ) = 1 + 1 * i := he
  omega

theorem canon0_1 (w : FVec Ideal S1x512x128 .f32) (L : Writes) (r : Fin 512) (x : Fin 128) :
    View.canon (⟨H0, w⟩ :: L) (ix3 1 r x) = View.canon L (ix3 1 r x) := by
  rw [View.canon_cons]
  exact H0.overlay_of_not_mem _ _ (not_mem0 r x)

theorem canon1_0 (w : FVec Ideal S1x512x128 .f32) (L : Writes) (r : Fin 512) (x : Fin 128) :
    View.canon (⟨H1, w⟩ :: L) (ix3 0 r x) = View.canon L (ix3 0 r x) := by
  rw [View.canon_cons]
  exact H1.overlay_of_not_mem _ _ (not_mem1 r x)

/-- A load of one head's half reads what the writes left there. -/
theorem load0 (M : Memref sig .tc .vmem S2x512x128 .f32) (L : Writes) (r : Fin 512) (x : Fin 128) :
    M.view.readCov L H0.toLoadRect (ix3 0 r x) = View.canon L (ix3 0 r x) := by
  rw [View.readCov_eq_canon']
  exact congrArg (View.canon L) (emb0 r x)

theorem load1 (M : Memref sig .tc .vmem S2x512x128 .f32) (L : Writes) (r : Fin 512) (x : Fin 128) :
    M.view.readCov L H1.toLoadRect (ix3 0 r x) = View.canon L (ix3 1 r x) := by
  rw [View.readCov_eq_canon']
  exact congrArg (View.canon L) (emb1 r x)

/-- The rows of head `e`, after the keys below `128 * nb`: the maxima in `M`, the sums in `L`, the accumulators in `A`. -/
def HInv (e : Fin 2) (sc : Fin 512 → ℕ → EReal) (val : ℕ → Fin 128 → EReal) (nb : ℕ) (M L A : Writes) : Prop :=
  ∀ r, RowInv (sc r) val nb (fun x => View.canon M (ix3 e r x)) (fun x => View.canon L (ix3 e r x)) (fun x => View.canon A (ix3 e r x))

section
variable {sc : Fin 512 → ℕ → EReal} {val : ℕ → Fin 128 → EReal} {nb : ℕ} {M L A : Writes}

theorem HInv.init (e : Fin 2) : HInv e sc val 0 [⟨HF, k0_pay81 (F := Ideal)⟩] [⟨HF, k0_pay82 (F := Ideal)⟩] [⟨HF, k0_pay83 (F := Ideal)⟩] := by
  intro r
  exact RowInv.init (sc r) val _ _ _ (fun x => by rw [canonF, zero_m]) (fun x => by rw [canonF, zero_l]) (fun x => by rw [canonF, zero_acc])

theorem HInv.of0 {m l a : FVec Ideal S1x512x128 .f32}
    (h : ∀ r, RowInv (sc r) val nb (fun x => m (ix3 0 r x)) (fun x => l (ix3 0 r x)) (fun x => a (ix3 0 r x))) :
    HInv 0 sc val nb (⟨H0, m⟩ :: M) (⟨H0, l⟩ :: L) (⟨H0, a⟩ :: A) := by
  intro r
  simp only [canon0]
  exact h r

theorem HInv.of1 {m l a : FVec Ideal S1x512x128 .f32}
    (h : ∀ r, RowInv (sc r) val nb (fun x => m (ix3 0 r x)) (fun x => l (ix3 0 r x)) (fun x => a (ix3 0 r x))) :
    HInv 1 sc val nb (⟨H1, m⟩ :: M) (⟨H1, l⟩ :: L) (⟨H1, a⟩ :: A) := by
  intro r
  simp only [canon1]
  exact h r

theorem HInv.skip0 (m l a : FVec Ideal S1x512x128 .f32) (h : HInv 1 sc val nb M L A) :
    HInv 1 sc val nb (⟨H0, m⟩ :: M) (⟨H0, l⟩ :: L) (⟨H0, a⟩ :: A) := by
  intro r
  simp only [canon0_1]
  exact h r

theorem HInv.skip1 (m l a : FVec Ideal S1x512x128 .f32) (h : HInv 0 sc val nb M L A) :
    HInv 0 sc val nb (⟨H1, m⟩ :: M) (⟨H1, l⟩ :: L) (⟨H1, a⟩ :: A) := by
  intro r
  simp only [canon1_0]
  exact h r

variable (arg7 arg8 arg9 : Memref sig .tc .vmem S2x512x128 .f32)

/-- A block of 512 keys, for the first head. -/
theorem HInv.step0 {s : FVec Ideal S512x512 .f32} {v : FVec Ideal S512x128 .bf16}
    (hs : ∀ r i, s (ix2 r i) = sc r (128 * nb + i.val)) (hv : ∀ i x, v (ix2 i x) = val (128 * nb + i.val) x)
    (hsc : ∀ r j, sc r j ≠ ⊤) (hr : ∀ r, ∃ i : Fin 512, sc r (128 * nb + i.val) ≠ ⊥) (h : HInv 0 sc val nb M L A) :
    HInv 0 sc val (nb + 4) (⟨H0, k0_pay130 s (arg7.view.readCov M H0.toLoadRect)⟩ :: M)
      (⟨H0, k0_pay128 s (arg7.view.readCov M H0.toLoadRect) (arg8.view.readCov L H0.toLoadRect)⟩ :: L)
      (⟨H0, k0_pay129 v s (arg7.view.readCov M H0.toLoadRect) (arg9.view.readCov A H0.toLoadRect)⟩ :: A) := by
  refine HInv.of0 (upd512 sc val nb hs hv hsc hr fun r => ?_)
  simp only [load0]
  exact h r

/-- A block of 512 keys, for the second head. -/
theorem HInv.step1 {s : FVec Ideal S512x512 .f32} {v : FVec Ideal S512x128 .bf16}
    (hs : ∀ r i, s (ix2 r i) = sc r (128 * nb + i.val)) (hv : ∀ i x, v (ix2 i x) = val (128 * nb + i.val) x)
    (hsc : ∀ r j, sc r j ≠ ⊤) (hr : ∀ r, ∃ i : Fin 512, sc r (128 * nb + i.val) ≠ ⊥) (h : HInv 1 sc val nb M L A) :
    HInv 1 sc val (nb + 4) (⟨H1, k0_pay130 s (arg7.view.readCov M H1.toLoadRect)⟩ :: M)
      (⟨H1, k0_pay128 s (arg7.view.readCov M H1.toLoadRect) (arg8.view.readCov L H1.toLoadRect)⟩ :: L)
      (⟨H1, k0_pay129 v s (arg7.view.readCov M H1.toLoadRect) (arg9.view.readCov A H1.toLoadRect)⟩ :: A) := by
  refine HInv.of1 (upd512 sc val nb hs hv hsc hr fun r => ?_)
  simp only [load1]
  exact h r

/-- A block of 2048 keys, for the first head. -/
theorem HInv.wide0 {v17 : FVec Ideal S1x1 .f32} {v25 : FVec Ideal S512x128 .bf16} {k : Vec Ideal S2048x128 .bf16} {g : Vec Ideal S1x1x2048 .f32}
    {v : Vec Ideal S2048x128 .bf16} {m l a : Vec Ideal S1x512x128 .f32}
    (hm : ∀ r x, m (ix3 0 r x) = View.canon M (ix3 0 r x)) (hl : ∀ r x, l (ix3 0 r x) = View.canon L (ix3 0 r x))
    (ha : ∀ r x, a (ix3 0 r x) = View.canon A (ix3 0 r x))
    (hs : ∀ r i, k0_pay4 v17 v25 k g (ix2 r i) = sc r (128 * nb + i.val)) (hv : ∀ i x, v (ix2 i x) = val (128 * nb + i.val) x)
    (hsc : ∀ r j, sc r j ≠ ⊤) (hr : ∀ r, ∃ i : Fin 2048, sc r (128 * nb + i.val) ≠ ⊥) (h : HInv 0 sc val nb M L A) :
    HInv 0 sc val (nb + 16) (⟨H0, k0_pay12 (k0_pay6 v17 v25 k g m)⟩ :: M) (⟨H0, lWide v17 v25 k g m l⟩ :: L)
      (⟨H0, accWide v17 v25 k g m a v⟩ :: A) := by
  refine HInv.of0 (upd2048 sc val nb hs hv hsc hr fun r => ?_)
  simp only [hm, hl, ha]
  exact h r

/-- A block of 2048 keys, for the second head. -/
theorem HInv.wide1 {v17 : FVec Ideal S1x1 .f32} {v25 : FVec Ideal S512x128 .bf16} {k : Vec Ideal S2048x128 .bf16} {g : Vec Ideal S1x1x2048 .f32}
    {v : Vec Ideal S2048x128 .bf16} {m l a : Vec Ideal S1x512x128 .f32}
    (hm : ∀ r x, m (ix3 0 r x) = View.canon M (ix3 1 r x)) (hl : ∀ r x, l (ix3 0 r x) = View.canon L (ix3 1 r x))
    (ha : ∀ r x, a (ix3 0 r x) = View.canon A (ix3 1 r x))
    (hs : ∀ r i, k0_pay4 v17 v25 k g (ix2 r i) = sc r (128 * nb + i.val)) (hv : ∀ i x, v (ix2 i x) = val (128 * nb + i.val) x)
    (hsc : ∀ r j, sc r j ≠ ⊤) (hr : ∀ r, ∃ i : Fin 2048, sc r (128 * nb + i.val) ≠ ⊥) (h : HInv 1 sc val nb M L A) :
    HInv 1 sc val (nb + 16) (⟨H1, k0_pay12 (k0_pay6 v17 v25 k g m)⟩ :: M) (⟨H1, lWide v17 v25 k g m l⟩ :: L)
      (⟨H1, accWide v17 v25 k g m a v⟩ :: A) := by
  refine HInv.of1 (upd2048 sc val nb hs hv hsc hr fun r => ?_)
  simp only [hm, hl, ha]
  exact h r

end

/-! ## A tile's loads -/

section

/-- The head's column of the tile's two-head blocks. -/
abbrev col (e : Fin 2) (d : Fin 128) : Fin 256 := ⟨128 * e.val + d.val, by omega⟩

/-- Key `j`'s row. -/
abbrev row (j : ℕ) : Fin 8192 := Fin.ofNat 8192 j

theorem row_eq {j : ℕ} (h : j < 8192) : row j = ⟨j, h⟩ := Fin.ext (Nat.mod_eq_of_lt h)

/-- A load of rows `o ..` of one head's columns of the keys or the values. -/
theorem ld_kv (arg : Memref sig .tc .vmem S8192x256 .bf16) (harg : arg.IsWhole) (x : Vec Ideal S8192x256 .bf16) {off : Fin 2 → ℕ} {n : ℕ}
    {size : Fin 2 → ℕ} (hin : ∀ a, off a + size a ≤ S8192x256.size a) (o : ℕ) (e : Fin 2) (ho : off = ![o, 128 * e.val]) (hn : size = ![n, 128])
    (j : (Rect.unit (s := S8192x256) off size hin).toLoadRect.shape.Idx) (i : Fin n) (d : Fin 128) (hj : ∀ a, (j a).val = ![i.val, d.val] a) :
    View.readAt (Elt Ideal) arg.view (Rect.unit (s := S8192x256) off size hin).toLoadRect (harg.unread x) j = x (ix2 (row (o + i.val)) (col e d)) := by
  rw [View.readAt_apply, harg.read_unread]
  have h0 := hin 0
  subst ho hn
  have h0' : o + n ≤ 8192 := h0
  congr 1
  funext a; apply Fin.ext
  match a with
  | ⟨0, _⟩ =>
    show o + 1 * (j 0).val = (o + i.val) % 8192
    rw [hj 0, Nat.mod_eq_of_lt (by omega)]; show o + 1 * i.val = _; omega
  | ⟨1, _⟩ =>
    show 128 * e.val + 1 * (j 1).val = 128 * e.val + d.val
    rw [hj 1]; show 128 * e.val + 1 * d.val = _; omega

/-- A load of the gates `o ..` of one head. -/
theorem ld_g (arg : Memref sig .tc .vmem S2x1x8192 .f32) (harg : arg.IsWhole) (x : Vec Ideal S2x1x8192 .f32) {off : Fin 3 → ℕ} {n : ℕ}
    {size : Fin 3 → ℕ} (hin : ∀ a, off a + size a ≤ S2x1x8192.size a) (o : ℕ) (e : Fin 2) (ho : off = ![e.val, 0, o]) (hn : size = ![1, 1, n])
    (j : (Rect.unit (s := S2x1x8192) off size hin).toLoadRect.shape.Idx) (i : Fin n) (hj : (j 2).val = i.val) :
    View.readAt (Elt Ideal) arg.view (Rect.unit (s := S2x1x8192) off size hin).toLoadRect (harg.unread x) j = x (ix3 e 0 (row (o + i.val))) := by
  rw [View.readAt_apply, harg.read_unread]
  have h0 := hin 2
  subst ho hn
  have h0' : o + n ≤ 8192 := h0
  have j0 : (j 0).val = 0 := Nat.lt_one_iff.mp (j 0).isLt
  have j1 : (j 1).val = 0 := Nat.lt_one_iff.mp (j 1).isLt
  congr 1
  funext a; apply Fin.ext
  match a with
  | ⟨0, _⟩ => show e.val + 1 * (j 0).val = e.val; omega
  | ⟨1, _⟩ => show 0 + 1 * (j 1).val = 0; omega
  | ⟨2, _⟩ => show o + 1 * (j 2).val = (o + i.val) % 8192; rw [hj, Nat.mod_eq_of_lt (by omega)]; omega

/-- A load of one head's columns of the query tile. -/
theorem ld_q (arg : Memref sig .tc .vmem S512x256 .f32) (harg : arg.IsWhole) (x : Vec Ideal S512x256 .f32) {off : Fin 2 → ℕ}
    (hin : ∀ a, off a + S512x128.size a ≤ S512x256.size a) (e : Fin 2) (ho : off = ![0, 128 * e.val]) (r : Fin 512) (d : Fin 128) :
    View.readAt (Elt Ideal) arg.view (Rect.unit (s := S512x256) off S512x128.size hin).toLoadRect (harg.unread x) (ix2 r d) = x (ix2 r (col e d)) := by
  rw [View.readAt_apply, harg.read_unread]
  subst ho
  congr 1
  funext a; apply Fin.ext
  match a with
  | ⟨0, _⟩ => show 0 + 1 * r.val = r.val; omega
  | ⟨1, _⟩ => show 128 * e.val + 1 * d.val = 128 * e.val + d.val; omega

end

end Cert.Fox

end
-- ==== Proof.Offsets.lean ====
/- Where the kernel body's loads start, at each point of the grid. -/
module

public import proofs.«01_k».proof.Proof.Gen.KernelIdeal.Frame

@[expose] public section

set_option maxRecDepth 16384
set_option maxHeartbeats 1000000

namespace Cert.Fox

open Idealize.ShloMosaic Cert.KernelIdeal Cert.KernelIdeal.Gen

/-- The query tile of a grid point. -/
abbrev qi (t : Fin grid0.N) : ℕ := t.val % 16

theorem trips1 : ∀ t : Fin grid0.N, (k0_t1_loop (grid0.coords t)).trips = qi t / 4 := by decide +kernel
theorem trips2 : ∀ t : Fin grid0.N, (k0_t2_loop (grid0.coords t)).trips = 0 := by decide +kernel

theorem off1 : ∀ t : Fin grid0.N, k0_off1 (grid0.coords t) = ![0, 0, 512 * qi t] := by decide +kernel
theorem off2 : ∀ t : Fin grid0.N, k0_off2 (grid0.coords t) = ![1, 0, 512 * qi t] := by decide +kernel

theorem off3 : ∀ (t : Fin grid0.N) (k : Fin (k0_t1_loop (grid0.coords t)).trips), k0_off3 (grid0.coords t) k = ![2048 * k.val, 0] := by decide +kernel
theorem off4 : ∀ (t : Fin grid0.N) (k : Fin (k0_t1_loop (grid0.coords t)).trips), k0_off4 (grid0.coords t) k = ![0, 0, 2048 * k.val] := by decide +kernel
theorem off5 : ∀ (t : Fin grid0.N) (k : Fin (k0_t1_loop (grid0.coords t)).trips), k0_off5 (grid0.coords t) k = ![2048 * k.val, 128] := by decide +kernel
theorem off6 : ∀ (t : Fin grid0.N) (k : Fin (k0_t1_loop (grid0.coords t)).trips), k0_off6 (grid0.coords t) k = ![1, 0, 2048 * k.val] := by decide +kernel

theorem off11 : ∀ t : Fin grid0.N, k0_off11 (grid0.coords t) = ![2048 * (qi t / 4), 0] := by decide +kernel
theorem off12 : ∀ t : Fin grid0.N, k0_off12 (grid0.coords t) = ![0, 0, 2048 * (qi t / 4)] := by decide +kernel
theorem off13 : ∀ t : Fin grid0.N, k0_off13 (grid0.coords t) = ![2048 * (qi t / 4), 128] := by decide +kernel
theorem off14 : ∀ t : Fin grid0.N, k0_off14 (grid0.coords t) = ![1, 0, 2048 * (qi t / 4)] := by decide +kernel
theorem off15 : ∀ t : Fin grid0.N, k0_off15 (grid0.coords t) = ![2048 * (qi t / 4) + 512, 0] := by decide +kernel
theorem off16 : ∀ t : Fin grid0.N, k0_off16 (grid0.coords t) = ![0, 0, 2048 * (qi t / 4) + 512] := by decide +kernel
theorem off17 : ∀ t : Fin grid0.N, k0_off17 (grid0.coords t) = ![2048 * (qi t / 4) + 512, 128] := by decide +kernel
theorem off18 : ∀ t : Fin grid0.N, k0_off18 (grid0.coords t) = ![1, 0, 2048 * (qi t / 4) + 512] := by decide +kernel
theorem off19 : ∀ t : Fin grid0.N, k0_off19 (grid0.coords t) = ![2048 * (qi t / 4) + 1024, 0] := by decide +kernel
theorem off20 : ∀ t : Fin grid0.N, k0_off20 (grid0.coords t) = ![0, 0, 2048 * (qi t / 4) + 1024] := by decide +kernel
theorem off21 : ∀ t : Fin grid0.N, k0_off21 (grid0.coords t) = ![2048 * (qi t / 4) + 1024, 128] := by decide +kernel
theorem off22 : ∀ t : Fin grid0.N, k0_off22 (grid0.coords t) = ![1, 0, 2048 * (qi t / 4) + 1024] := by decide +kernel
theorem off23 : ∀ t : Fin grid0.N, k0_off23 (grid0.coords t) = ![512 * qi t, 0] := by decide +kernel
theorem off24 : ∀ t : Fin grid0.N, k0_off24 (grid0.coords t) = ![0, 0, 512 * qi t] := by decide +kernel
theorem off25 : ∀ t : Fin grid0.N, k0_off25 (grid0.coords t) = ![512 * qi t, 128] := by decide +kernel
theorem off26 : ∀ t : Fin grid0.N, k0_off26 (grid0.coords t) = ![1, 0, 512 * qi t] := by decide +kernel

end Cert.Fox

end
-- ==== Proof.Wide.lean ====
/- The loop over blocks of 2048 keys: each trip keeps the running softmax's invariant for both heads. -/
module

public import proofs.«01_k».proof.Proof.State
public import proofs.«01_k».proof.Proof.Offsets

@[expose] public section

set_option maxRecDepth 16384
set_option maxHeartbeats 1000000

noncomputable section

namespace Cert.Fox

open Idealize.ShloMosaic Cert.KernelIdeal Cert.KernelIdeal.Gen

/-- The score of query `r` of the tile at `q0` against key `j`, in base two and up to the tile's own gate. -/
abbrev score (x0 : Vec Ideal S512x256 .f32) (x1 : Vec Ideal S8192x256 .bf16) (x3 : Vec Ideal S2x1x8192 .f32) (q0 : ℕ) (e : Fin 2) (r : Fin 512) (j : ℕ) :
    EReal :=
  score1 (fun d => x0 (ix2 r (col e d)) * (qsc : EReal)) (fun d => x1 (ix2 (row j) (col e d))) (x3 (ix3 e 0 (row q0))) (x3 (ix3 e 0 (row j)))

/-- The same with the keys after the query masked. -/
def msc (x0 : Vec Ideal S512x256 .f32) (x1 : Vec Ideal S8192x256 .bf16) (x3 : Vec Ideal S2x1x8192 .f32) (q0 : ℕ) (e : Fin 2) (r : Fin 512) (j : ℕ) :
    EReal :=
  if j ≤ q0 + r.val then score x0 x1 x3 q0 e r j else ⊥

/-- Value `j` of head `e`. -/
abbrev vl (x2 : Vec Ideal S8192x256 .bf16) (e : Fin 2) (j : ℕ) (x : Fin 128) : EReal := x2 (ix2 (row j) (col e x))

/-- Every score of a key that is not masked is a real number. -/
def RealScores (x0 : Vec Ideal S512x256 .f32) (x1 : Vec Ideal S8192x256 .bf16) (x3 : Vec Ideal S2x1x8192 .f32) (q0 : ℕ) : Prop :=
  ∀ e r j, score x0 x1 x3 q0 e r j ≠ ⊤ ∧ score x0 x1 x3 q0 e r j ≠ ⊥

section
variable {x0 : Vec Ideal S512x256 .f32} {x1 x2 : Vec Ideal S8192x256 .bf16} {x3 : Vec Ideal S2x1x8192 .f32} {q0 : ℕ}

theorem msc_ne_top (h : RealScores x0 x1 x3 q0) (e : Fin 2) (r : Fin 512) (j : ℕ) : msc x0 x1 x3 q0 e r j ≠ ⊤ := by
  unfold msc
  split
  · exact (h e r j).1
  · exact bot_ne_top

theorem msc_ne_bot (h : RealScores x0 x1 x3 q0) (e : Fin 2) (r : Fin 512) (j : ℕ) (hj : j ≤ q0 + r.val) : msc x0 x1 x3 q0 e r j ≠ ⊥ := by
  unfold msc
  rw [if_pos hj]
  exact (h e r j).2
end

variable (𝒱 : Variants) (c : Dev nD) (bd : Option 𝒱.V) (t : Fin grid0.N) (arg2 : Memref sig .tc .vmem S512x256 .f32) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S2x1x8192 .f32) (harg5 : arg5.IsWhole) (arg6 : Memref sig .tc .vmem S512x256 .bf16) (harg6 : arg6.IsWhole) (arg7 : Memref sig .tc .vmem S2x512x128 .f32) (harg7 : arg7.IsWhole) (arg8 : Memref sig .tc .vmem S2x512x128 .f32) (harg8 : arg8.IsWhole) (arg9 : Memref sig .tc .vmem S2x512x128 .f32) (harg9 : arg9.IsWhole)
  (arg1 : BitVec 32) (v17 v21 : FVec Ideal S1x1 .f32) (v25 v29 : FVec Ideal S512x128 .bf16) (c4 v30 : BitVec 32)

/-- What one trip writes: for each head the updated maxima, sums and accumulators. -/
theorem trip_eq (X3 : BufTy.Contents (Elt Ideal) arg3.view.ty) (X4 : BufTy.Contents (Elt Ideal) arg4.view.ty) (X5 : BufTy.Contents (Elt Ideal) arg5.view.ty)
    (k : Fin (k0_t1_loop (grid0.coords t)).trips)
    (f7 : BufTy.Contents (Elt Ideal) arg7.view.ty) (f8 : BufTy.Contents (Elt Ideal) arg8.view.ty) (f9 : BufTy.Contents (Elt Ideal) arg9.view.ty) :
    tripL_k0_t1 (F := Ideal) 𝒱 c bd (grid0.coords t) arg2 harg2 arg3 harg3 arg4 harg4 arg5 harg5 arg6 harg6 arg7 harg7 arg8 harg8 arg9 harg9 arg1 v17 v21 v25 v29 c4 v30 X3 X4 X5 k f7 f8 f9 =
      ([⟨H1, k0_pay12 (k0_pay6 v21 v29 (View.readAt (Elt Ideal) arg3.view (Rect.unit (s := S8192x256) (k0_off5 (grid0.coords t) k) S2048x128.size (k0_off5_inb (grid0.coords t) k)).toLoadRect X3) (View.readAt (Elt Ideal) arg5.view (Rect.unit (s := S2x1x8192) (k0_off6 (grid0.coords t) k) S1x1x2048.size (k0_off6_inb (grid0.coords t) k)).toLoadRect X5) (View.readAt (Elt Ideal) arg7.view H1.toLoadRect f7))⟩,
        ⟨H0, k0_pay12 (k0_pay6 v17 v25 (View.readAt (Elt Ideal) arg3.view (Rect.unit (s := S8192x256) (k0_off3 (grid0.coords t) k) S2048x128.size (k0_off3_inb (grid0.coords t) k)).toLoadRect X3) (View.readAt (Elt Ideal) arg5.view (Rect.unit (s := S2x1x8192) (k0_off4 (grid0.coords t) k) S1x1x2048.size (k0_off4_inb (grid0.coords t) k)).toLoadRect X5) (View.readAt (Elt Ideal) arg7.view H0.toLoadRect f7))⟩],
       [⟨H1, lWide v21 v29 (View.readAt (Elt Ideal) arg3.view (Rect.unit (s := S8192x256) (k0_off5 (grid0.coords t) k) S2048x128.size (k0_off5_inb (grid0.coords t) k)).toLoadRect X3) (View.readAt (Elt Ideal) arg5.view (Rect.unit (s := S2x1x8192) (k0_off6 (grid0.coords t) k) S1x1x2048.size (k0_off6_inb (grid0.coords t) k)).toLoadRect X5) (View.readAt (Elt Ideal) arg7.view H1.toLoadRect f7) (View.readAt (Elt Ideal) arg8.view H1.toLoadRect f8)⟩,
        ⟨H0, lWide v17 v25 (View.readAt (Elt Ideal) arg3.view (Rect.unit (s := S8192x256) (k0_off3 (grid0.coords t) k) S2048x128.size (k0_off3_inb (grid0.coords t) k)).toLoadRect X3) (View.readAt (Elt Ideal) arg5.view (Rect.unit (s := S2x1x8192) (k0_off4 (grid0.coords t) k) S1x1x2048.size (k0_off4_inb (grid0.coords t) k)).toLoadRect X5) (View.readAt (Elt Ideal) arg7.view H0.toLoadRect f7) (View.readAt (Elt Ideal) arg8.view H0.toLoadRect f8)⟩],
       [⟨H1, accWide v21 v29 (View.readAt (Elt Ideal) arg3.view (Rect.unit (s := S8192x256) (k0_off5 (grid0.coords t) k) S2048x128.size (k0_off5_inb (grid0.coords t) k)).toLoadRect X3) (View.readAt (Elt Ideal) arg5.view (Rect.unit (s := S2x1x8192) (k0_off6 (grid0.coords t) k) S1x1x2048.size (k0_off6_inb (grid0.coords t) k)).toLoadRect X5) (View.readAt (Elt Ideal) arg7.view H1.toLoadRect f7) (View.readAt (Elt Ideal) arg9.view H1.toLoadRect f9) (View.readAt (Elt Ideal) arg4.view (Rect.unit (s := S8192x256) (k0_off5 (grid0.coords t) k) S2048x128.size (k0_off5_inb (grid0.coords t) k)).toLoadRect X4)⟩,
        ⟨H0, accWide v17 v25 (View.readAt (Elt Ideal) arg3.view (Rect.unit (s := S8192x256) (k0_off3 (grid0.coords t) k) S2048x128.size (k0_off3_inb (grid0.coords t) k)).toLoadRect X3) (View.readAt (Elt Ideal) arg5.view (Rect.unit (s := S2x1x8192) (k0_off4 (grid0.coords t) k) S1x1x2048.size (k0_off4_inb (grid0.coords t) k)).toLoadRect X5) (View.readAt (Elt Ideal) arg7.view H0.toLoadRect f7) (View.readAt (Elt Ideal) arg9.view H0.toLoadRect f9) (View.readAt (Elt Ideal) arg4.view (Rect.unit (s := S8192x256) (k0_off3 (grid0.coords t) k) S2048x128.size (k0_off3_inb (grid0.coords t) k)).toLoadRect X4)⟩]) := by
  unfold tripL_k0_t1 trip_k0_t1
  rfl

/-- The writes before trip `k`, and before those the fill of the buffers. -/
abbrev loopWrites (x1 x2 : Vec Ideal S8192x256 .bf16) (x3 : Vec Ideal S2x1x8192 .f32) (k : ℕ) : Writes × Writes × Writes :=
  pb_k0_t1 (F := Ideal) 𝒱 c bd (grid0.coords t) arg2 harg2 arg3 harg3 arg4 harg4 arg5 harg5 arg6 harg6 arg7 harg7 arg8 harg8 arg9 harg9 arg1 v17 v21 v25 v29 c4 v30 (harg3.unread x1) (harg4.unread x2) (harg5.unread x3)
    (arg7.view.writes (Elt Ideal) arg7.view.junk [⟨HF, k0_pay81 (F := Ideal)⟩]) (arg8.view.writes (Elt Ideal) arg8.view.junk [⟨HF, k0_pay82 (F := Ideal)⟩])
    (arg9.view.writes (Elt Ideal) arg9.view.junk [⟨HF, k0_pay83 (F := Ideal)⟩]) k

theorem read_loop (M : Memref sig .tc .vmem S2x512x128 .f32) (L I : Writes) (B : LoadRect S2x512x128) (j : B.shape.Idx) :
    View.readAt (Elt Ideal) M.view B (M.view.writes (Elt Ideal) (M.view.writes (Elt Ideal) M.view.junk I) L) j = View.canon (L ++ I) (B.idx j) := by
  rw [← View.writes_append, View.readAt_writes_junk_eq_canon]

theorem loop_inv {x0 : Vec Ideal S512x256 .f32} {x1 x2 : Vec Ideal S8192x256 .bf16} {x3 : Vec Ideal S2x1x8192 .f32}
    (hfin : RealScores x0 x1 x3 (512 * qi t))
    (h17 : v17 (ix2 0 0) = x3 (ix3 0 0 (row (512 * qi t)))) (h21 : v21 (ix2 0 0) = x3 (ix3 1 0 (row (512 * qi t))))
    (h25 : ∀ r d, v25 (ix2 r d) = x0 (ix2 r (col 0 d)) * (qsc : EReal)) (h29 : ∀ r d, v29 (ix2 r d) = x0 (ix2 r (col 1 d)) * (qsc : EReal)) (k : ℕ)
    (hk : k ≤ (k0_t1_loop (grid0.coords t)).trips) :
    let W := loopWrites 𝒱 c bd t arg2 harg2 arg3 harg3 arg4 harg4 arg5 harg5 arg6 harg6 arg7 harg7 arg8 harg8 arg9 harg9 arg1 v17 v21 v25 v29 c4 v30 x1 x2 x3 k
    HInv 0 (msc x0 x1 x3 (512 * qi t) 0) (vl x2 0) (16 * k) (W.1 ++ [⟨HF, k0_pay81 (F := Ideal)⟩]) (W.2.1 ++ [⟨HF, k0_pay82 (F := Ideal)⟩]) (W.2.2 ++ [⟨HF, k0_pay83 (F := Ideal)⟩]) ∧
    HInv 1 (msc x0 x1 x3 (512 * qi t) 1) (vl x2 1) (16 * k) (W.1 ++ [⟨HF, k0_pay81 (F := Ideal)⟩]) (W.2.1 ++ [⟨HF, k0_pay82 (F := Ideal)⟩]) (W.2.2 ++ [⟨HF, k0_pay83 (F := Ideal)⟩]) := by
  induction k with
  | zero => exact ⟨HInv.init 0, HInv.init 1⟩
  | succ k ih =>
    have hk' : k < (k0_t1_loop (grid0.coords t)).trips := hk
    have ht : k < qi t / 4 := by rw [← trips1 t]; exact hk'
    have hqi : qi t < 16 := Nat.mod_lt _ (by norm_num)
    obtain ⟨i0, i1⟩ := ih (Nat.le_of_lt hk')
    intro W
    have hW : W = _ := pb_k0_t1_succ (F := Ideal) 𝒱 c bd (grid0.coords t) arg2 harg2 arg3 harg3 arg4 harg4 arg5 harg5 arg6 harg6 arg7 harg7 arg8 harg8 arg9 harg9 arg1 v17 v21 v25 v29 c4 v30 (harg3.unread x1) (harg4.unread x2) (harg5.unread x3)
      _ _ _ ⟨k, hk'⟩
    rw [trip_eq] at hW
    rw [hW]
    have hmask : ∀ (e : Fin 2) (r : Fin 512) (i : Fin 2048), score x0 x1 x3 (512 * qi t) e r (128 * (16 * k) + i.val) = msc x0 x1 x3 (512 * qi t) e r (128 * (16 * k) + i.val) :=
      fun e r i => (if_pos (by omega)).symm
    constructor
    · refine HInv.skip1 _ _ _ (HInv.wide0 (nb := 16 * k) (fun r x => ?_) (fun r x => ?_) (fun r x => ?_) (fun r i => ?_) (fun i x => ?_)
        (msc_ne_top hfin 0) (fun r => ⟨0, msc_ne_bot hfin 0 r _ (by show 128 * (16 * k) + 0 ≤ _; omega)⟩) i0)
      · exact (read_loop arg7 _ _ H0.toLoadRect (ix3 0 r x)).trans (congrArg (View.canon _) (emb0 r x))
      · exact (read_loop arg8 _ _ H0.toLoadRect (ix3 0 r x)).trans (congrArg (View.canon _) (emb0 r x))
      · exact (read_loop arg9 _ _ H0.toLoadRect (ix3 0 r x)).trans (congrArg (View.canon _) (emb0 r x))
      · rw [wide_score, h17, ← hmask]
        unfold score score1
        congr 1
        · refine Finset.sum_congr rfl fun d _ => ?_
          beta_reduce
          rw [h25, ld_kv arg3 harg3 x1 _ (2048 * k) 0 (off3 t ⟨k, hk'⟩) rfl _ i d (fun a => by match a with | ⟨0, _⟩ => rfl | ⟨1, _⟩ => rfl),
            show 128 * (16 * k) = 2048 * k by omega]
        · rw [ld_g arg5 harg5 x3 _ (2048 * k) 0 (off4 t ⟨k, hk'⟩) rfl _ i rfl, show 128 * (16 * k) = 2048 * k by omega]
      · rw [ld_kv arg4 harg4 x2 _ (2048 * k) 0 (off3 t ⟨k, hk'⟩) rfl _ i x (fun a => by match a with | ⟨0, _⟩ => rfl | ⟨1, _⟩ => rfl),
          show 128 * (16 * k) = 2048 * k by omega]
    · refine HInv.wide1 (nb := 16 * k) (fun r x => ?_) (fun r x => ?_) (fun r x => ?_) (fun r i => ?_) (fun i x => ?_)
        (msc_ne_top hfin 1) (fun r => ⟨0, msc_ne_bot hfin 1 r _ (by show 128 * (16 * k) + 0 ≤ _; omega)⟩) (HInv.skip0 _ _ _ i1)
      · exact ((read_loop arg7 _ _ H1.toLoadRect (ix3 0 r x)).trans (congrArg (View.canon _) (emb1 r x))).trans (canon0_1 _ _ r x).symm
      · exact ((read_loop arg8 _ _ H1.toLoadRect (ix3 0 r x)).trans (congrArg (View.canon _) (emb1 r x))).trans (canon0_1 _ _ r x).symm
      · exact ((read_loop arg9 _ _ H1.toLoadRect (ix3 0 r x)).trans (congrArg (View.canon _) (emb1 r x))).trans (canon0_1 _ _ r x).symm
      · rw [wide_score, h21, ← hmask]
        unfold score score1
        congr 1
        · refine Finset.sum_congr rfl fun d _ => ?_
          beta_reduce
          rw [h29, ld_kv arg3 harg3 x1 _ (2048 * k) 1 (off5 t ⟨k, hk'⟩) rfl _ i d (fun a => by match a with | ⟨0, _⟩ => rfl | ⟨1, _⟩ => rfl),
            show 128 * (16 * k) = 2048 * k by omega]
        · rw [ld_g arg5 harg5 x3 _ (2048 * k) 1 (off6 t ⟨k, hk'⟩) rfl _ i rfl, show 128 * (16 * k) = 2048 * k by omega]
      · rw [ld_kv arg4 harg4 x2 _ (2048 * k) 1 (off5 t ⟨k, hk'⟩) rfl _ i x (fun a => by match a with | ⟨0, _⟩ => rfl | ⟨1, _⟩ => rfl),
          show 128 * (16 * k) = 2048 * k by omega]

end Cert.Fox

end
-- ==== Proof.Tile.lean ====
/- One tile of the kernel body: the state after the loop, and what the blocks of 512 keys after it do to it. -/
module

public import proofs.«01_k».proof.Proof.Wide

@[expose] public section

set_option maxRecDepth 16384
set_option maxHeartbeats 1000000

noncomputable section

namespace Cert.Fox

open Idealize.ShloMosaic Cert.KernelIdeal Cert.KernelIdeal.Gen

theorem value_at (v : Vec Ideal S512x128 .bf16) (i : Fin 512) (x : Fin 128) : k0_pay39 v (ix2 i x) = v (ix2 i x) := by
  pointwise [k0_pay39]

variable (c : Dev nD) (t : Fin grid0.N) (arg2 : Memref sig .tc .vmem S512x256 .f32) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S2x1x8192 .f32) (harg5 : arg5.IsWhole) (arg6 : Memref sig .tc .vmem S512x256 .bf16) (harg6 : arg6.IsWhole) (arg7 : Memref sig .tc .vmem S2x512x128 .f32) (harg7 : arg7.IsWhole) (arg8 : Memref sig .tc .vmem S2x512x128 .f32) (harg8 : arg8.IsWhole) (arg9 : Memref sig .tc .vmem S2x512x128 .f32) (harg9 : arg9.IsWhole)
  (arg1 : BitVec 32) (v17 v21 : FVec Ideal S1x1 .f32) (v25 v29 : FVec Ideal S512x128 .bf16) (c4 v30 v51 : BitVec 32)
  (x0 : Vec Ideal S512x256 .f32) (x1 x2 : Vec Ideal S8192x256 .bf16) (x3 : Vec Ideal S2x1x8192 .f32)
  (hfin : RealScores x0 x1 x3 (512 * qi t))
  (h17 : v17 (ix2 0 0) = x3 (ix3 0 0 (row (512 * qi t)))) (h21 : v21 (ix2 0 0) = x3 (ix3 1 0 (row (512 * qi t))))
  (h25 : ∀ r d, v25 (ix2 r d) = x0 (ix2 r (col 0 d)) * (qsc : EReal)) (h29 : ∀ r d, v29 (ix2 r d) = x0 (ix2 r (col 1 d)) * (qsc : EReal))

include hfin h17 h21 h25 h29

/-- The state after the loop (the second loop, of the trips left over by a step of one, makes none). -/
theorem start_inv :
    let W := loopWrites Variants.none c none t arg2 harg2 arg3 harg3 arg4 harg4 arg5 harg5 arg6 harg6 arg7 harg7 arg8 harg8 arg9 harg9 arg1 v17 v21 v25 v29 c4 v30 x1 x2 x3 (Scf.trips (k0_t1_loop (grid0.coords t)).lb (k0_t1_loop (grid0.coords t)).ub (k0_t1_loop (grid0.coords t)).st)
    let W2 := pb_k0_t2 (F := Ideal) Variants.none c none (grid0.coords t) arg2 harg2 arg3 harg3 arg4 harg4 arg5 harg5 arg6 harg6 arg7 harg7 arg8 harg8 arg9 harg9 arg1 v17 v21 v25 v29 c4 v30 v51 (harg3.unread x1) (harg4.unread x2) (harg5.unread x3)
        (arg7.view.writes (Elt Ideal) arg7.view.junk (W.1 ++ [⟨HF, k0_pay81 (F := Ideal)⟩])) (arg8.view.writes (Elt Ideal) arg8.view.junk (W.2.1 ++ [⟨HF, k0_pay82 (F := Ideal)⟩]))
        (arg9.view.writes (Elt Ideal) arg9.view.junk (W.2.2 ++ [⟨HF, k0_pay83 (F := Ideal)⟩]))
        (Scf.trips (k0_t2_loop (grid0.coords t)).lb (k0_t2_loop (grid0.coords t)).ub (k0_t2_loop (grid0.coords t)).st)
    HInv 0 (msc x0 x1 x3 (512 * qi t) 0) (vl x2 0) (16 * (qi t / 4)) (W2.1 ++ (W.1 ++ [⟨HF, k0_pay81 (F := Ideal)⟩])) (W2.2.1 ++ (W.2.1 ++ [⟨HF, k0_pay82 (F := Ideal)⟩])) (W2.2.2 ++ (W.2.2 ++ [⟨HF, k0_pay83 (F := Ideal)⟩])) ∧
    HInv 1 (msc x0 x1 x3 (512 * qi t) 1) (vl x2 1) (16 * (qi t / 4)) (W2.1 ++ (W.1 ++ [⟨HF, k0_pay81 (F := Ideal)⟩])) (W2.2.1 ++ (W.2.1 ++ [⟨HF, k0_pay82 (F := Ideal)⟩])) (W2.2.2 ++ (W.2.2 ++ [⟨HF, k0_pay83 (F := Ideal)⟩])) := by
  intro W W2
  have h2 : W2 = ([], [], []) := by
    have e : Scf.trips (k0_t2_loop (grid0.coords t)).lb (k0_t2_loop (grid0.coords t)).ub (k0_t2_loop (grid0.coords t)).st = 0 := trips2 t
    show pb_k0_t2 (F := Ideal) _ _ _ _ _ _ _ _ _ _ _ _ _ _ _ _ _ _ _ _ _ _ _ _ _ _ _ _ _ _ _ _ _ _ _ = _
    rw [e]
    rfl
  rw [h2]
  have h := loop_inv Variants.none c none t arg2 harg2 arg3 harg3 arg4 harg4 arg5 harg5 arg6 harg6 arg7 harg7 arg8 harg8 arg9 harg9 arg1 v17 v21 v25 v29 c4 v30 (x2 := x2) hfin h17 h21 h25 h29 _ (le_refl _)
  rw [← trips1 t]
  exact h

/-- A block of 512 keys before the tile, for both heads. -/
theorem pair_rem (M L A : Writes) (nb : ℕ) (hnb : 128 * nb + 512 ≤ 8192) (hlt : 128 * nb + 512 ≤ 512 * qi t)
    (oK0 oK1 : Fin 2 → ℕ) (oG0 oG1 : Fin 3 → ℕ)
    (ioK0 : ∀ a, oK0 a + S512x128.size a ≤ S8192x256.size a) (ioK1 : ∀ a, oK1 a + S512x128.size a ≤ S8192x256.size a)
    (ioG0 : ∀ a, oG0 a + S1x1x512.size a ≤ S2x1x8192.size a) (ioG1 : ∀ a, oG1 a + S1x1x512.size a ≤ S2x1x8192.size a)
    (hK0 : oK0 = ![128 * nb, 0]) (hK1 : oK1 = ![128 * nb, 128]) (hG0 : oG0 = ![0, 0, 128 * nb]) (hG1 : oG1 = ![1, 0, 128 * nb])
    (h : HInv 0 (msc x0 x1 x3 (512 * qi t) 0) (vl x2 0) (nb) M L A ∧ HInv 1 (msc x0 x1 x3 (512 * qi t) 1) (vl x2 1) (nb) M L A)
    (s0 s1 : FVec Ideal S512x512 .f32) (v0 v1 : FVec Ideal S512x128 .bf16)
    (es0 : s0 = k0_pay40 v17 v25 (View.readAt (Elt Ideal) arg3.view (Rect.unit (s := S8192x256) oK0 S512x128.size ioK0).toLoadRect (harg3.unread x1)) (View.readAt (Elt Ideal) arg5.view (Rect.unit (s := S2x1x8192) oG0 S1x1x512.size ioG0).toLoadRect (harg5.unread x3)))
    (es1 : s1 = k0_pay40 v21 v29 (View.readAt (Elt Ideal) arg3.view (Rect.unit (s := S8192x256) oK1 S512x128.size ioK1).toLoadRect (harg3.unread x1)) (View.readAt (Elt Ideal) arg5.view (Rect.unit (s := S2x1x8192) oG1 S1x1x512.size ioG1).toLoadRect (harg5.unread x3)))
    (ev0 : v0 = k0_pay39 (View.readAt (Elt Ideal) arg4.view (Rect.unit (s := S8192x256) oK0 S512x128.size ioK0).toLoadRect (harg4.unread x2))) (ev1 : v1 = k0_pay39 (View.readAt (Elt Ideal) arg4.view (Rect.unit (s := S8192x256) oK1 S512x128.size ioK1).toLoadRect (harg4.unread x2))) :
    let M0 : Writes := ⟨H0, k0_pay130 s0 (arg7.view.readCov M H0.toLoadRect)⟩ :: M
    let L0 : Writes := ⟨H0, k0_pay128 s0 (arg7.view.readCov M H0.toLoadRect) (arg8.view.readCov L H0.toLoadRect)⟩ :: L
    let A0 : Writes := ⟨H0, k0_pay129 v0 s0 (arg7.view.readCov M H0.toLoadRect) (arg9.view.readCov A H0.toLoadRect)⟩ :: A
    let M1 : Writes := ⟨H1, k0_pay130 s1 (arg7.view.readCov M0 H1.toLoadRect)⟩ :: M0
    let L1 : Writes := ⟨H1, k0_pay128 s1 (arg7.view.readCov M0 H1.toLoadRect) (arg8.view.readCov L0 H1.toLoadRect)⟩ :: L0
    let A1 : Writes := ⟨H1, k0_pay129 v1 s1 (arg7.view.readCov M0 H1.toLoadRect) (arg9.view.readCov A0 H1.toLoadRect)⟩ :: A0
    HInv 0 (msc x0 x1 x3 (512 * qi t) 0) (vl x2 0) (nb + 4) M1 L1 A1 ∧ HInv 1 (msc x0 x1 x3 (512 * qi t) 1) (vl x2 1) (nb + 4) M1 L1 A1 := by
  obtain ⟨i0, i1⟩ := h
  intro M0 L0 A0 M1 L1 A1
  have hqi : qi t < 16 := Nat.mod_lt _ (by norm_num)
  have e0 : ∀ r i, s0 (ix2 r i) = msc x0 x1 x3 (512 * qi t) 0 r (128 * nb + i.val) := fun r i => by
    rw [es0, rem_score, h17]
    unfold msc
    rw [if_pos (by omega)]
    unfold score score1
    congr 1
    · refine Finset.sum_congr rfl fun d _ => ?_
      beta_reduce
      rw [h25, ld_kv arg3 harg3 x1 _ (128 * nb) 0 hK0 rfl _ i d (fun a => by match a with | ⟨0, _⟩ => rfl | ⟨1, _⟩ => rfl)]
    · rw [ld_g arg5 harg5 x3 _ (128 * nb) 0 hG0 rfl _ i rfl]
  have e1 : ∀ r i, s1 (ix2 r i) = msc x0 x1 x3 (512 * qi t) 1 r (128 * nb + i.val) := fun r i => by
    rw [es1, rem_score, h21]
    unfold msc
    rw [if_pos (by omega)]
    unfold score score1
    congr 1
    · refine Finset.sum_congr rfl fun d _ => ?_
      beta_reduce
      rw [h29, ld_kv arg3 harg3 x1 _ (128 * nb) 1 hK1 rfl _ i d (fun a => by match a with | ⟨0, _⟩ => rfl | ⟨1, _⟩ => rfl)]
    · rw [ld_g arg5 harg5 x3 _ (128 * nb) 1 hG1 rfl _ i rfl]
  have u0 : ∀ i x, v0 (ix2 i x) = vl x2 0 (128 * nb + i.val) x := fun i x => by
    rw [ev0, value_at, ld_kv arg4 harg4 x2 _ (128 * nb) 0 hK0 rfl _ i x (fun a => by match a with | ⟨0, _⟩ => rfl | ⟨1, _⟩ => rfl)]
  have u1 : ∀ i x, v1 (ix2 i x) = vl x2 1 (128 * nb + i.val) x := fun i x => by
    rw [ev1, value_at, ld_kv arg4 harg4 x2 _ (128 * nb) 1 hK1 rfl _ i x (fun a => by match a with | ⟨0, _⟩ => rfl | ⟨1, _⟩ => rfl)]
  exact ⟨HInv.skip1 _ _ _ (HInv.step0 arg7 arg8 arg9 e0 u0 (msc_ne_top hfin 0) (fun r => ⟨0, msc_ne_bot hfin 0 r _ (by show 128 * nb + 0 ≤ _; omega)⟩) i0),
    HInv.step1 arg7 arg8 arg9 e1 u1 (msc_ne_top hfin 1) (fun r => ⟨0, msc_ne_bot hfin 1 r _ (by show 128 * nb + 0 ≤ _; omega)⟩) (HInv.skip0 _ _ _ i1)⟩

/-- The block of the tile's own keys, masked after each query, for both heads. -/
theorem pair_diag (M L A : Writes) (nb : ℕ) (hnb : 128 * nb + 512 ≤ 8192) (hlt : 128 * nb = 512 * qi t)
    (oK0 oK1 : Fin 2 → ℕ) (oG0 oG1 : Fin 3 → ℕ)
    (ioK0 : ∀ a, oK0 a + S512x128.size a ≤ S8192x256.size a) (ioK1 : ∀ a, oK1 a + S512x128.size a ≤ S8192x256.size a)
    (ioG0 : ∀ a, oG0 a + S1x1x512.size a ≤ S2x1x8192.size a) (ioG1 : ∀ a, oG1 a + S1x1x512.size a ≤ S2x1x8192.size a)
    (hK0 : oK0 = ![128 * nb, 0]) (hK1 : oK1 = ![128 * nb, 128]) (hG0 : oG0 = ![0, 0, 128 * nb]) (hG1 : oG1 = ![1, 0, 128 * nb])
    (h : HInv 0 (msc x0 x1 x3 (512 * qi t) 0) (vl x2 0) (nb) M L A ∧ HInv 1 (msc x0 x1 x3 (512 * qi t) 1) (vl x2 1) (nb) M L A)
    (s0 s1 : FVec Ideal S512x512 .f32) (v0 v1 : FVec Ideal S512x128 .bf16)
    (es0 : s0 = k0_pay113 v17 v25 (View.readAt (Elt Ideal) arg3.view (Rect.unit (s := S8192x256) oK0 S512x128.size ioK0).toLoadRect (harg3.unread x1)) (View.readAt (Elt Ideal) arg5.view (Rect.unit (s := S2x1x8192) oG0 S1x1x512.size ioG0).toLoadRect (harg5.unread x3)))
    (es1 : s1 = k0_pay113 v21 v29 (View.readAt (Elt Ideal) arg3.view (Rect.unit (s := S8192x256) oK1 S512x128.size ioK1).toLoadRect (harg3.unread x1)) (View.readAt (Elt Ideal) arg5.view (Rect.unit (s := S2x1x8192) oG1 S1x1x512.size ioG1).toLoadRect (harg5.unread x3)))
    (ev0 : v0 = k0_pay39 (View.readAt (Elt Ideal) arg4.view (Rect.unit (s := S8192x256) oK0 S512x128.size ioK0).toLoadRect (harg4.unread x2))) (ev1 : v1 = k0_pay39 (View.readAt (Elt Ideal) arg4.view (Rect.unit (s := S8192x256) oK1 S512x128.size ioK1).toLoadRect (harg4.unread x2))) :
    let M0 : Writes := ⟨H0, k0_pay130 s0 (arg7.view.readCov M H0.toLoadRect)⟩ :: M
    let L0 : Writes := ⟨H0, k0_pay128 s0 (arg7.view.readCov M H0.toLoadRect) (arg8.view.readCov L H0.toLoadRect)⟩ :: L
    let A0 : Writes := ⟨H0, k0_pay129 v0 s0 (arg7.view.readCov M H0.toLoadRect) (arg9.view.readCov A H0.toLoadRect)⟩ :: A
    let M1 : Writes := ⟨H1, k0_pay130 s1 (arg7.view.readCov M0 H1.toLoadRect)⟩ :: M0
    let L1 : Writes := ⟨H1, k0_pay128 s1 (arg7.view.readCov M0 H1.toLoadRect) (arg8.view.readCov L0 H1.toLoadRect)⟩ :: L0
    let A1 : Writes := ⟨H1, k0_pay129 v1 s1 (arg7.view.readCov M0 H1.toLoadRect) (arg9.view.readCov A0 H1.toLoadRect)⟩ :: A0
    HInv 0 (msc x0 x1 x3 (512 * qi t) 0) (vl x2 0) (nb + 4) M1 L1 A1 ∧ HInv 1 (msc x0 x1 x3 (512 * qi t) 1) (vl x2 1) (nb + 4) M1 L1 A1 := by
  obtain ⟨i0, i1⟩ := h
  intro M0 L0 A0 M1 L1 A1
  have hqi : qi t < 16 := Nat.mod_lt _ (by norm_num)
  have e0 : ∀ r i, s0 (ix2 r i) = msc x0 x1 x3 (512 * qi t) 0 r (128 * nb + i.val) := fun r i => by
    rw [es0, diag_score, h17]
    unfold msc
    refine if_congr (by omega) ?_ rfl
    unfold score score1
    congr 1
    · refine Finset.sum_congr rfl fun d _ => ?_
      beta_reduce
      rw [h25, ld_kv arg3 harg3 x1 _ (128 * nb) 0 hK0 rfl _ i d (fun a => by match a with | ⟨0, _⟩ => rfl | ⟨1, _⟩ => rfl)]
    · rw [ld_g arg5 harg5 x3 _ (128 * nb) 0 hG0 rfl _ i rfl]
  have e1 : ∀ r i, s1 (ix2 r i) = msc x0 x1 x3 (512 * qi t) 1 r (128 * nb + i.val) := fun r i => by
    rw [es1, diag_score, h21]
    unfold msc
    refine if_congr (by omega) ?_ rfl
    unfold score score1
    congr 1
    · refine Finset.sum_congr rfl fun d _ => ?_
      beta_reduce
      rw [h29, ld_kv arg3 harg3 x1 _ (128 * nb) 1 hK1 rfl _ i d (fun a => by match a with | ⟨0, _⟩ => rfl | ⟨1, _⟩ => rfl)]
    · rw [ld_g arg5 harg5 x3 _ (128 * nb) 1 hG1 rfl _ i rfl]
  have u0 : ∀ i x, v0 (ix2 i x) = vl x2 0 (128 * nb + i.val) x := fun i x => by
    rw [ev0, value_at, ld_kv arg4 harg4 x2 _ (128 * nb) 0 hK0 rfl _ i x (fun a => by match a with | ⟨0, _⟩ => rfl | ⟨1, _⟩ => rfl)]
  have u1 : ∀ i x, v1 (ix2 i x) = vl x2 1 (128 * nb + i.val) x := fun i x => by
    rw [ev1, value_at, ld_kv arg4 harg4 x2 _ (128 * nb) 1 hK1 rfl _ i x (fun a => by match a with | ⟨0, _⟩ => rfl | ⟨1, _⟩ => rfl)]
  exact ⟨HInv.skip1 _ _ _ (HInv.step0 arg7 arg8 arg9 e0 u0 (msc_ne_top hfin 0) (fun r => ⟨0, msc_ne_bot hfin 0 r _ (by show 128 * nb + 0 ≤ _; omega)⟩) i0),
    HInv.step1 arg7 arg8 arg9 e1 u1 (msc_ne_top hfin 1) (fun r => ⟨0, msc_ne_bot hfin 1 r _ (by show 128 * nb + 0 ≤ _; omega)⟩) (HInv.skip0 _ _ _ i1)⟩

end Cert.Fox

end
-- ==== Proof.Cases.lean ====
/- The four shapes of a tile, by what its number leaves on division by four: the state each ends in, and what each stores. -/
module

public import proofs.«01_k».proof.Proof.Tile

@[expose] public section

set_option maxRecDepth 16384
set_option maxHeartbeats 1000000

noncomputable section

namespace Cert.Fox

open Idealize.ShloMosaic Cert.KernelIdeal Cert.KernelIdeal.Gen

theorem gate0_at (t : Fin grid0.N) (arg5 : Memref sig .tc .vmem S2x1x8192 .f32) (harg5 : arg5.IsWhole) (x3 : Vec Ideal S2x1x8192 .f32) :
    k0_pay84 (View.readAt (Elt Ideal) arg5.view (Rect.unit (s := S2x1x8192) (k0_off1 (grid0.coords t)) S1x1x128.size (k0_off1_inb (grid0.coords t))).toLoadRect (harg5.unread x3))
      (ix2 0 0) = x3 (ix3 0 0 (row (512 * qi t))) := by
  rw [gate_at, ld_g arg5 harg5 x3 _ (512 * qi t) 0 (off1 t) rfl _ 0 rfl]
  rfl

theorem gate1_at (t : Fin grid0.N) (arg5 : Memref sig .tc .vmem S2x1x8192 .f32) (harg5 : arg5.IsWhole) (x3 : Vec Ideal S2x1x8192 .f32) :
    k0_pay85 (View.readAt (Elt Ideal) arg5.view (Rect.unit (s := S2x1x8192) (k0_off2 (grid0.coords t)) S1x1x128.size (k0_off2_inb (grid0.coords t))).toLoadRect (harg5.unread x3))
      (ix2 0 0) = x3 (ix3 1 0 (row (512 * qi t))) := by
  rw [gate_at', ld_g arg5 harg5 x3 _ (512 * qi t) 1 (off2 t) rfl _ 0 rfl]
  rfl

theorem query0_at (arg2 : Memref sig .tc .vmem S512x256 .f32) (harg2 : arg2.IsWhole) (x0 : Vec Ideal S512x256 .f32) (r : Fin 512) (d : Fin 128) :
    k0_pay86 (View.readAt (Elt Ideal) arg2.view (Rect.unit (s := S512x256) ![0, 0] S512x128.size inb_S512x256_S512x128_0_0).toLoadRect (harg2.unread x0))
      (ix2 r d) = x0 (ix2 r (col 0 d)) * (qsc : EReal) := by
  rw [query_at, ld_q arg2 harg2 x0 (off := ![0, 0]) _ 0 rfl]

theorem query1_at (arg2 : Memref sig .tc .vmem S512x256 .f32) (harg2 : arg2.IsWhole) (x0 : Vec Ideal S512x256 .f32) (r : Fin 512) (d : Fin 128) :
    k0_pay87 (View.readAt (Elt Ideal) arg2.view (Rect.unit (s := S512x256) ![0, 128] S512x128.size inb_S512x256_S512x128_0_128).toLoadRect (harg2.unread x0))
      (ix2 r d) = x0 (ix2 r (col 1 d)) * (qsc : EReal) := by
  rw [query_at', ld_q arg2 harg2 x0 (off := ![0, 128]) _ 1 rfl]

variable (c : Dev nD) (t : Fin grid0.N) (arg2 : Memref sig .tc .vmem S512x256 .f32) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S2x1x8192 .f32) (harg5 : arg5.IsWhole) (arg6 : Memref sig .tc .vmem S512x256 .bf16) (harg6 : arg6.IsWhole) (arg7 : Memref sig .tc .vmem S2x512x128 .f32) (harg7 : arg7.IsWhole) (arg8 : Memref sig .tc .vmem S2x512x128 .f32) (harg8 : arg8.IsWhole) (arg9 : Memref sig .tc .vmem S2x512x128 .f32) (harg9 : arg9.IsWhole)
  (x0 : Vec Ideal S512x256 .f32) (x1 x2 : Vec Ideal S8192x256 .bf16) (x3 : Vec Ideal S2x1x8192 .f32)

/-- The state at the end of a tile whose number leaves 0 on division by four. -/
theorem state_A (hmod : qi t % 4 = 0) (hc0 : ¬cond0_0 (grid0.coords t)) (hc1 : ¬cond0_1 (grid0.coords t)) (hc2 : ¬cond0_2 (grid0.coords t)) (hfin : RealScores x0 x1 x3 (512 * qi t)) :
    ∃ M : Writes, HInv 0 (msc x0 x1 x3 (512 * qi t) 0) (vl x2 0) (4 * qi t + 4) M (kernelRun0_A.sl.HS1_2 c (grid0.coords t) arg2 harg2 arg3 harg3 arg4 harg4 arg5 harg5 arg6 harg6 arg7 harg7 arg8 harg8 arg9 harg9  x0 x1 x2 x3) (kernelRun0_A.sl.HS2_2 c (grid0.coords t) arg2 harg2 arg3 harg3 arg4 harg4 arg5 harg5 arg6 harg6 arg7 harg7 arg8 harg8 arg9 harg9  x0 x1 x2 x3) ∧
      HInv 1 (msc x0 x1 x3 (512 * qi t) 1) (vl x2 1) (4 * qi t + 4) M (kernelRun0_A.sl.HS1_2 c (grid0.coords t) arg2 harg2 arg3 harg3 arg4 harg4 arg5 harg5 arg6 harg6 arg7 harg7 arg8 harg8 arg9 harg9  x0 x1 x2 x3) (kernelRun0_A.sl.HS2_2 c (grid0.coords t) arg2 harg2 arg3 harg3 arg4 harg4 arg5 harg5 arg6 harg6 arg7 harg7 arg8 harg8 arg9 harg9  x0 x1 x2 x3) := by
  have hqi : qi t < 16 := Nat.mod_lt _ (by norm_num)
  have h17 := gate0_at t arg5 harg5 x3
  have h21 := gate1_at t arg5 harg5 x3
  have h25 := query0_at arg2 harg2 x0
  have h29 := query1_at arg2 harg2 x0
  have b0 := start_inv c t arg2 harg2 arg3 harg3 arg4 harg4 arg5 harg5 arg6 harg6 arg7 harg7 arg8 harg8 arg9 harg9 (BitVec.ofNat 32 ((grid0.coords t) 1).val) (kernelRun0_A.sl.r c (grid0.coords t) arg5 harg5 x3) (kernelRun0_A.sl.r_1 c (grid0.coords t) arg5 harg5 x3) (kernelRun0_A.sl.r_2 c arg2 harg2 x0) (kernelRun0_A.sl.r_3 c arg2 harg2 x0) 4#32 (kernelRun0_A.sl.v30 (grid0.coords t)) (kernelRun0_A.sl.v51 (grid0.coords t)) x0 x1 x2 x3 hfin h17 h21 h25 h29
  have e : 16 * (qi t / 4) + 4 = 4 * qi t + 4 := by omega
  rw [← e]
  exact ⟨_, pair_diag t arg3 harg3 arg4 harg4 arg5 harg5 arg7 arg8 arg9 (kernelRun0_A.sl.r c (grid0.coords t) arg5 harg5 x3) (kernelRun0_A.sl.r_1 c (grid0.coords t) arg5 harg5 x3) (kernelRun0_A.sl.r_2 c arg2 harg2 x0) (kernelRun0_A.sl.r_3 c arg2 harg2 x0) x0 x1 x2 x3 hfin h17 h21 h25 h29 _ _ _ (16 * (qi t / 4)) (by omega) (by omega)
      (k0_off23 (grid0.coords t)) (k0_off25 (grid0.coords t)) (k0_off24 (grid0.coords t)) (k0_off26 (grid0.coords t)) (k0_off23_inb (grid0.coords t)) (k0_off25_inb (grid0.coords t)) (k0_off24_inb (grid0.coords t)) (k0_off26_inb (grid0.coords t))
      ((off23 t).trans (by congr 1; omega)) ((off25 t).trans (by congr 1; omega)) ((off24 t).trans (by congr 3; omega)) ((off26 t).trans (by congr 3; omega))
      b0 _ _ _ _ rfl rfl rfl rfl⟩

/-- What such a tile stores: each head's accumulator over its sum. -/
theorem pieces_A (hmod : qi t % 4 = 0) (hc0 : ¬cond0_0 (grid0.coords t)) (hc1 : ¬cond0_1 (grid0.coords t)) (hc2 : ¬cond0_2 (grid0.coords t)) :
    (kernelRun0_A (F := Ideal) c (grid0.coords t) arg2 harg2 arg3 harg3 arg4 harg4 arg5 harg5 arg6 harg6 arg7 harg7 arg8 harg8 arg9 harg9 hc0 hc1 hc2 x0 x1 x2 x3).1 =
      [⟨Rect.unit ![0, 128] ![512, 128] inb_S512x256_S512x128_0_128, k0_pay2 (arg8.view.readCov (kernelRun0_A.sl.HS1_2 c (grid0.coords t) arg2 harg2 arg3 harg3 arg4 harg4 arg5 harg5 arg6 harg6 arg7 harg7 arg8 harg8 arg9 harg9  x0 x1 x2 x3) H1.toLoadRect) (arg9.view.readCov (kernelRun0_A.sl.HS2_2 c (grid0.coords t) arg2 harg2 arg3 harg3 arg4 harg4 arg5 harg5 arg6 harg6 arg7 harg7 arg8 harg8 arg9 harg9  x0 x1 x2 x3) H1.toLoadRect)⟩,
       ⟨Rect.unit ![0, 0] ![512, 128] inb_S512x256_S512x128_0_0, k0_pay1 (arg8.view.readCov (kernelRun0_A.sl.HS1_2 c (grid0.coords t) arg2 harg2 arg3 harg3 arg4 harg4 arg5 harg5 arg6 harg6 arg7 harg7 arg8 harg8 arg9 harg9  x0 x1 x2 x3) H0.toLoadRect) (arg9.view.readCov (kernelRun0_A.sl.HS2_2 c (grid0.coords t) arg2 harg2 arg3 harg3 arg4 harg4 arg5 harg5 arg6 harg6 arg7 harg7 arg8 harg8 arg9 harg9  x0 x1 x2 x3) H0.toLoadRect)⟩] := by
  unfold kernelRun0_A
  rfl

/-- The state at the end of a tile whose number leaves 1 on division by four. -/
theorem state_B (hmod : qi t % 4 = 1) (hc0 : cond0_0 (grid0.coords t)) (hc1 : ¬cond0_1 (grid0.coords t)) (hc2 : ¬cond0_2 (grid0.coords t)) (hfin : RealScores x0 x1 x3 (512 * qi t)) :
    ∃ M : Writes, HInv 0 (msc x0 x1 x3 (512 * qi t) 0) (vl x2 0) (4 * qi t + 4) M (kernelRun0_B.sl.HS1_4 c (grid0.coords t) arg2 harg2 arg3 harg3 arg4 harg4 arg5 harg5 arg6 harg6 arg7 harg7 arg8 harg8 arg9 harg9 hc0 x0 x1 x2 x3) (kernelRun0_B.sl.HS2_4 c (grid0.coords t) arg2 harg2 arg3 harg3 arg4 harg4 arg5 harg5 arg6 harg6 arg7 harg7 arg8 harg8 arg9 harg9 hc0 x0 x1 x2 x3) ∧
      HInv 1 (msc x0 x1 x3 (512 * qi t) 1) (vl x2 1) (4 * qi t + 4) M (kernelRun0_B.sl.HS1_4 c (grid0.coords t) arg2 harg2 arg3 harg3 arg4 harg4 arg5 harg5 arg6 harg6 arg7 harg7 arg8 harg8 arg9 harg9 hc0 x0 x1 x2 x3) (kernelRun0_B.sl.HS2_4 c (grid0.coords t) arg2 harg2 arg3 harg3 arg4 harg4 arg5 harg5 arg6 harg6 arg7 harg7 arg8 harg8 arg9 harg9 hc0 x0 x1 x2 x3) := by
  have hqi : qi t < 16 := Nat.mod_lt _ (by norm_num)
  have h17 := gate0_at t arg5 harg5 x3
  have h21 := gate1_at t arg5 harg5 x3
  have h25 := query0_at arg2 harg2 x0
  have h29 := query1_at arg2 harg2 x0
  have b0 := start_inv c t arg2 harg2 arg3 harg3 arg4 harg4 arg5 harg5 arg6 harg6 arg7 harg7 arg8 harg8 arg9 harg9 (BitVec.ofNat 32 ((grid0.coords t) 1).val) (kernelRun0_B.sl.r c (grid0.coords t) arg5 harg5 x3) (kernelRun0_B.sl.r_1 c (grid0.coords t) arg5 harg5 x3) (kernelRun0_B.sl.r_2 c arg2 harg2 x0) (kernelRun0_B.sl.r_3 c arg2 harg2 x0) 4#32 (kernelRun0_B.sl.v30 (grid0.coords t)) (kernelRun0_B.sl.v51 (grid0.coords t)) x0 x1 x2 x3 hfin h17 h21 h25 h29
  have p1 :=
    pair_rem t arg3 harg3 arg4 harg4 arg5 harg5 arg7 arg8 arg9 (kernelRun0_B.sl.r c (grid0.coords t) arg5 harg5 x3) (kernelRun0_B.sl.r_1 c (grid0.coords t) arg5 harg5 x3) (kernelRun0_B.sl.r_2 c arg2 harg2 x0) (kernelRun0_B.sl.r_3 c arg2 harg2 x0) x0 x1 x2 x3 hfin h17 h21 h25 h29 _ _ _ (16 * (qi t / 4)) (by omega) (by omega)
      (k0_off11 (grid0.coords t)) (k0_off13 (grid0.coords t)) (k0_off12 (grid0.coords t)) (k0_off14 (grid0.coords t)) (k0_off11_inb (grid0.coords t) hc0) (k0_off13_inb (grid0.coords t) hc0) (k0_off12_inb (grid0.coords t) hc0) (k0_off14_inb (grid0.coords t) hc0)
      ((off11 t).trans (by congr 1; omega)) ((off13 t).trans (by congr 1; omega)) ((off12 t).trans (by congr 3; omega)) ((off14 t).trans (by congr 3; omega))
      b0 _ _ _ _ rfl rfl rfl rfl
  have b1 : HInv 0 (msc x0 x1 x3 (512 * qi t) 0) (vl x2 0) ((16 * (qi t / 4)) + 4) (kernelRun0_B.sl.HS0_2 c (grid0.coords t) arg2 harg2 arg3 harg3 arg4 harg4 arg5 harg5 arg6 harg6 arg7 harg7 arg8 harg8 arg9 harg9 hc0 x0 x1 x2 x3) (kernelRun0_B.sl.HS1_2 c (grid0.coords t) arg2 harg2 arg3 harg3 arg4 harg4 arg5 harg5 arg6 harg6 arg7 harg7 arg8 harg8 arg9 harg9 hc0 x0 x1 x2 x3) (kernelRun0_B.sl.HS2_2 c (grid0.coords t) arg2 harg2 arg3 harg3 arg4 harg4 arg5 harg5 arg6 harg6 arg7 harg7 arg8 harg8 arg9 harg9 hc0 x0 x1 x2 x3) ∧
      HInv 1 (msc x0 x1 x3 (512 * qi t) 1) (vl x2 1) ((16 * (qi t / 4)) + 4) (kernelRun0_B.sl.HS0_2 c (grid0.coords t) arg2 harg2 arg3 harg3 arg4 harg4 arg5 harg5 arg6 harg6 arg7 harg7 arg8 harg8 arg9 harg9 hc0 x0 x1 x2 x3) (kernelRun0_B.sl.HS1_2 c (grid0.coords t) arg2 harg2 arg3 harg3 arg4 harg4 arg5 harg5 arg6 harg6 arg7 harg7 arg8 harg8 arg9 harg9 hc0 x0 x1 x2 x3) (kernelRun0_B.sl.HS2_2 c (grid0.coords t) arg2 harg2 arg3 harg3 arg4 harg4 arg5 harg5 arg6 harg6 arg7 harg7 arg8 harg8 arg9 harg9 hc0 x0 x1 x2 x3) := p1
  have e : 16 * (qi t / 4) + 4 + 4 = 4 * qi t + 4 := by omega
  rw [← e]
  exact ⟨_, pair_diag t arg3 harg3 arg4 harg4 arg5 harg5 arg7 arg8 arg9 (kernelRun0_B.sl.r c (grid0.coords t) arg5 harg5 x3) (kernelRun0_B.sl.r_1 c (grid0.coords t) arg5 harg5 x3) (kernelRun0_B.sl.r_2 c arg2 harg2 x0) (kernelRun0_B.sl.r_3 c arg2 harg2 x0) x0 x1 x2 x3 hfin h17 h21 h25 h29 _ _ _ (16 * (qi t / 4) + 4) (by omega) (by omega)
      (k0_off23 (grid0.coords t)) (k0_off25 (grid0.coords t)) (k0_off24 (grid0.coords t)) (k0_off26 (grid0.coords t)) (k0_off23_inb (grid0.coords t)) (k0_off25_inb (grid0.coords t)) (k0_off24_inb (grid0.coords t)) (k0_off26_inb (grid0.coords t))
      ((off23 t).trans (by congr 1; omega)) ((off25 t).trans (by congr 1; omega)) ((off24 t).trans (by congr 3; omega)) ((off26 t).trans (by congr 3; omega))
      b1 _ _ _ _ rfl rfl rfl rfl⟩

/-- What such a tile stores: each head's accumulator over its sum. -/
theorem pieces_B (hmod : qi t % 4 = 1) (hc0 : cond0_0 (grid0.coords t)) (hc1 : ¬cond0_1 (grid0.coords t)) (hc2 : ¬cond0_2 (grid0.coords t)) :
    (kernelRun0_B (F := Ideal) c (grid0.coords t) arg2 harg2 arg3 harg3 arg4 harg4 arg5 harg5 arg6 harg6 arg7 harg7 arg8 harg8 arg9 harg9 hc0 hc1 hc2 x0 x1 x2 x3).1 =
      [⟨Rect.unit ![0, 128] ![512, 128] inb_S512x256_S512x128_0_128, k0_pay2 (arg8.view.readCov (kernelRun0_B.sl.HS1_4 c (grid0.coords t) arg2 harg2 arg3 harg3 arg4 harg4 arg5 harg5 arg6 harg6 arg7 harg7 arg8 harg8 arg9 harg9 hc0 x0 x1 x2 x3) H1.toLoadRect) (arg9.view.readCov (kernelRun0_B.sl.HS2_4 c (grid0.coords t) arg2 harg2 arg3 harg3 arg4 harg4 arg5 harg5 arg6 harg6 arg7 harg7 arg8 harg8 arg9 harg9 hc0 x0 x1 x2 x3) H1.toLoadRect)⟩,
       ⟨Rect.unit ![0, 0] ![512, 128] inb_S512x256_S512x128_0_0, k0_pay1 (arg8.view.readCov (kernelRun0_B.sl.HS1_4 c (grid0.coords t) arg2 harg2 arg3 harg3 arg4 harg4 arg5 harg5 arg6 harg6 arg7 harg7 arg8 harg8 arg9 harg9 hc0 x0 x1 x2 x3) H0.toLoadRect) (arg9.view.readCov (kernelRun0_B.sl.HS2_4 c (grid0.coords t) arg2 harg2 arg3 harg3 arg4 harg4 arg5 harg5 arg6 harg6 arg7 harg7 arg8 harg8 arg9 harg9 hc0 x0 x1 x2 x3) H0.toLoadRect)⟩] := by
  unfold kernelRun0_B
  rfl

/-- The state at the end of a tile whose number leaves 2 on division by four. -/
theorem state_C (hmod : qi t % 4 = 2) (hc0 : cond0_0 (grid0.coords t)) (hc1 : cond0_1 (grid0.coords t)) (hc2 : ¬cond0_2 (grid0.coords t)) (hfin : RealScores x0 x1 x3 (512 * qi t)) :
    ∃ M : Writes, HInv 0 (msc x0 x1 x3 (512 * qi t) 0) (vl x2 0) (4 * qi t + 4) M (kernelRun0_C.sl.HS1_6 c (grid0.coords t) arg2 harg2 arg3 harg3 arg4 harg4 arg5 harg5 arg6 harg6 arg7 harg7 arg8 harg8 arg9 harg9 hc0 hc1 x0 x1 x2 x3) (kernelRun0_C.sl.HS2_6 c (grid0.coords t) arg2 harg2 arg3 harg3 arg4 harg4 arg5 harg5 arg6 harg6 arg7 harg7 arg8 harg8 arg9 harg9 hc0 hc1 x0 x1 x2 x3) ∧
      HInv 1 (msc x0 x1 x3 (512 * qi t) 1) (vl x2 1) (4 * qi t + 4) M (kernelRun0_C.sl.HS1_6 c (grid0.coords t) arg2 harg2 arg3 harg3 arg4 harg4 arg5 harg5 arg6 harg6 arg7 harg7 arg8 harg8 arg9 harg9 hc0 hc1 x0 x1 x2 x3) (kernelRun0_C.sl.HS2_6 c (grid0.coords t) arg2 harg2 arg3 harg3 arg4 harg4 arg5 harg5 arg6 harg6 arg7 harg7 arg8 harg8 arg9 harg9 hc0 hc1 x0 x1 x2 x3) := by
  have hqi : qi t < 16 := Nat.mod_lt _ (by norm_num)
  have h17 := gate0_at t arg5 harg5 x3
  have h21 := gate1_at t arg5 harg5 x3
  have h25 := query0_at arg2 harg2 x0
  have h29 := query1_at arg2 harg2 x0
  have b0 := start_inv c t arg2 harg2 arg3 harg3 arg4 harg4 arg5 harg5 arg6 harg6 arg7 harg7 arg8 harg8 arg9 harg9 (BitVec.ofNat 32 ((grid0.coords t) 1).val) (kernelRun0_C.sl.r c (grid0.coords t) arg5 harg5 x3) (kernelRun0_C.sl.r_1 c (grid0.coords t) arg5 harg5 x3) (kernelRun0_C.sl.r_2 c arg2 harg2 x0) (kernelRun0_C.sl.r_3 c arg2 harg2 x0) 4#32 (kernelRun0_C.sl.v30 (grid0.coords t)) (kernelRun0_C.sl.v51 (grid0.coords t)) x0 x1 x2 x3 hfin h17 h21 h25 h29
  have p1 :=
    pair_rem t arg3 harg3 arg4 harg4 arg5 harg5 arg7 arg8 arg9 (kernelRun0_C.sl.r c (grid0.coords t) arg5 harg5 x3) (kernelRun0_C.sl.r_1 c (grid0.coords t) arg5 harg5 x3) (kernelRun0_C.sl.r_2 c arg2 harg2 x0) (kernelRun0_C.sl.r_3 c arg2 harg2 x0) x0 x1 x2 x3 hfin h17 h21 h25 h29 _ _ _ (16 * (qi t / 4)) (by omega) (by omega)
      (k0_off11 (grid0.coords t)) (k0_off13 (grid0.coords t)) (k0_off12 (grid0.coords t)) (k0_off14 (grid0.coords t)) (k0_off11_inb (grid0.coords t) hc0) (k0_off13_inb (grid0.coords t) hc0) (k0_off12_inb (grid0.coords t) hc0) (k0_off14_inb (grid0.coords t) hc0)
      ((off11 t).trans (by congr 1; omega)) ((off13 t).trans (by congr 1; omega)) ((off12 t).trans (by congr 3; omega)) ((off14 t).trans (by congr 3; omega))
      b0 _ _ _ _ rfl rfl rfl rfl
  have b1 : HInv 0 (msc x0 x1 x3 (512 * qi t) 0) (vl x2 0) ((16 * (qi t / 4)) + 4) (kernelRun0_C.sl.HS0_2 c (grid0.coords t) arg2 harg2 arg3 harg3 arg4 harg4 arg5 harg5 arg6 harg6 arg7 harg7 arg8 harg8 arg9 harg9 hc0 x0 x1 x2 x3) (kernelRun0_C.sl.HS1_2 c (grid0.coords t) arg2 harg2 arg3 harg3 arg4 harg4 arg5 harg5 arg6 harg6 arg7 harg7 arg8 harg8 arg9 harg9 hc0 x0 x1 x2 x3) (kernelRun0_C.sl.HS2_2 c (grid0.coords t) arg2 harg2 arg3 harg3 arg4 harg4 arg5 harg5 arg6 harg6 arg7 harg7 arg8 harg8 arg9 harg9 hc0 x0 x1 x2 x3) ∧
      HInv 1 (msc x0 x1 x3 (512 * qi t) 1) (vl x2 1) ((16 * (qi t / 4)) + 4) (kernelRun0_C.sl.HS0_2 c (grid0.coords t) arg2 harg2 arg3 harg3 arg4 harg4 arg5 harg5 arg6 harg6 arg7 harg7 arg8 harg8 arg9 harg9 hc0 x0 x1 x2 x3) (kernelRun0_C.sl.HS1_2 c (grid0.coords t) arg2 harg2 arg3 harg3 arg4 harg4 arg5 harg5 arg6 harg6 arg7 harg7 arg8 harg8 arg9 harg9 hc0 x0 x1 x2 x3) (kernelRun0_C.sl.HS2_2 c (grid0.coords t) arg2 harg2 arg3 harg3 arg4 harg4 arg5 harg5 arg6 harg6 arg7 harg7 arg8 harg8 arg9 harg9 hc0 x0 x1 x2 x3) := p1
  have p2 :=
    pair_rem t arg3 harg3 arg4 harg4 arg5 harg5 arg7 arg8 arg9 (kernelRun0_C.sl.r c (grid0.coords t) arg5 harg5 x3) (kernelRun0_C.sl.r_1 c (grid0.coords t) arg5 harg5 x3) (kernelRun0_C.sl.r_2 c arg2 harg2 x0) (kernelRun0_C.sl.r_3 c arg2 harg2 x0) x0 x1 x2 x3 hfin h17 h21 h25 h29 _ _ _ (16 * (qi t / 4) + 4) (by omega) (by omega)
      (k0_off15 (grid0.coords t)) (k0_off17 (grid0.coords t)) (k0_off16 (grid0.coords t)) (k0_off18 (grid0.coords t)) (k0_off15_inb (grid0.coords t) hc1) (k0_off17_inb (grid0.coords t) hc1) (k0_off16_inb (grid0.coords t) hc1) (k0_off18_inb (grid0.coords t) hc1)
      ((off15 t).trans (by congr 1; omega)) ((off17 t).trans (by congr 1; omega)) ((off16 t).trans (by congr 3; omega)) ((off18 t).trans (by congr 3; omega))
      b1 _ _ _ _ rfl rfl rfl rfl
  have b2 : HInv 0 (msc x0 x1 x3 (512 * qi t) 0) (vl x2 0) ((16 * (qi t / 4) + 4) + 4) (kernelRun0_C.sl.HS0_4 c (grid0.coords t) arg2 harg2 arg3 harg3 arg4 harg4 arg5 harg5 arg6 harg6 arg7 harg7 arg8 harg8 arg9 harg9 hc0 hc1 x0 x1 x2 x3) (kernelRun0_C.sl.HS1_4 c (grid0.coords t) arg2 harg2 arg3 harg3 arg4 harg4 arg5 harg5 arg6 harg6 arg7 harg7 arg8 harg8 arg9 harg9 hc0 hc1 x0 x1 x2 x3) (kernelRun0_C.sl.HS2_4 c (grid0.coords t) arg2 harg2 arg3 harg3 arg4 harg4 arg5 harg5 arg6 harg6 arg7 harg7 arg8 harg8 arg9 harg9 hc0 hc1 x0 x1 x2 x3) ∧
      HInv 1 (msc x0 x1 x3 (512 * qi t) 1) (vl x2 1) ((16 * (qi t / 4) + 4) + 4) (kernelRun0_C.sl.HS0_4 c (grid0.coords t) arg2 harg2 arg3 harg3 arg4 harg4 arg5 harg5 arg6 harg6 arg7 harg7 arg8 harg8 arg9 harg9 hc0 hc1 x0 x1 x2 x3) (kernelRun0_C.sl.HS1_4 c (grid0.coords t) arg2 harg2 arg3 harg3 arg4 harg4 arg5 harg5 arg6 harg6 arg7 harg7 arg8 harg8 arg9 harg9 hc0 hc1 x0 x1 x2 x3) (kernelRun0_C.sl.HS2_4 c (grid0.coords t) arg2 harg2 arg3 harg3 arg4 harg4 arg5 harg5 arg6 harg6 arg7 harg7 arg8 harg8 arg9 harg9 hc0 hc1 x0 x1 x2 x3) := p2
  have e : 16 * (qi t / 4) + 4 + 4 + 4 = 4 * qi t + 4 := by omega
  rw [← e]
  exact ⟨_, pair_diag t arg3 harg3 arg4 harg4 arg5 harg5 arg7 arg8 arg9 (kernelRun0_C.sl.r c (grid0.coords t) arg5 harg5 x3) (kernelRun0_C.sl.r_1 c (grid0.coords t) arg5 harg5 x3) (kernelRun0_C.sl.r_2 c arg2 harg2 x0) (kernelRun0_C.sl.r_3 c arg2 harg2 x0) x0 x1 x2 x3 hfin h17 h21 h25 h29 _ _ _ (16 * (qi t / 4) + 4 + 4) (by omega) (by omega)
      (k0_off23 (grid0.coords t)) (k0_off25 (grid0.coords t)) (k0_off24 (grid0.coords t)) (k0_off26 (grid0.coords t)) (k0_off23_inb (grid0.coords t)) (k0_off25_inb (grid0.coords t)) (k0_off24_inb (grid0.coords t)) (k0_off26_inb (grid0.coords t))
      ((off23 t).trans (by congr 1; omega)) ((off25 t).trans (by congr 1; omega)) ((off24 t).trans (by congr 3; omega)) ((off26 t).trans (by congr 3; omega))
      b2 _ _ _ _ rfl rfl rfl rfl⟩

/-- What such a tile stores: each head's accumulator over its sum. -/
theorem pieces_C (hmod : qi t % 4 = 2) (hc0 : cond0_0 (grid0.coords t)) (hc1 : cond0_1 (grid0.coords t)) (hc2 : ¬cond0_2 (grid0.coords t)) :
    (kernelRun0_C (F := Ideal) c (grid0.coords t) arg2 harg2 arg3 harg3 arg4 harg4 arg5 harg5 arg6 harg6 arg7 harg7 arg8 harg8 arg9 harg9 hc0 hc1 hc2 x0 x1 x2 x3).1 =
      [⟨Rect.unit ![0, 128] ![512, 128] inb_S512x256_S512x128_0_128, k0_pay2 (arg8.view.readCov (kernelRun0_C.sl.HS1_6 c (grid0.coords t) arg2 harg2 arg3 harg3 arg4 harg4 arg5 harg5 arg6 harg6 arg7 harg7 arg8 harg8 arg9 harg9 hc0 hc1 x0 x1 x2 x3) H1.toLoadRect) (arg9.view.readCov (kernelRun0_C.sl.HS2_6 c (grid0.coords t) arg2 harg2 arg3 harg3 arg4 harg4 arg5 harg5 arg6 harg6 arg7 harg7 arg8 harg8 arg9 harg9 hc0 hc1 x0 x1 x2 x3) H1.toLoadRect)⟩,
       ⟨Rect.unit ![0, 0] ![512, 128] inb_S512x256_S512x128_0_0, k0_pay1 (arg8.view.readCov (kernelRun0_C.sl.HS1_6 c (grid0.coords t) arg2 harg2 arg3 harg3 arg4 harg4 arg5 harg5 arg6 harg6 arg7 harg7 arg8 harg8 arg9 harg9 hc0 hc1 x0 x1 x2 x3) H0.toLoadRect) (arg9.view.readCov (kernelRun0_C.sl.HS2_6 c (grid0.coords t) arg2 harg2 arg3 harg3 arg4 harg4 arg5 harg5 arg6 harg6 arg7 harg7 arg8 harg8 arg9 harg9 hc0 hc1 x0 x1 x2 x3) H0.toLoadRect)⟩] := by
  unfold kernelRun0_C
  rfl

/-- The state at the end of a tile whose number leaves 3 on division by four. -/
theorem state_D (hmod : qi t % 4 = 3) (hc0 : cond0_0 (grid0.coords t)) (hc1 : cond0_1 (grid0.coords t)) (hc2 : cond0_2 (grid0.coords t)) (hfin : RealScores x0 x1 x3 (512 * qi t)) :
    ∃ M : Writes, HInv 0 (msc x0 x1 x3 (512 * qi t) 0) (vl x2 0) (4 * qi t + 4) M (kernelRun0_D.sl.HS1_8 c (grid0.coords t) arg2 harg2 arg3 harg3 arg4 harg4 arg5 harg5 arg6 harg6 arg7 harg7 arg8 harg8 arg9 harg9 hc0 hc1 hc2 x0 x1 x2 x3) (kernelRun0_D.sl.HS2_8 c (grid0.coords t) arg2 harg2 arg3 harg3 arg4 harg4 arg5 harg5 arg6 harg6 arg7 harg7 arg8 harg8 arg9 harg9 hc0 hc1 hc2 x0 x1 x2 x3) ∧
      HInv 1 (msc x0 x1 x3 (512 * qi t) 1) (vl x2 1) (4 * qi t + 4) M (kernelRun0_D.sl.HS1_8 c (grid0.coords t) arg2 harg2 arg3 harg3 arg4 harg4 arg5 harg5 arg6 harg6 arg7 harg7 arg8 harg8 arg9 harg9 hc0 hc1 hc2 x0 x1 x2 x3) (kernelRun0_D.sl.HS2_8 c (grid0.coords t) arg2 harg2 arg3 harg3 arg4 harg4 arg5 harg5 arg6 harg6 arg7 harg7 arg8 harg8 arg9 harg9 hc0 hc1 hc2 x0 x1 x2 x3) := by
  have hqi : qi t < 16 := Nat.mod_lt _ (by norm_num)
  have h17 := gate0_at t arg5 harg5 x3
  have h21 := gate1_at t arg5 harg5 x3
  have h25 := query0_at arg2 harg2 x0
  have h29 := query1_at arg2 harg2 x0
  have b0 := start_inv c t arg2 harg2 arg3 harg3 arg4 harg4 arg5 harg5 arg6 harg6 arg7 harg7 arg8 harg8 arg9 harg9 (BitVec.ofNat 32 ((grid0.coords t) 1).val) (kernelRun0_D.sl.r c (grid0.coords t) arg5 harg5 x3) (kernelRun0_D.sl.r_1 c (grid0.coords t) arg5 harg5 x3) (kernelRun0_D.sl.r_2 c arg2 harg2 x0) (kernelRun0_D.sl.r_3 c arg2 harg2 x0) 4#32 (kernelRun0_D.sl.v30 (grid0.coords t)) (kernelRun0_D.sl.v51 (grid0.coords t)) x0 x1 x2 x3 hfin h17 h21 h25 h29
  have p1 :=
    pair_rem t arg3 harg3 arg4 harg4 arg5 harg5 arg7 arg8 arg9 (kernelRun0_D.sl.r c (grid0.coords t) arg5 harg5 x3) (kernelRun0_D.sl.r_1 c (grid0.coords t) arg5 harg5 x3) (kernelRun0_D.sl.r_2 c arg2 harg2 x0) (kernelRun0_D.sl.r_3 c arg2 harg2 x0) x0 x1 x2 x3 hfin h17 h21 h25 h29 _ _ _ (16 * (qi t / 4)) (by omega) (by omega)
      (k0_off11 (grid0.coords t)) (k0_off13 (grid0.coords t)) (k0_off12 (grid0.coords t)) (k0_off14 (grid0.coords t)) (k0_off11_inb (grid0.coords t) hc0) (k0_off13_inb (grid0.coords t) hc0) (k0_off12_inb (grid0.coords t) hc0) (k0_off14_inb (grid0.coords t) hc0)
      ((off11 t).trans (by congr 1; omega)) ((off13 t).trans (by congr 1; omega)) ((off12 t).trans (by congr 3; omega)) ((off14 t).trans (by congr 3; omega))
      b0 _ _ _ _ rfl rfl rfl rfl
  have b1 : HInv 0 (msc x0 x1 x3 (512 * qi t) 0) (vl x2 0) ((16 * (qi t / 4)) + 4) (kernelRun0_D.sl.HS0_2 c (grid0.coords t) arg2 harg2 arg3 harg3 arg4 harg4 arg5 harg5 arg6 harg6 arg7 harg7 arg8 harg8 arg9 harg9 hc0 x0 x1 x2 x3) (kernelRun0_D.sl.HS1_2 c (grid0.coords t) arg2 harg2 arg3 harg3 arg4 harg4 arg5 harg5 arg6 harg6 arg7 harg7 arg8 harg8 arg9 harg9 hc0 x0 x1 x2 x3) (kernelRun0_D.sl.HS2_2 c (grid0.coords t) arg2 harg2 arg3 harg3 arg4 harg4 arg5 harg5 arg6 harg6 arg7 harg7 arg8 harg8 arg9 harg9 hc0 x0 x1 x2 x3) ∧
      HInv 1 (msc x0 x1 x3 (512 * qi t) 1) (vl x2 1) ((16 * (qi t / 4)) + 4) (kernelRun0_D.sl.HS0_2 c (grid0.coords t) arg2 harg2 arg3 harg3 arg4 harg4 arg5 harg5 arg6 harg6 arg7 harg7 arg8 harg8 arg9 harg9 hc0 x0 x1 x2 x3) (kernelRun0_D.sl.HS1_2 c (grid0.coords t) arg2 harg2 arg3 harg3 arg4 harg4 arg5 harg5 arg6 harg6 arg7 harg7 arg8 harg8 arg9 harg9 hc0 x0 x1 x2 x3) (kernelRun0_D.sl.HS2_2 c (grid0.coords t) arg2 harg2 arg3 harg3 arg4 harg4 arg5 harg5 arg6 harg6 arg7 harg7 arg8 harg8 arg9 harg9 hc0 x0 x1 x2 x3) := p1
  have p2 :=
    pair_rem t arg3 harg3 arg4 harg4 arg5 harg5 arg7 arg8 arg9 (kernelRun0_D.sl.r c (grid0.coords t) arg5 harg5 x3) (kernelRun0_D.sl.r_1 c (grid0.coords t) arg5 harg5 x3) (kernelRun0_D.sl.r_2 c arg2 harg2 x0) (kernelRun0_D.sl.r_3 c arg2 harg2 x0) x0 x1 x2 x3 hfin h17 h21 h25 h29 _ _ _ (16 * (qi t / 4) + 4) (by omega) (by omega)
      (k0_off15 (grid0.coords t)) (k0_off17 (grid0.coords t)) (k0_off16 (grid0.coords t)) (k0_off18 (grid0.coords t)) (k0_off15_inb (grid0.coords t) hc1) (k0_off17_inb (grid0.coords t) hc1) (k0_off16_inb (grid0.coords t) hc1) (k0_off18_inb (grid0.coords t) hc1)
      ((off15 t).trans (by congr 1; omega)) ((off17 t).trans (by congr 1; omega)) ((off16 t).trans (by congr 3; omega)) ((off18 t).trans (by congr 3; omega))
      b1 _ _ _ _ rfl rfl rfl rfl
  have b2 : HInv 0 (msc x0 x1 x3 (512 * qi t) 0) (vl x2 0) ((16 * (qi t / 4) + 4) + 4) (kernelRun0_D.sl.HS0_4 c (grid0.coords t) arg2 harg2 arg3 harg3 arg4 harg4 arg5 harg5 arg6 harg6 arg7 harg7 arg8 harg8 arg9 harg9 hc0 hc1 x0 x1 x2 x3) (kernelRun0_D.sl.HS1_4 c (grid0.coords t) arg2 harg2 arg3 harg3 arg4 harg4 arg5 harg5 arg6 harg6 arg7 harg7 arg8 harg8 arg9 harg9 hc0 hc1 x0 x1 x2 x3) (kernelRun0_D.sl.HS2_4 c (grid0.coords t) arg2 harg2 arg3 harg3 arg4 harg4 arg5 harg5 arg6 harg6 arg7 harg7 arg8 harg8 arg9 harg9 hc0 hc1 x0 x1 x2 x3) ∧
      HInv 1 (msc x0 x1 x3 (512 * qi t) 1) (vl x2 1) ((16 * (qi t / 4) + 4) + 4) (kernelRun0_D.sl.HS0_4 c (grid0.coords t) arg2 harg2 arg3 harg3 arg4 harg4 arg5 harg5 arg6 harg6 arg7 harg7 arg8 harg8 arg9 harg9 hc0 hc1 x0 x1 x2 x3) (kernelRun0_D.sl.HS1_4 c (grid0.coords t) arg2 harg2 arg3 harg3 arg4 harg4 arg5 harg5 arg6 harg6 arg7 harg7 arg8 harg8 arg9 harg9 hc0 hc1 x0 x1 x2 x3) (kernelRun0_D.sl.HS2_4 c (grid0.coords t) arg2 harg2 arg3 harg3 arg4 harg4 arg5 harg5 arg6 harg6 arg7 harg7 arg8 harg8 arg9 harg9 hc0 hc1 x0 x1 x2 x3) := p2
  have p3 :=
    pair_rem t arg3 harg3 arg4 harg4 arg5 harg5 arg7 arg8 arg9 (kernelRun0_D.sl.r c (grid0.coords t) arg5 harg5 x3) (kernelRun0_D.sl.r_1 c (grid0.coords t) arg5 harg5 x3) (kernelRun0_D.sl.r_2 c arg2 harg2 x0) (kernelRun0_D.sl.r_3 c arg2 harg2 x0) x0 x1 x2 x3 hfin h17 h21 h25 h29 _ _ _ (16 * (qi t / 4) + 4 + 4) (by omega) (by omega)
      (k0_off19 (grid0.coords t)) (k0_off21 (grid0.coords t)) (k0_off20 (grid0.coords t)) (k0_off22 (grid0.coords t)) (k0_off19_inb (grid0.coords t) hc2) (k0_off21_inb (grid0.coords t) hc2) (k0_off20_inb (grid0.coords t) hc2) (k0_off22_inb (grid0.coords t) hc2)
      ((off19 t).trans (by congr 1; omega)) ((off21 t).trans (by congr 1; omega)) ((off20 t).trans (by congr 3; omega)) ((off22 t).trans (by congr 3; omega))
      b2 _ _ _ _ rfl rfl rfl rfl
  have b3 : HInv 0 (msc x0 x1 x3 (512 * qi t) 0) (vl x2 0) ((16 * (qi t / 4) + 4 + 4) + 4) (kernelRun0_D.sl.HS0_6 c (grid0.coords t) arg2 harg2 arg3 harg3 arg4 harg4 arg5 harg5 arg6 harg6 arg7 harg7 arg8 harg8 arg9 harg9 hc0 hc1 hc2 x0 x1 x2 x3) (kernelRun0_D.sl.HS1_6 c (grid0.coords t) arg2 harg2 arg3 harg3 arg4 harg4 arg5 harg5 arg6 harg6 arg7 harg7 arg8 harg8 arg9 harg9 hc0 hc1 hc2 x0 x1 x2 x3) (kernelRun0_D.sl.HS2_6 c (grid0.coords t) arg2 harg2 arg3 harg3 arg4 harg4 arg5 harg5 arg6 harg6 arg7 harg7 arg8 harg8 arg9 harg9 hc0 hc1 hc2 x0 x1 x2 x3) ∧
      HInv 1 (msc x0 x1 x3 (512 * qi t) 1) (vl x2 1) ((16 * (qi t / 4) + 4 + 4) + 4) (kernelRun0_D.sl.HS0_6 c (grid0.coords t) arg2 harg2 arg3 harg3 arg4 harg4 arg5 harg5 arg6 harg6 arg7 harg7 arg8 harg8 arg9 harg9 hc0 hc1 hc2 x0 x1 x2 x3) (kernelRun0_D.sl.HS1_6 c (grid0.coords t) arg2 harg2 arg3 harg3 arg4 harg4 arg5 harg5 arg6 harg6 arg7 harg7 arg8 harg8 arg9 harg9 hc0 hc1 hc2 x0 x1 x2 x3) (kernelRun0_D.sl.HS2_6 c (grid0.coords t) arg2 harg2 arg3 harg3 arg4 harg4 arg5 harg5 arg6 harg6 arg7 harg7 arg8 harg8 arg9 harg9 hc0 hc1 hc2 x0 x1 x2 x3) := p3
  have e : 16 * (qi t / 4) + 4 + 4 + 4 + 4 = 4 * qi t + 4 := by omega
  rw [← e]
  exact ⟨_, pair_diag t arg3 harg3 arg4 harg4 arg5 harg5 arg7 arg8 arg9 (kernelRun0_D.sl.r c (grid0.coords t) arg5 harg5 x3) (kernelRun0_D.sl.r_1 c (grid0.coords t) arg5 harg5 x3) (kernelRun0_D.sl.r_2 c arg2 harg2 x0) (kernelRun0_D.sl.r_3 c arg2 harg2 x0) x0 x1 x2 x3 hfin h17 h21 h25 h29 _ _ _ (16 * (qi t / 4) + 4 + 4 + 4) (by omega) (by omega)
      (k0_off23 (grid0.coords t)) (k0_off25 (grid0.coords t)) (k0_off24 (grid0.coords t)) (k0_off26 (grid0.coords t)) (k0_off23_inb (grid0.coords t)) (k0_off25_inb (grid0.coords t)) (k0_off24_inb (grid0.coords t)) (k0_off26_inb (grid0.coords t))
      ((off23 t).trans (by congr 1; omega)) ((off25 t).trans (by congr 1; omega)) ((off24 t).trans (by congr 3; omega)) ((off26 t).trans (by congr 3; omega))
      b3 _ _ _ _ rfl rfl rfl rfl⟩

/-- What such a tile stores: each head's accumulator over its sum. -/
theorem pieces_D (hmod : qi t % 4 = 3) (hc0 : cond0_0 (grid0.coords t)) (hc1 : cond0_1 (grid0.coords t)) (hc2 : cond0_2 (grid0.coords t)) :
    (kernelRun0_D (F := Ideal) c (grid0.coords t) arg2 harg2 arg3 harg3 arg4 harg4 arg5 harg5 arg6 harg6 arg7 harg7 arg8 harg8 arg9 harg9 hc0 hc1 hc2 x0 x1 x2 x3).1 =
      [⟨Rect.unit ![0, 128] ![512, 128] inb_S512x256_S512x128_0_128, k0_pay2 (arg8.view.readCov (kernelRun0_D.sl.HS1_8 c (grid0.coords t) arg2 harg2 arg3 harg3 arg4 harg4 arg5 harg5 arg6 harg6 arg7 harg7 arg8 harg8 arg9 harg9 hc0 hc1 hc2 x0 x1 x2 x3) H1.toLoadRect) (arg9.view.readCov (kernelRun0_D.sl.HS2_8 c (grid0.coords t) arg2 harg2 arg3 harg3 arg4 harg4 arg5 harg5 arg6 harg6 arg7 harg7 arg8 harg8 arg9 harg9 hc0 hc1 hc2 x0 x1 x2 x3) H1.toLoadRect)⟩,
       ⟨Rect.unit ![0, 0] ![512, 128] inb_S512x256_S512x128_0_0, k0_pay1 (arg8.view.readCov (kernelRun0_D.sl.HS1_8 c (grid0.coords t) arg2 harg2 arg3 harg3 arg4 harg4 arg5 harg5 arg6 harg6 arg7 harg7 arg8 harg8 arg9 harg9 hc0 hc1 hc2 x0 x1 x2 x3) H0.toLoadRect) (arg9.view.readCov (kernelRun0_D.sl.HS2_8 c (grid0.coords t) arg2 harg2 arg3 harg3 arg4 harg4 arg5 harg5 arg6 harg6 arg7 harg7 arg8 harg8 arg9 harg9 hc0 hc1 hc2 x0 x1 x2 x3) H0.toLoadRect)⟩] := by
  unfold kernelRun0_D
  rfl

end Cert.Fox

end
-- ==== Proof.Out.lean ====
/- What a tile stores at an element: softmax attention of its query over the keys up to it. -/
module

public import proofs.«01_k».proof.Proof.Cases

@[expose] public section

set_option maxRecDepth 16384
set_option maxHeartbeats 1000000

noncomputable section

namespace Cert.Fox

open Idealize.ShloMosaic Cert.KernelIdeal Cert.KernelIdeal.Gen

abbrev R0 : Rect S512x256 := Rect.unit ![0, 0] ![512, 128] inb_S512x256_S512x128_0_0
abbrev R1 : Rect S512x256 := Rect.unit ![0, 128] ![512, 128] inb_S512x256_S512x128_0_128

theorem emb_R0 (r : Fin 512) (x : Fin 128) : R0.emb (ix2 r x) = ix2 r (col 0 x) := by
  funext a; apply Fin.ext
  match a with
  | ⟨0, _⟩ => show 0 + 1 * r.val = r.val; omega
  | ⟨1, _⟩ => show 0 + 1 * x.val = 128 * 0 + x.val; omega

theorem emb_R1 (r : Fin 512) (x : Fin 128) : R1.emb (ix2 r x) = ix2 r (col 1 x) := by
  funext a; apply Fin.ext
  match a with
  | ⟨0, _⟩ => show 0 + 1 * r.val = r.val; omega
  | ⟨1, _⟩ => show 128 + 1 * x.val = 128 * 1 + x.val; omega

theorem canon_out1 (w0 : R0.shape.Idx → Elt Ideal .bf16) (w1 : R1.shape.Idx → Elt Ideal .bf16) (r : Fin 512) (x : Fin 128) :
    View.canon (Val := Elt Ideal) (s := S512x256) (e := .bf16) [⟨R1, w1⟩, ⟨R0, w0⟩] (ix2 r (col 1 x)) = w1 (ix2 r x) := by
  conv_lhs => rw [← emb_R1 r x]
  exact View.canon_cons_emb (Val := Elt Ideal) R1 w1 _ _

theorem canon_out0 (w0 : R0.shape.Idx → Elt Ideal .bf16) (w1 : R1.shape.Idx → Elt Ideal .bf16) (r : Fin 512) (x : Fin 128) :
    View.canon (Val := Elt Ideal) (s := S512x256) (e := .bf16) [⟨R1, w1⟩, ⟨R0, w0⟩] (ix2 r (col 0 x)) = w0 (ix2 r x) := by
  rw [View.canon_cons]
  have hm : (ix2 r (col 0 x) : S512x256.Idx) ∉ R1.set := by
    intro h
    obtain ⟨i, hi, he⟩ := R1.mem_set.mp h 1
    have he' : 128 * 0 + x.val = 128 + 1 * i := he
    omega
  refine (R1.overlay_of_not_mem _ _ hm).trans ?_
  conv_lhs => rw [← emb_R0 r x]
  exact View.canon_cons_emb (Val := Elt Ideal) R0 w0 _ _

/-- The tile's scores are real: a score `S` in base `e`, turned to base two, and a number of the row alone. -/
def Scores (x0 : Vec Ideal S512x256 .f32) (x1 : Vec Ideal S8192x256 .bf16) (x3 : Vec Ideal S2x1x8192 .f32) (q0 : ℕ)
    (S : Fin 2 → Fin 512 → ℕ → ℝ) (a : Fin 2 → Fin 512 → ℝ) : Prop :=
  ∀ e r j, score x0 x1 x3 q0 e r j = ((S e r j * (Real.log 2)⁻¹ + a e r : ℝ) : EReal)

theorem Scores.real {x0 : Vec Ideal S512x256 .f32} {x1 : Vec Ideal S8192x256 .bf16} {x3 : Vec Ideal S2x1x8192 .f32} {q0 : ℕ}
    {S : Fin 2 → Fin 512 → ℕ → ℝ} {a : Fin 2 → Fin 512 → ℝ} (h : Scores x0 x1 x3 q0 S a) : RealScores x0 x1 x3 q0 := by
  intro e r j
  rw [h e r j]
  exact ⟨EReal.coe_ne_top _, EReal.coe_ne_bot _⟩

variable (c : Dev nD) (t : Fin grid0.N) (arg2 : Memref sig .tc .vmem S512x256 .f32) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S2x1x8192 .f32) (harg5 : arg5.IsWhole) (arg6 : Memref sig .tc .vmem S512x256 .bf16) (harg6 : arg6.IsWhole) (arg7 : Memref sig .tc .vmem S2x512x128 .f32) (harg7 : arg7.IsWhole) (arg8 : Memref sig .tc .vmem S2x512x128 .f32) (harg8 : arg8.IsWhole) (arg9 : Memref sig .tc .vmem S2x512x128 .f32) (harg9 : arg9.IsWhole)
  {x0 : Vec Ideal S512x256 .f32} {x1 x2 : Vec Ideal S8192x256 .bf16} {x3 : Vec Ideal S2x1x8192 .f32}
  {S : Fin 2 → Fin 512 → ℕ → ℝ} {a : Fin 2 → Fin 512 → ℝ}

/-- The accumulator over the sum, once every key up to the query has been read. -/
theorem final_at (hS : Scores x0 x1 x3 (512 * qi t) S a) (e : Fin 2) {M L A : Writes}
    (h : HInv e (msc x0 x1 x3 (512 * qi t) e) (vl x2 e) (4 * qi t + 4) M L A) (r : Fin 512) (x : Fin 128) :
    Ideal.div (View.canon A (ix3 e r x)) (∑ y : Fin 128, View.canon L (ix3 e r y)) = attn (S e r) (512 * qi t + r.val) (fun j => vl x2 e j x) := by
  obtain ⟨μ, hμ⟩ := (h r).final ⟨512 * qi t, by omega, msc_ne_bot hS.real e r _ (by omega)⟩
  refine (hμ x).trans (sum_wt_eq_attn (S e r) (msc x0 x1 x3 (512 * qi t) e r) (a e r) μ (512 * qi t + r.val) _ (by have := r.isLt; omega) _ ?_ ?_)
  · intro j hj
    unfold msc
    rw [if_pos hj, hS e r j]
  · intro j hj
    unfold msc
    rw [if_neg (by omega)]

theorem out_A (hmod : qi t % 4 = 0) (hc0 : ¬cond0_0 (grid0.coords t)) (hc1 : ¬cond0_1 (grid0.coords t)) (hc2 : ¬cond0_2 (grid0.coords t)) (hS : Scores x0 x1 x3 (512 * qi t) S a) (e : Fin 2) (r : Fin 512) (x : Fin 128) :
    out0_A_4 (F := Ideal) c (grid0.coords t) arg2 harg2 arg3 harg3 arg4 harg4 arg5 harg5 arg6 harg6 arg7 harg7 arg8 harg8 arg9 harg9 hc0 hc1 hc2 x0 x1 x2 x3 (ix2 r (col e x)) = attn (S e r) (512 * qi t + r.val) (fun j => vl x2 e j x) := by
  obtain ⟨M, h0, h1⟩ := state_A c t arg2 harg2 arg3 harg3 arg4 harg4 arg5 harg5 arg6 harg6 arg7 harg7 arg8 harg8 arg9 harg9 x0 x1 x2 x3 hmod hc0 hc1 hc2 hS.real
  unfold out0_A_4
  rw [View.read_writes_junk_eq_canon, pieces_A c t arg2 harg2 arg3 harg3 arg4 harg4 arg5 harg5 arg6 harg6 arg7 harg7 arg8 harg8 arg9 harg9 x0 x1 x2 x3 hmod hc0 hc1 hc2]
  match e with
  | ⟨0, _⟩ =>
    refine (canon_out0 _ _ r x).trans ((out_at' _ _ r x).trans ?_)
    simp only [load0]
    exact final_at t hS 0 h0 r x
  | ⟨1, _⟩ =>
    refine (canon_out1 _ _ r x).trans ((out_at _ _ r x).trans ?_)
    simp only [load1]
    exact final_at t hS 1 h1 r x

theorem out_B (hmod : qi t % 4 = 1) (hc0 : cond0_0 (grid0.coords t)) (hc1 : ¬cond0_1 (grid0.coords t)) (hc2 : ¬cond0_2 (grid0.coords t)) (hS : Scores x0 x1 x3 (512 * qi t) S a) (e : Fin 2) (r : Fin 512) (x : Fin 128) :
    out0_B_4 (F := Ideal) c (grid0.coords t) arg2 harg2 arg3 harg3 arg4 harg4 arg5 harg5 arg6 harg6 arg7 harg7 arg8 harg8 arg9 harg9 hc0 hc1 hc2 x0 x1 x2 x3 (ix2 r (col e x)) = attn (S e r) (512 * qi t + r.val) (fun j => vl x2 e j x) := by
  obtain ⟨M, h0, h1⟩ := state_B c t arg2 harg2 arg3 harg3 arg4 harg4 arg5 harg5 arg6 harg6 arg7 harg7 arg8 harg8 arg9 harg9 x0 x1 x2 x3 hmod hc0 hc1 hc2 hS.real
  unfold out0_B_4
  rw [View.read_writes_junk_eq_canon, pieces_B c t arg2 harg2 arg3 harg3 arg4 harg4 arg5 harg5 arg6 harg6 arg7 harg7 arg8 harg8 arg9 harg9 x0 x1 x2 x3 hmod hc0 hc1 hc2]
  match e with
  | ⟨0, _⟩ =>
    refine (canon_out0 _ _ r x).trans ((out_at' _ _ r x).trans ?_)
    simp only [load0]
    exact final_at t hS 0 h0 r x
  | ⟨1, _⟩ =>
    refine (canon_out1 _ _ r x).trans ((out_at _ _ r x).trans ?_)
    simp only [load1]
    exact final_at t hS 1 h1 r x

theorem out_C (hmod : qi t % 4 = 2) (hc0 : cond0_0 (grid0.coords t)) (hc1 : cond0_1 (grid0.coords t)) (hc2 : ¬cond0_2 (grid0.coords t)) (hS : Scores x0 x1 x3 (512 * qi t) S a) (e : Fin 2) (r : Fin 512) (x : Fin 128) :
    out0_C_4 (F := Ideal) c (grid0.coords t) arg2 harg2 arg3 harg3 arg4 harg4 arg5 harg5 arg6 harg6 arg7 harg7 arg8 harg8 arg9 harg9 hc0 hc1 hc2 x0 x1 x2 x3 (ix2 r (col e x)) = attn (S e r) (512 * qi t + r.val) (fun j => vl x2 e j x) := by
  obtain ⟨M, h0, h1⟩ := state_C c t arg2 harg2 arg3 harg3 arg4 harg4 arg5 harg5 arg6 harg6 arg7 harg7 arg8 harg8 arg9 harg9 x0 x1 x2 x3 hmod hc0 hc1 hc2 hS.real
  unfold out0_C_4
  rw [View.read_writes_junk_eq_canon, pieces_C c t arg2 harg2 arg3 harg3 arg4 harg4 arg5 harg5 arg6 harg6 arg7 harg7 arg8 harg8 arg9 harg9 x0 x1 x2 x3 hmod hc0 hc1 hc2]
  match e with
  | ⟨0, _⟩ =>
    refine (canon_out0 _ _ r x).trans ((out_at' _ _ r x).trans ?_)
    simp only [load0]
    exact final_at t hS 0 h0 r x
  | ⟨1, _⟩ =>
    refine (canon_out1 _ _ r x).trans ((out_at _ _ r x).trans ?_)
    simp only [load1]
    exact final_at t hS 1 h1 r x

theorem out_D (hmod : qi t % 4 = 3) (hc0 : cond0_0 (grid0.coords t)) (hc1 : cond0_1 (grid0.coords t)) (hc2 : cond0_2 (grid0.coords t)) (hS : Scores x0 x1 x3 (512 * qi t) S a) (e : Fin 2) (r : Fin 512) (x : Fin 128) :
    out0_D_4 (F := Ideal) c (grid0.coords t) arg2 harg2 arg3 harg3 arg4 harg4 arg5 harg5 arg6 harg6 arg7 harg7 arg8 harg8 arg9 harg9 hc0 hc1 hc2 x0 x1 x2 x3 (ix2 r (col e x)) = attn (S e r) (512 * qi t + r.val) (fun j => vl x2 e j x) := by
  obtain ⟨M, h0, h1⟩ := state_D c t arg2 harg2 arg3 harg3 arg4 harg4 arg5 harg5 arg6 harg6 arg7 harg7 arg8 harg8 arg9 harg9 x0 x1 x2 x3 hmod hc0 hc1 hc2 hS.real
  unfold out0_D_4
  rw [View.read_writes_junk_eq_canon, pieces_D c t arg2 harg2 arg3 harg3 arg4 harg4 arg5 harg5 arg6 harg6 arg7 harg7 arg8 harg8 arg9 harg9 x0 x1 x2 x3 hmod hc0 hc1 hc2]
  match e with
  | ⟨0, _⟩ =>
    refine (canon_out0 _ _ r x).trans ((out_at' _ _ r x).trans ?_)
    simp only [load0]
    exact final_at t hS 0 h0 r x
  | ⟨1, _⟩ =>
    refine (canon_out1 _ _ r x).trans ((out_at _ _ r x).trans ?_)
    simp only [load1]
    exact final_at t hS 1 h1 r x

end Cert.Fox

end
-- ==== Proof.Entry.lean ====
/- What the region finds in its operands, at an element, in terms of the arguments. -/
module

public import proofs.«01_k».proof.Proof.Out
public import Idealize.ShloMosaic.Lib.StableHlo.ReadAt
public import Idealize.ShloMosaic.Lib.Pointwise

@[expose] public section

set_option maxRecDepth 16384
set_option maxHeartbeats 1000000

noncomputable section

namespace Cert.Fox

open Idealize.ShloMosaic Idealize.ShloMosaic.TcCoe Cert.KernelIdeal Cert.KernelIdeal.Gen

variable (m : (ℓ : Loc nD τ sig) → Buf (Elt Ideal) ℓ) (c : Dev nD)

theorem entry_keys (j : Fin 8192) (y : Fin 2048) :
    V m c main_v1 (Idealize.ShloMosaic.ix2 j ⟨y.val, by omega⟩) = m ((c : Thread nD τ).loc main_arg1) (Idealize.ShloMosaic.ix2 j y) := by
  unfold V hostOps0
  after_reads_at
  rfl

theorem entry_values (j : Fin 8192) (y : Fin 2048) :
    V m c main_v1 (Idealize.ShloMosaic.ix2 j ⟨2048 + y.val, by omega⟩) = m ((c : Thread nD τ).loc main_arg2) (Idealize.ShloMosaic.ix2 j y) := by
  unfold V hostOps0
  after_reads_at
  rfl

theorem entry_gates (h : Fin 16) (j : Fin 8192) :
    V m c main_v6 (Idealize.ShloMosaic.ix3 ⟨32 + h.val, by omega⟩ 0 j) = m ((c : Thread nD τ).loc main_arg3) (Idealize.ShloMosaic.ix2 j h) := by
  unfold V hostOps0
  after_reads_at
  rfl

end Cert.Fox

end
-- ==== Proof.Target.lean ====
/- What both programs compute: softmax attention with forgetting, at one query row, head and column. -/
module

public import proofs.«01_k».proof.Proof.Math
public import Idealize.ShloMosaic.Lib.Pointwise

@[expose] public section

noncomputable section

namespace Cert.Fox

open Idealize.ShloMosaic

/-- Column `d` of head `h`. -/
def hcol (h : Fin 16) (d : Fin 128) : Fin 2048 := ⟨128 * h.val + d.val, by omega⟩

/-- Key row `j`. -/
def krow (j : ℕ) : Fin 8192 := Fin.ofNat 8192 j

theorem krow_val {j : ℕ} (h : j < 8192) : (krow j).val = j := Nat.mod_eq_of_lt h

theorem krow_fin (j : Fin 8192) : krow j.val = j := Fin.ext (krow_val j.isLt)

/-- Every element is a real number. -/
def IsReal (s : Shape) (x : s.Idx → EReal) : Prop := ∀ i, x i = ((x i).toReal : EReal)

abbrev SQ : Shape := ⟨2, ![8192, 2048]⟩
abbrev SG : Shape := ⟨2, ![8192, 16]⟩

/-- The score of key `j` for query `i` in head `h`. -/
def S (q k : SQ.Idx → EReal) (g : SG.Idx → EReal) (h : Fin 16) (i : Fin 8192) (j : ℕ) : ℝ :=
  (∑ d : Fin 128, (q (ix2 i (hcol h d))).toReal * (k (ix2 (krow j) (hcol h d))).toReal) * (Real.sqrt 128)⁻¹
    + ((g (ix2 i h)).toReal - (g (ix2 (krow j) h)).toReal)

/-- The attention's element. -/
def target (q k v : SQ.Idx → EReal) (g : SG.Idx → EReal) (i : Fin 8192) (h : Fin 16) (d : Fin 128) : EReal :=
  attn (S q k g h i) i.val (fun j => v (ix2 (krow j) (hcol h d)))

end Cert.Fox

end
-- ==== Proof.KernelAt.lean ====
/- The kernel's result at an element. -/
module

public import proofs.«01_k».proof.Proof.Entry
public import proofs.«01_k».proof.Proof.Target
public import proofs.«01_k».proof.Proof.Gen.KernelIdeal.Value
public import Idealize.ShloMosaic.Lib.Pipeline.ValueKit

@[expose] public section

set_option maxRecDepth 16384
set_option maxHeartbeats 1000000

noncomputable section

namespace Cert.Fox

open Idealize.ShloMosaic Idealize.ShloMosaic.TcCoe Cert.KernelIdeal Cert.KernelIdeal.Gen Cert.KernelIdeal.Value

variable (m : (ℓ : Loc nD τ sig) → Buf (Elt Ideal) ℓ) (c : Dev nD)

/-! ## The blocks of the operands -/

/-- The pair of heads of grid point `t`. -/
def hp (t : Fin grid0.N) : ℕ := t.val / 16

theorem hp_lt : ∀ t : Fin grid0.N, hp t < 8 := by decide +kernel

theorem index0 : ∀ t : Fin grid0.N, win0_0.index t 0 = qi t ∧ win0_0.index t 1 = hp t := by decide +kernel
theorem index1 : ∀ t : Fin grid0.N, win0_1.index t 0 = 0 ∧ win0_1.index t 1 = hp t := by decide +kernel
theorem index2 : ∀ t : Fin grid0.N, win0_2.index t 0 = 0 ∧ win0_2.index t 1 = 8 + hp t := by decide +kernel
theorem index3 : ∀ t : Fin grid0.N, win0_3.index t 0 = 16 + hp t ∧ win0_3.index t 1 = 0 ∧ win0_3.index t 2 = 0 := by decide +kernel
theorem index4 : ∀ t : Fin grid0.N, win0_4.index t 0 = qi t ∧ win0_4.index t 1 = hp t := by decide +kernel

theorem qi_lt (t : Fin grid0.N) : qi t < 16 := Nat.mod_lt _ (by norm_num)

/-- Head `e` of point `t`'s pair. -/
def head (t : Fin grid0.N) (e : Fin 2) : Fin 16 := ⟨2 * hp t + e.val, by have := hp_lt t; omega⟩

/-- Query `r` of point `t`'s tile. -/
def query (t : Fin grid0.N) (r : Fin 512) : Fin 8192 := ⟨512 * qi t + r.val, by have := qi_lt t; omega⟩

theorem q_blk (t : Fin grid0.N) (r : Fin 512) (e : Fin 2) (d : Fin 128) :
    iblk m c 0 t (ix2 r (col e d)) = m ((c : Thread nD τ).loc main_arg0) (ix2 (query t r) (hcol (head t e) d)) := by
  unfold iblk
  rw [View.read_apply]
  show V m c main_arg0 _ = _
  rw [V_main_arg0]
  congr 1
  funext a
  apply Fin.ext
  obtain ⟨e0, e1⟩ := index0 t
  match a with
  | ⟨0, _⟩ => blk_simp [e0]; show qi t * 512 + r.val = 512 * qi t + r.val; omega
  | ⟨1, _⟩ => blk_simp [e1]; show hp t * 256 + (128 * e.val + d.val) = 128 * (2 * hp t + e.val) + d.val; omega

theorem k_blk (t : Fin grid0.N) (j : Fin 8192) (e : Fin 2) (d : Fin 128) :
    iblk m c 1 t (ix2 j (col e d)) = m ((c : Thread nD τ).loc main_arg1) (ix2 j (hcol (head t e) d)) := by
  unfold iblk
  rw [View.read_apply]
  refine Eq.trans ?_ (entry_keys m c j _)
  show V m c main_v1 _ = _
  congr 1
  funext a
  apply Fin.ext
  obtain ⟨e0, e1⟩ := index1 t
  match a with
  | ⟨0, _⟩ => blk_simp [e0]
  | ⟨1, _⟩ => blk_simp [e1]; show hp t * 256 + (128 * e.val + d.val) = 128 * (2 * hp t + e.val) + d.val; omega

theorem v_blk (t : Fin grid0.N) (j : Fin 8192) (e : Fin 2) (d : Fin 128) :
    iblk m c 2 t (ix2 j (col e d)) = m ((c : Thread nD τ).loc main_arg2) (ix2 j (hcol (head t e) d)) := by
  unfold iblk
  rw [View.read_apply]
  refine Eq.trans ?_ (entry_values m c j _)
  show V m c main_v1 _ = _
  congr 1
  funext a
  apply Fin.ext
  obtain ⟨e0, e1⟩ := index2 t
  match a with
  | ⟨0, _⟩ => blk_simp [e0]
  | ⟨1, _⟩ => blk_simp [e1]; show (8 + hp t) * 256 + (128 * e.val + d.val) = 2048 + (128 * (2 * hp t + e.val) + d.val); omega

theorem g_blk (t : Fin grid0.N) (e : Fin 2) (j : Fin 8192) :
    iblk m c 3 t (ix3 e 0 j) = m ((c : Thread nD τ).loc main_arg3) (ix2 j (head t e)) := by
  unfold iblk
  rw [View.read_apply]
  refine Eq.trans ?_ (entry_gates m c _ j)
  show V m c main_v6 _ = _
  congr 1
  funext a
  apply Fin.ext
  obtain ⟨e0, e1, e2⟩ := index3 t
  match a with
  | ⟨0, _⟩ => blk_simp [e0]; show (16 + hp t) * 2 + e.val = 32 + (2 * hp t + e.val); omega
  | ⟨1, _⟩ => blk_simp [e1]
  | ⟨2, _⟩ => blk_simp [e2]

/-! ## The tile -/

section

variable {m c}

/-- The arguments of core `c` that must be real are. -/
def ArgsReal (m : (ℓ : Loc nD τ sig) → Buf (Elt Ideal) ℓ) (c : Dev nD) : Prop :=
  IsReal SQ (m ((c : Thread nD τ).loc main_arg0)) ∧ IsReal SQ (m ((c : Thread nD τ).loc main_arg1))
    ∧ IsReal SG (m ((c : Thread nD τ).loc main_arg3))

/-- The attention of core `c`'s arguments, as an array. -/
def result (m : (ℓ : Loc nD τ sig) → Buf (Elt Ideal) ℓ) (c : Dev nD) : Buf (Elt Ideal) ((c : Thread nD τ).loc main_v7) :=
  fun (y : SQ.Idx) => target (m ((c : Thread nD τ).loc main_arg0)) (m ((c : Thread nD τ).loc main_arg1)) (m ((c : Thread nD τ).loc main_arg2))
    (m ((c : Thread nD τ).loc main_arg3)) (y 0) ⟨(y 1).val / 128, by have h : (y 1).val < 2048 := (y 1).isLt; omega⟩ ⟨(y 1).val % 128, Nat.mod_lt _ (by norm_num)⟩

theorem result_at (i : Fin 8192) (h : Fin 16) (d : Fin 128) :
    result m c (ix2 i (hcol h d)) = target (m ((c : Thread nD τ).loc main_arg0)) (m ((c : Thread nD τ).loc main_arg1))
      (m ((c : Thread nD τ).loc main_arg2)) (m ((c : Thread nD τ).loc main_arg3)) i h d := by
  have hh : (⟨(128 * h.val + d.val) / 128, by omega⟩ : Fin 16) = h := Fin.ext (by show (128 * h.val + d.val) / 128 = h.val; omega)
  have hd : (⟨(128 * h.val + d.val) % 128, by omega⟩ : Fin 128) = d := Fin.ext (by show (128 * h.val + d.val) % 128 = d.val; omega)
  show target _ _ _ _ i ⟨(128 * h.val + d.val) / 128, _⟩ ⟨(128 * h.val + d.val) % 128, _⟩ = _
  rw [hh, hd]

/-- A score in base two with its own factor, from reals. -/
theorem score_real (q k : Fin 128 → ℝ) (g0 gi gj : ℝ) :
    score1 (fun d => (q d : EReal) * (qsc : EReal)) (fun d => (k d : EReal)) (g0 : EReal) (gj : EReal)
      = ((((∑ d, q d * k d) * (Real.sqrt 128)⁻¹ + (gi - gj)) * (Real.log 2)⁻¹ + (g0 - gi) * (Real.log 2)⁻¹ : ℝ) : EReal) := by
  have h : ∀ d, (q d : EReal) * (qsc : EReal) * (k d : EReal) = ((q d * qsc * k d : ℝ) : EReal) := fun d => by
    rw [EReal.coe_mul, EReal.coe_mul]
  simp only [score1, h]
  rw [← coe_sum, ← EReal.coe_sub, ← EReal.coe_mul, ← EReal.coe_add]
  congr 1
  have hs : ∑ d, q d * qsc * k d = (∑ d, q d * k d) * qsc := by
    rw [Finset.sum_mul]
    exact Finset.sum_congr rfl fun d _ => by ring
  rw [hs]
  unfold qsc l2e
  ring

theorem scores (hr : ArgsReal m c) (t : Fin grid0.N) :
    Scores (iblk m c 0 t) (iblk m c 1 t) (iblk m c 3 t) (512 * qi t)
      (fun e r => S (m ((c : Thread nD τ).loc main_arg0)) (m ((c : Thread nD τ).loc main_arg1)) (m ((c : Thread nD τ).loc main_arg3)) (head t e) (query t r))
      (fun e r => ((m ((c : Thread nD τ).loc main_arg3) (ix2 (krow (512 * qi t)) (head t e)) : EReal).toReal
        - (m ((c : Thread nD τ).loc main_arg3) (ix2 (query t r) (head t e)) : EReal).toReal) * (Real.log 2)⁻¹) := by
  obtain ⟨h0, h1, h3⟩ := hr
  intro e r j
  refine Eq.trans ?_ (score_real _ _ _ _ _)
  unfold score
  rw [g_blk, g_blk]
  simp only [q_blk, k_blk]
  simp only [← h0 _, ← h1 _, ← h3 _]
  rfl

theorem tile (hr : ArgsReal m c) (t : Fin cfg0.N) (r : Fin 512) (e : Fin 2) (x : Fin 128) :
    (dats m 0 c).flushed 4 t (ix2 r (col e x)) = result m c (ix2 (query t r) (hcol (head t e) x)) := by
  have hS := scores hr t
  have hv : attn (S (m ((c : Thread nD τ).loc main_arg0)) (m ((c : Thread nD τ).loc main_arg1)) (m ((c : Thread nD τ).loc main_arg3)) (head t e) (query t r))
      (512 * qi t + r.val) (fun j => vl (iblk m c 2 t) e j x) = result m c (ix2 (query t r) (hcol (head t e) x)) := by
    rw [result_at]
    unfold target vl
    simp only [v_blk]
    rfl
  have hq : qi t % 4 = t.val % 4 := by unfold qi; omega
  rw [← hv]
  by_cases h0 : t.val % 4 = 0
  · rw [flushed4_A m c t (by omega) (by omega) (by omega)]
    exact out_A c t _ _ _ _ _ _ _ _ _ _ _ _ _ _ _ _ (by omega) _ _ _ hS e r x
  by_cases h1 : t.val % 4 = 1
  · rw [flushed4_B m c t (by omega) (by omega) (by omega)]
    exact out_B c t _ _ _ _ _ _ _ _ _ _ _ _ _ _ _ _ (by omega) _ _ _ hS e r x
  by_cases h2 : t.val % 4 = 2
  · rw [flushed4_C m c t (by omega) (by omega) (by omega)]
    exact out_C c t _ _ _ _ _ _ _ _ _ _ _ _ _ _ _ _ (by omega) _ _ _ hS e r x
  · rw [flushed4_D m c t (by omega) (by omega) (by omega)]
    exact out_D c t _ _ _ _ _ _ _ _ _ _ _ _ _ _ _ _ (by omega) _ _ _ hS e r x

/-- The result array after the run. -/
theorem final (hr : ArgsReal m c) : (dats m 0 c).arrAt 4 cfg0.N = result m c := by
  refine (dats m 0 c).arrAt_eq_of_covers 4 _ (by decide +kernel) fun t hf y => ?_
  show (dats m 0 c).flushed 4 t y = _
  have y0 : (y 0).val < 512 := (y 0).isLt
  have y1 : (y 1).val < 256 := (y 1).isLt
  let r : Fin 512 := ⟨(y 0).val, y0⟩
  let e : Fin 2 := ⟨(y 1).val / 128, by omega⟩
  let x : Fin 128 := ⟨(y 1).val % 128, Nat.mod_lt _ (by norm_num)⟩
  have hy : y = ix2 r (col e x) := by
    funext a
    apply Fin.ext
    match a with
    | ⟨0, _⟩ => rfl
    | ⟨1, _⟩ => show (y 1).val = 128 * ((y 1).val / 128) + (y 1).val % 128; omega
  rw [hy, tile hr t r e x]
  congr 1
  funext a
  apply Fin.ext
  obtain ⟨e0, e1⟩ := index4 t
  match a with
  | ⟨0, _⟩ => blk_simp [e0]; show 512 * qi t + r.val = qi t * 512 + r.val; omega
  | ⟨1, _⟩ => blk_simp [e1]; show 128 * (2 * hp t + e.val) + x.val = hp t * 256 + (128 * e.val + x.val); omega

end

end Cert.Fox

end
-- ==== Proof.RefAt.lean ====
/- The reference at an element. -/
module

public import proofs.«01_k».proof.Proof.Target
public import proofs.«01_k».proof.Proof.Gen.ReferenceIdeal.Read
public import Idealize.ShloMosaic.PureOps.Reduce

@[expose] public section

set_option maxRecDepth 16384
set_option maxHeartbeats 1000000

noncomputable section

namespace Cert.Fox.Ref

open Idealize.ShloMosaic Cert.ReferenceIdeal Cert.ReferenceIdeal.Read

variable (x0 x1 x2 : SQ.Idx → EReal) (x3 : SG.Idx → EReal)

theorem neg_inf : Ideal.ofBits .f32 0xFF800000#32 = (⊥ : EReal) := by decide +kernel

theorem c128 : Ideal.ofBits .f32 0x43000000#32 = ((128 : ℝ) : EReal) := by
  simp [Ideal.ofBits, Ideal.ieee, -EReal.coe_mul]; norm_num

theorem q_at (h : Fin 16) (i j : Fin 8192) (d : Fin 128) :
    val_main_v3 (F := Ideal) x0 (lidx_main_v7 (ix3 h i j) d) = x0 (ix2 i (hcol h d)) * (((Real.sqrt 128)⁻¹ : ℝ) : EReal) := by
  rw [val_main_v3_apply, val_main_v0_apply, val_main_v2_apply, val_main_v1_apply, val_main_cst_apply]
  show Ideal.div _ (Ideal.sqrt (Ideal.ofBits .f32 0x43000000#32)) = _
  rw [c128, Ideal.sqrt_coe, if_neg (by norm_num), Ideal.div_coe (by positivity), one_div]
  refine congrArg (x0 · * _) (funext fun a => Fin.ext ?_)
  have hd := d.isLt
  have hh := h.isLt
  match a with
  | ⟨0, _⟩ => show ((i.val * 16 + h.val) * 128 + d.val) / 2048 = i.val; omega
  | ⟨1, _⟩ => show ((i.val * 16 + h.val) * 128 + d.val) % 2048 = 128 * h.val + d.val; omega

theorem k_at (h : Fin 16) (i j : Fin 8192) (d : Fin 128) :
    val_main_v4 (F := Ideal) x1 (ridx_main_v7 (ix3 h i j) d) = x1 (ix2 j (hcol h d)) := by
  rw [val_main_v4_apply]
  refine congrArg x1 (funext fun a => Fin.ext ?_)
  have hd := d.isLt
  have hh := h.isLt
  match a with
  | ⟨0, _⟩ => show ((j.val * 16 + h.val) * 128 + d.val) / 2048 = j.val; omega
  | ⟨1, _⟩ => show ((j.val * 16 + h.val) * 128 + d.val) % 2048 = 128 * h.val + d.val; omega

theorem v_at (h : Fin 16) (i j : Fin 8192) (d : Fin 128) :
    val_main_v5 (F := Ideal) x2 (lidx_main_v32 (ix3 h d i) j) = x2 (ix2 j (hcol h d)) := by
  rw [val_main_v5_apply]
  refine congrArg x2 (funext fun a => Fin.ext ?_)
  have hd := d.isLt
  have hh := h.isLt
  match a with
  | ⟨0, _⟩ => show ((j.val * 16 + h.val) * 128 + d.val) / 2048 = j.val; omega
  | ⟨1, _⟩ => show ((j.val * 16 + h.val) * 128 + d.val) % 2048 = 128 * h.val + d.val; omega

theorem gate_at (h : Fin 16) (i j : Fin 8192) :
    val_main_v12 (F := Ideal) x3 (ix3 h i j) = x3 (ix2 i h) - x3 (ix2 j h) := by
  rw [val_main_v12_apply, val_main_v10_apply, val_main_v11_apply, val_main_v8_apply, val_main_v9_apply, val_main_v6_apply, val_main_v6_apply]
  show x3 _ - x3 _ = _
  congr 2 <;> funext a <;> apply Fin.ext
  · match a with
    | ⟨0, _⟩ => rfl
    | ⟨1, _⟩ => rfl
  · match a with
    | ⟨0, _⟩ => rfl
    | ⟨1, _⟩ => rfl

theorem sle_fin (i r : Fin 8192) : IntOp.cmpi CmpIPredicate.sle (BitVec.ofNat 32 i.val) (BitVec.ofNat 32 r.val) = BitVec.ofBool (decide (i.val ≤ r.val)) := by
  have hi := i.isLt
  have hr := r.isLt
  simp only [IntOp.cmpi, BitVec.sle]
  congr 1
  rw [BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  simp

theorem mask_at (h : Fin 16) (i j : Fin 8192) :
    val_main_call0_v1 (F := Ideal) (ix3 h i j) = BitVec.ofBool (decide (j.val ≤ i.val)) := by
  rw [val_main_call0_v1_apply, val_main_v19_apply, val_main_v17_apply, val_main_v18_apply, val_main_v15_apply, val_main_v16_apply,
    val_main_v14_apply, val_main_v14_apply]
  exact sle_fin j i

variable {x0 x1 x3} (hq : IsReal SQ x0) (hk : IsReal SQ x1) (hg : IsReal SG x3)
include hq hk hg

theorem score_at (h : Fin 16) (i j : Fin 8192) : val_main_v13 (F := Ideal) x0 x1 x3 (ix3 h i j) = (S x0 x1 x3 h i j.val : EReal) := by
  rw [val_main_v13_apply, val_main_v7_apply, gate_at]
  show _ + _ = _
  unfold S
  rw [krow_fin, EReal.coe_add, EReal.coe_sub, ← hg, ← hg, Finset.sum_mul, coe_sum]
  refine congrArg (· + _) (Finset.sum_congr rfl fun d _ => ?_)
  rw [q_at, k_at, hq (ix2 i (hcol h d)), hk (ix2 j (hcol h d)), ← EReal.coe_mul, ← EReal.coe_mul, EReal.toReal_coe, EReal.toReal_coe]
  congr 1
  ring

theorem masked_at (h : Fin 16) (i j : Fin 8192) :
    val_main_v20 (F := Ideal) x0 x1 x3 (ix3 h i j) = if j.val ≤ i.val then (S x0 x1 x3 h i j.val : EReal) else ⊥ := by
  rw [val_main_v20_apply, mask_at, score_at hq hk hg, val_main_call0_v2_apply, val_main_call0_v0_apply, val_main_cst_0_apply]
  show Scalar.select _ _ (Ideal.ofBits .f32 0xFF800000#32) = _
  rw [neg_inf]
  by_cases hj : j.val ≤ i.val
  · rw [if_pos hj, decide_eq_true hj]; rfl
  · rw [if_neg hj, decide_eq_false hj]; rfl

theorem max_at (h : Fin 16) (i : Fin 8192) : ∃ μ : ℝ, val_main_v23 (F := Ideal) x0 x1 x3 (ix2 h i) = (μ : EReal) := by
  have hr : S16x8192x8192.Reduces [2] S16x8192 := by decide
  have hm : ∀ j : Fin 8192, val_main_v20 (F := Ideal) x0 x1 x3 (hr.lift (ix2 h i) j) = if j.val ≤ i.val then (S x0 x1 x3 h i j.val : EReal) else ⊥ := by
    intro j
    rw [← masked_at hq hk hg]
    refine congrArg _ (funext fun a => Fin.ext ?_)
    match a with
    | ⟨0, _⟩ => rfl
    | ⟨1, _⟩ => rfl
    | ⟨2, _⟩ => rfl
  rw [val_main_v23_apply, val_main_v22_apply, val_main_cst_2_apply]
  unfold val_main_v21
  rw [Host.reduce_eq_fold_single (FloatOps.maximumf (F := Ideal) (φ := .f32)) _ _ _ hr]
  obtain ⟨μ, hμ⟩ := max_fold_real (Ideal.ofBits .f32 0xFF800000#32) (fun j : Fin 8192 => val_main_v20 (F := Ideal) x0 x1 x3 (hr.lift (ix2 h i) j))
    (by rw [neg_inf]; exact bot_ne_top) (by
      intro j
      rw [hm]
      split
      · exact EReal.coe_ne_top _
      · exact bot_ne_top) ⟨i, by rw [hm, if_pos le_rfl]; exact EReal.coe_ne_bot _⟩
  refine ⟨μ, ?_⟩
  rw [← hμ, val_main_cst_1_apply]
  show max _ _ = max _ _
  congr 1

theorem prob_at (h : Fin 16) (i j : Fin 8192) {μ : ℝ} (hμ : val_main_v23 (F := Ideal) x0 x1 x3 (ix2 h i) = (μ : EReal)) :
    val_main_v27 (F := Ideal) x0 x1 x3 (ix3 h i j) = Ideal.exp (val_main_v20 (F := Ideal) x0 x1 x3 (ix3 h i j) - μ) := by
  rw [val_main_v27_apply, val_main_v26_apply, val_main_v25_apply, val_main_v24_apply, ← hμ]
  refine congrArg (fun y => Ideal.exp (_ - val_main_v23 (F := Ideal) x0 x1 x3 y)) (funext fun a => Fin.ext ?_)
  match a with
  | ⟨0, _⟩ => rfl
  | ⟨1, _⟩ => rfl

theorem sum_at (h : Fin 16) (i : Fin 8192) {μ : ℝ} (hμ : val_main_v23 (F := Ideal) x0 x1 x3 (ix2 h i) = (μ : EReal)) :
    val_main_v28 (F := Ideal) x0 x1 x3 (ix2 h i) = ∑ j : Fin 8192, Ideal.exp (val_main_v20 (F := Ideal) x0 x1 x3 (ix3 h i j) - μ) := by
  rw [val_main_v28_apply, val_main_cst_3_apply]
  show Ideal.ofBits .f32 0x00000000#32 + _ = _
  rw [Ideal.ofBits_zero, zero_add]
  refine Finset.sum_congr rfl fun j _ => ?_
  rw [← prob_at hq hk hg h i j hμ]
  refine congrArg _ (funext fun a => Fin.ext ?_)
  match a with
  | ⟨0, _⟩ => rfl
  | ⟨1, _⟩ => rfl
  | ⟨2, _⟩ => rfl

theorem weight_at (h : Fin 16) (i j : Fin 8192) {μ : ℝ} (hμ : val_main_v23 (F := Ideal) x0 x1 x3 (ix2 h i) = (μ : EReal)) :
    val_main_v31 (F := Ideal) x0 x1 x3 (ix3 h i j) = Ideal.div (Ideal.exp (val_main_v20 (F := Ideal) x0 x1 x3 (ix3 h i j) - μ))
      (∑ j' : Fin 8192, Ideal.exp (val_main_v20 (F := Ideal) x0 x1 x3 (ix3 h i j') - μ)) := by
  rw [val_main_v31_apply, prob_at hq hk hg h i j hμ, val_main_v30_apply, val_main_v29_apply, ← sum_at hq hk hg h i hμ]
  refine congrArg (fun y => Ideal.div _ (val_main_v28 (F := Ideal) x0 x1 x3 y)) (funext fun a => Fin.ext ?_)
  match a with
  | ⟨0, _⟩ => rfl
  | ⟨1, _⟩ => rfl

/-- The reference's element is the attention's. -/
theorem result_at (i : Fin 8192) (h : Fin 16) (d : Fin 128) :
    val_main_v35 (F := Ideal) x0 x1 x2 x3 (ix2 i (hcol h d)) = target x0 x1 x2 x3 i h d := by
  obtain ⟨μ, hμ⟩ := max_at hq hk hg h i
  have hidx : idx_main_v33 (idx_main_v34 (ix2 i (hcol h d))) = ix3 h d i := by
    funext a
    apply Fin.ext
    have hd := d.isLt
    have hh := h.isLt
    have hi := i.isLt
    match a with
    | ⟨0, _⟩ => show (i.val * 2048 + (128 * h.val + d.val)) / 128 % 16 = h.val; omega
    | ⟨1, _⟩ => show (i.val * 2048 + (128 * h.val + d.val)) % 128 = d.val; omega
    | ⟨2, _⟩ => show (i.val * 2048 + (128 * h.val + d.val)) / 2048 = i.val; omega
  let sc : ℕ → EReal := fun j => if j ≤ i.val then (S x0 x1 x3 h i j : EReal) else ⊥
  have hsc : ∀ j : Fin 8192, val_main_v20 (F := Ideal) x0 x1 x3 (ix3 h i j) = sc j.val := masked_at hq hk hg h i
  rw [val_main_v35_apply]
  show val_main_v34 (F := Ideal) x0 x1 x2 x3 (ix2 i (hcol h d)) = _
  rw [val_main_v34_apply, val_main_v33_apply, hidx, val_main_v32_apply]
  refine Eq.trans ?_ (softmax_eq_attn (S x0 x1 x3 h i) sc μ i.val 8192 i.isLt (fun j => x2 (ix2 (krow j) (hcol h d)))
    (fun j hj => if_pos hj) (fun j hj => if_neg (by omega)))
  rw [Finset.sum_range, Finset.sum_range]
  refine Finset.sum_congr rfl fun j _ => ?_
  have hr : ridx_main_v32 (ix3 h d i) j = ix3 h i j := by
    funext a
    apply Fin.ext
    match a with
    | ⟨0, _⟩ => rfl
    | ⟨1, _⟩ => rfl
    | ⟨2, _⟩ => rfl
  rw [v_at, hr, weight_at hq hk hg h i j hμ, mul_comm, krow_fin]
  simp only [hsc]

end Cert.Fox.Ref

end
-- ==== Proof.FoxClaims.lean ====
/- The claims about the forgetting attention. -/
module

public import proofs.«01_k».proof.Defs
public import proofs.«01_k».proof.Proof.KernelAt
public import proofs.«01_k».proof.Proof.RefAt
public import proofs.«01_k».proof.Proof.Gen.Kernel.Frame

@[expose] public section

set_option maxRecDepth 16384
set_option maxHeartbeats 1000000

noncomputable section

namespace Cert.Fox

open Idealize.ShloMosaic Idealize.SL.Sem

instance finite_facts : Cert.Pre_finite.Facts := ⟨by decide, by decide⟩

/-! ## The precondition -/

theorem pos_inf : Ideal.ofBits .f32 0x7F800000#32 = (⊤ : EReal) := by decide +kernel

theorem real_of_abs_lt {x : EReal} (h : max x (-x) < ⊤) : x = (x.toReal : EReal) := by
  refine (EReal.coe_toReal ?_ ?_).symm
  · rintro rfl
    simp at h
  · rintro rfl
    simp at h

section

variable {q k v : SQ.Idx → EReal} {g : SG.Idx → EReal}

abbrev joined (q k : SQ.Idx → EReal) (g : SG.Idx → EReal) : Cert.Pre_finite.S8192x4112.Idx → EReal :=
  concatenate Cert.Pre_finite.S8192x4112 1 [⟨Cert.Pre_finite.S8192x2048, q⟩, ⟨Cert.Pre_finite.S8192x2048, k⟩, ⟨Cert.Pre_finite.S8192x16, g⟩]
    Cert.Pre_finite.Facts.concatenates_S8192x2048_S8192x2048_S8192x16_S8192x4112_d1

theorem joined_real (h : Cert.Pre_finite.fn (F := Ideal) q k v g = fun _ => 1#1) (i : Cert.Pre_finite.S8192x4112.Idx) :
    joined q k g i = ((joined q k g i).toReal : EReal) := by
  have hi : Ideal.cmp .olt (max (joined q k g i) (-(joined q k g i))) (Ideal.ofBits .f32 0x7F800000#32) = 1#1 := congrFun h i
  rw [pos_inf] at hi
  refine real_of_abs_lt ?_
  by_contra hn
  simp [Ideal.cmp, hn] at hi

theorem real_q (h : Cert.Pre_finite.fn (F := Ideal) q k v g = fun _ => 1#1) : IsReal SQ q := by
  intro i
  have e : joined q k g (ix2 (i 0) ⟨(i 1).val, by have h : (i 1).val < 2048 := (i 1).isLt; omega⟩) = q i := by
    idx_vars i
    pointwise
  rw [← e]
  exact joined_real h _

theorem real_k (h : Cert.Pre_finite.fn (F := Ideal) q k v g = fun _ => 1#1) : IsReal SQ k := by
  intro i
  have e : joined q k g (ix2 (i 0) ⟨2048 + (i 1).val, by have h : (i 1).val < 2048 := (i 1).isLt; omega⟩) = k i := by
    idx_vars i
    pointwise
  rw [← e]
  exact joined_real h _

theorem real_g (h : Cert.Pre_finite.fn (F := Ideal) q k v g = fun _ => 1#1) : IsReal SG g := by
  intro i
  have e : joined q k g (ix2 (i 0) ⟨4096 + (i 1).val, by have h : (i 1).val < 16 := (i 1).isLt; omega⟩) = g i := by
    idx_vars i
    pointwise
    rw [dif_neg (by omega), dif_neg (by omega)]
    refine congrArg (fun z => g (ix2 i0 z)) (Fin.ext ?_)
    have : 4096 + i1.val - 2048 - 2048 = i1.val := by omega
    exact this
  rw [← e]
  exact joined_real h _

end

/-! ## The claims -/

theorem frame_p : Cert.quiescent_Kernel := fun m ρ _ => Cert.Kernel.Gen.frame m ρ

theorem frame_pi : Cert.quiescent_KernelIdeal := fun m ρ _ => Cert.KernelIdeal.Gen.frame m ρ

theorem frame_pi_finite : Cert.quiescent_KernelIdeal_pre_finite := fun m ρ _ => Cert.KernelIdeal.Gen.frame m ρ

theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem frame_ri_finite : Cert.quiescent_ReferenceIdeal_pre_finite := fun m ρ _ => frame_ri m ρ trivial

theorem preserves : Cert.preserves_Kernel_KernelIdeal :=
  ⟨IdealRules.named_const.statement Cert.KernelIdeal.κ "q_scale" .f32 0x3E0293EE#32 (((Real.log 2)⁻¹ * (Real.sqrt 128)⁻¹ : ℝ) : EReal) rfl,
    IdealRules.named_const.statement Cert.KernelIdeal.κ "log2e" .f32 0x3FB8AA3B#32 (((Real.log 2)⁻¹ : ℝ) : EReal) rfl⟩

theorem algebraic : Cert.algebraic_KernelIdeal_ReferenceIdeal_pre_finite := by
  intro m ρ m' ρ' hpre hagree
  have hr : ∀ c, ArgsReal m c := fun c => ⟨real_q (hpre c), real_k (hpre c), real_g (hpre c)⟩
  refine ⟨fun c => result m c, ?_, ?_⟩
  · exact (θ_run Cert.KernelIdeal.defs _ _).mono (fun r h c => ⟨(h c).1.trans (final (hr c)), (h c).2⟩)
      (Cert.KernelIdeal.Value.run_blocks (F := Ideal) m ρ)
  · refine (θ_run Cert.ReferenceIdeal.defs _ _).mono (fun r h c => ⟨(h c).1.trans ?_, (h c).2⟩) (Cert.ReferenceIdeal.Value.run (F := Ideal) m' ρ')
    obtain ⟨e0, e1, e2, e3⟩ := hagree c
    rw [Cert.ReferenceIdeal.Read.val_main_v35_eq, e0, e1, e2, e3]
    funext y
    let h : Fin 16 := ⟨(y 1).val / 128, by have h : (y 1).val < 2048 := (y 1).isLt; omega⟩
    let d : Fin 128 := ⟨(y 1).val % 128, Nat.mod_lt _ (by norm_num)⟩
    have hy : y = ix2 (y 0) (hcol h d) := by
      funext a
      apply Fin.ext
      match a with
      | ⟨0, _⟩ => rfl
      | ⟨1, _⟩ => show (y 1).val = 128 * ((y 1).val / 128) + (y 1).val % 128; omega
    rw [hy]
    exact (Ref.result_at _ (hr c).1 (hr c).2.1 (hr c).2.2 (y 0) h d).trans (result_at (m := m) (c := c) (y 0) h d).symm

end Cert.Fox

end
-- ==== Proof.Layer.lean ====
/- The arithmetic of a layer's row: products, the root-mean-square norm, the gates of the feed-forward part. -/
module

public import Idealize.ShloMosaic.Lib.Pointwise

@[expose] public section

noncomputable section

namespace Cert.Layer

open Idealize.ShloMosaic

/-- The product of a row and a column. -/
def dotp {n : ℕ} (a b : Fin n → EReal) : EReal := ∑ k, a k * b k

/-- The norm's small addend. -/
def eps : EReal := Ideal.ofBits .f32 0x358637BD#32

/-- The width of the stream. -/
def width : EReal := Ideal.ofBits .f32 0x45800000#32

/-- The root-mean-square norm of a row `x` with the gains `g`. -/
def rms (x g : Fin 4096 → EReal) (j : Fin 4096) : EReal := x j * Ideal.rsqrt (Ideal.div (∑ k, x k * x k) width + eps) * g j

/-- An element of the stream, with the norm of the row `f` added. -/
def resid (x : EReal) (f g : Fin 4096 → EReal) (j : Fin 4096) : EReal := x + rms f g j

/-- The gated linear unit: one product times the logistic of the other. -/
def glu {n : ℕ} (y a b : Fin n → EReal) : EReal := dotp y a * Ideal.logistic (dotp y b)

/-- The feed-forward part's hidden unit. -/
def swi {n : ℕ} (h a b : Fin n → EReal) : EReal := dotp h a * Ideal.logistic (dotp h a) * dotp h b

/-! ## Equal parts give equal wholes -/

section congr

variable {n : ℕ}

theorem dotp_congr {x x' w w' : Fin n → EReal} (hx : ∀ k, x k = x' k) (hw : ∀ k, w k = w' k) : dotp x w = dotp x' w' := by
  rw [funext hx, funext hw]

theorem glu_congr {x x' a a' b b' : Fin n → EReal} (hx : ∀ k, x k = x' k) (ha : ∀ k, a k = a' k) (hb : ∀ k, b k = b' k) :
    glu x a b = glu x' a' b' := by rw [funext hx, funext ha, funext hb]

theorem swi_congr {x x' a a' b b' : Fin n → EReal} (hx : ∀ k, x k = x' k) (ha : ∀ k, a k = a' k) (hb : ∀ k, b k = b' k) :
    swi x a b = swi x' a' b' := by rw [funext hx, funext ha, funext hb]

theorem rms_congr {x x' g g' : Fin 4096 → EReal} (hx : ∀ k, x k = x' k) (hg : ∀ k, g k = g' k) (j : Fin 4096) :
    rms x g j = rms x' g' j := by rw [funext hx, funext hg]

theorem resid_congr {x x' : EReal} {f f' g g' : Fin 4096 → EReal} (hx : x = x') (hf : ∀ k, f k = f' k) (hg : ∀ k, g k = g' k)
    (j : Fin 4096) : resid x f g j = resid x' f' g' j := by rw [hx, funext hf, funext hg]

end congr

section tail

variable (x y : Fin 8192 → Fin 4096 → EReal) (g : Fin 4 → Fin 4096 → EReal) (wa wb : Fin 4096 → Fin 4096 → EReal)
  (wg wu : Fin 4096 → Fin 11008 → EReal) (wd : Fin 11008 → Fin 4096 → EReal)

/-- The mixer's output. -/
def mixed (i : Fin 8192) (j : Fin 4096) : EReal := glu (y i) (fun k => wa k j) (fun k => wb k j)

/-- The stream after the mixer. -/
def stream (i : Fin 8192) (j : Fin 4096) : EReal := resid (x i j) (mixed y wa wb i) (g 1) j

/-- The feed-forward part's input. -/
def normed (i : Fin 8192) (j : Fin 4096) : EReal := rms (stream x y g wa wb i) (g 2) j

/-- The hidden units. -/
def hidden (i : Fin 8192) (j : Fin 11008) : EReal := swi (normed x y g wa wb i) (fun k => wg k j) (fun k => wu k j)

/-- The feed-forward part's output. -/
def fed (i : Fin 8192) (j : Fin 4096) : EReal := dotp (hidden x y g wa wb wg wu i) (fun k => wd k j)

/-- The stream after the layer. -/
def tail (i : Fin 8192) (j : Fin 4096) : EReal := resid (stream x y g wa wb i j) (fed x y g wa wb wg wu wd i) (g 3) j

end tail

end Cert.Layer

end
-- ==== Proof.TailBody.lean ====
/- What each body of the odd layer's tail stores, element by element. -/
module

public import proofs.«01_k».proof.Proof.Layer
public import proofs.«01_k».proof.Proof.Gen.Kernel2Ideal.Skeleton
public import Idealize.ShloMosaic.Lib.Pointwise

@[expose] public section

set_option maxRecDepth 16384
set_option maxHeartbeats 1000000

noncomputable section

namespace Cert.Tail

open Idealize.ShloMosaic Cert.Kernel2Ideal Cert.Kernel2Ideal.Gen Cert.Layer

theorem glu_pay (y : Vec Ideal S2048x4096 .bf16) (a b : Vec Ideal S1x4096x256 .f32) (r : Fin 2048) (j : Fin 256) :
    k0_pay1 y a b (ix2 r j) = glu (fun k => y (ix2 r k)) (fun k => a (ix3 0 k j)) (fun k => b (ix3 0 k j)) := by
  pointwise [k0_pay1]
  rfl

theorem resid_pay (x : Vec Ideal S256x4096 .f32) (f : Vec Ideal S256x4096 .bf16) (g : Vec Ideal S1x4096 .f32) (r : Fin 256) (j : Fin 4096) :
    k1_pay1 x f g (ix2 r j) = resid (x (ix2 r j)) (fun k => f (ix2 r k)) (fun k => g (ix2 0 k)) j := by
  pointwise [k1_pay1]
  rfl

theorem norm_pay (x : Vec Ideal S256x4096 .f32) (f : Vec Ideal S256x4096 .bf16) (g g' : Vec Ideal S1x4096 .f32) (r : Fin 256) (j : Fin 4096) :
    k1_pay2 x f g g' (ix2 r j)
      = rms (fun k => resid (x (ix2 r k)) (fun k => f (ix2 r k)) (fun k => g (ix2 0 k)) k) (fun k => g' (ix2 0 k)) j := by
  pointwise [k1_pay2]
  simp only [resid_pay]
  rfl

theorem swi_pay (h : Vec Ideal S2048x4096 .bf16) (a b : Vec Ideal S1x4096x256 .f32) (r : Fin 2048) (j : Fin 256) :
    k2_pay1 h a b (ix2 r j) = swi (fun k => h (ix2 r k)) (fun k => a (ix3 0 k j)) (fun k => b (ix3 0 k j)) := by
  pointwise [k2_pay1]
  rfl

theorem cast_pay (w : Vec Ideal S1x64x4096 .f32) (r : Fin 64) (j : Fin 4096) :
    k2_pay2 w (ix2 r j) = w (ix3 0 r j) := by
  pointwise [k2_pay2]

theorem down_pay (h : Vec Ideal S512x11008 .bf16) (w : Vec Ideal S11008x512 .bf16) (r j : Fin 512) :
    k3_pay1 h w (ix2 r j) = dotp (fun k => h (ix2 r k)) (fun k => w (ix2 k j)) := by
  pointwise [k3_pay1]
  rfl

theorem last_pay (x : Vec Ideal S256x4096 .f32) (f : Vec Ideal S256x4096 .bf16) (g : Vec Ideal S1x4096 .f32) (r : Fin 256) (j : Fin 4096) :
    k4_pay1 x f g (ix2 r j) = resid (x (ix2 r j)) (fun k => f (ix2 r k)) (fun k => g (ix2 0 k)) j := by
  pointwise [k4_pay1]
  rfl

end Cert.Tail

end
-- ==== Proof.TailGlu.lean ====
/- The gated linear unit's call: what it leaves in its array. -/
module

public import proofs.«01_k».proof.Proof.TailBody
public import proofs.«01_k».proof.Proof.Gen.Kernel2Ideal.Frame
public import Idealize.ShloMosaic.Lib.Pipeline.ValueKit

@[expose] public section

set_option maxRecDepth 16384
set_option maxHeartbeats 1000000

noncomputable section

namespace Cert.Tail

open Idealize.ShloMosaic Idealize.ShloMosaic.TcCoe Cert.Kernel2Ideal Cert.Kernel2Ideal.Gen Cert.Layer

variable (V : (c : Dev nD) → (b : Ref sig .tc) → Buf (Elt Ideal) ((c : Thread nD τ).loc b)) (c : Dev nD)

namespace Glu

theorem index0 : ∀ t : Fin grid0.N, win0_0.index t 0 = t.val / 16 ∧ win0_0.index t 1 = 0 := by decide +kernel
theorem index1 : ∀ t : Fin grid0.N, win0_1.index t 0 = 0 ∧ win0_1.index t 1 = 0 ∧ win0_1.index t 2 = t.val % 16 := by decide +kernel
theorem index2 : ∀ t : Fin grid0.N, win0_2.index t 0 = 0 ∧ win0_2.index t 1 = 0 ∧ win0_2.index t 2 = t.val % 16 := by decide +kernel
theorem index3 : ∀ t : Fin grid0.N, win0_3.index t 0 = t.val / 16 ∧ win0_3.index t 1 = t.val % 16 := by decide +kernel
theorem lt : ∀ t : Fin grid0.N, t.val / 16 < 4 := by decide +kernel

/-- Row `r` of point `t`'s panel. -/
def row (t : Fin grid0.N) (r : Fin 2048) : Fin 8192 := ⟨t.val / 16 * 2048 + r.val, by have := lt t; omega⟩

/-- Column `j` of point `t`'s tile. -/
def col (t : Fin grid0.N) (j : Fin 256) : Fin 4096 := ⟨t.val % 16 * 256 + j.val, by omega⟩

theorem y_blk (t : Fin grid0.N) (r : Fin 2048) (k : Fin 4096) : iblk0 V c 0 t (ix2 r k) = V c main_v0 (ix2 (row t r) k) := by
  unfold iblk0
  rw [View.read_apply]
  show V c main_v0 _ = _
  congr 1
  funext a
  apply Fin.ext
  obtain ⟨e0, e1⟩ := index0 t
  match a with
  | ⟨0, _⟩ => blk_simp [e0]; rfl
  | ⟨1, _⟩ => blk_simp [e1]

theorem a_blk (t : Fin grid0.N) (k : Fin 4096) (j : Fin 256) : iblk0 V c 1 t (ix3 0 k j) = V c main_arg3 (ix3 0 k (col t j)) := by
  unfold iblk0
  rw [View.read_apply]
  show V c main_arg3 _ = _
  congr 1
  funext a
  apply Fin.ext
  obtain ⟨e0, e1, e2⟩ := index1 t
  match a with
  | ⟨0, _⟩ => blk_simp [e0]
  | ⟨1, _⟩ => blk_simp [e1]
  | ⟨2, _⟩ => blk_simp [e2]; rfl

theorem b_blk (t : Fin grid0.N) (k : Fin 4096) (j : Fin 256) : iblk0 V c 2 t (ix3 0 k j) = V c main_arg4 (ix3 0 k (col t j)) := by
  unfold iblk0
  rw [View.read_apply]
  show V c main_arg4 _ = _
  congr 1
  funext a
  apply Fin.ext
  obtain ⟨e0, e1, e2⟩ := index2 t
  match a with
  | ⟨0, _⟩ => blk_simp [e0]
  | ⟨1, _⟩ => blk_simp [e1]
  | ⟨2, _⟩ => blk_simp [e2]; rfl

/-- The array that the call leaves. -/
def out : Buf (Elt Ideal) ((c : Thread nD τ).loc main_v1) := fun (i : S8192x4096.Idx) =>
  glu (fun k : Fin 4096 => V c main_v0 (ix2 (i 0) k)) (fun k => V c main_arg3 (ix3 0 k (i 1))) (fun k => V c main_arg4 (ix3 0 k (i 1)))

theorem final : (dat0 V c).arrAt 3 cfg0.N = out V c := by
  refine (dat0 V c).arrAt_eq_of_covers 3 _ (by decide +kernel) fun t hf y => ?_
  show (dat0 V c).after 3 t y = _
  idx_vars y
  rw [after0_3]
  unfold out0_3
  rw [View.canon_cons_unit_lit _ _ _ (by decide), View.ld_unit_lit _ _ (by decide), View.ld_unit_lit _ _ (by decide), View.ld_unit_lit _ _ (by decide), glu_pay]
  simp only [y_blk, a_blk, b_blk]
  refine Eq.trans (b := out V c (ix2 (row t y0) (col t y1))) rfl ?_
  congr 1
  funext a
  apply Fin.ext
  obtain ⟨e0, e1⟩ := index3 t
  match a with
  | ⟨0, _⟩ => blk_simp [e0]; rfl
  | ⟨1, _⟩ => blk_simp [e1]; rfl

end Glu

end Cert.Tail

end
-- ==== Proof.TailMid.lean ====
/- The call that adds the normed mixer to the stream and norms the sum for the feed-forward part. -/
module

public import proofs.«01_k».proof.Proof.TailBody
public import proofs.«01_k».proof.Proof.Gen.Kernel2Ideal.Frame
public import Idealize.ShloMosaic.Lib.Pipeline.ValueKit

@[expose] public section

set_option maxRecDepth 16384
set_option maxHeartbeats 1000000

noncomputable section

namespace Cert.Tail

open Idealize.ShloMosaic Idealize.ShloMosaic.TcCoe Cert.Kernel2Ideal Cert.Kernel2Ideal.Gen Cert.Layer

variable (V : (c : Dev nD) → (b : Ref sig .tc) → Buf (Elt Ideal) ((c : Thread nD τ).loc b)) (c : Dev nD)

namespace Mid

theorem index0 : ∀ t : Fin grid1.N, win1_0.index t 0 = t.val ∧ win1_0.index t 1 = 0 := by decide +kernel
theorem index1 : ∀ t : Fin grid1.N, win1_1.index t 0 = t.val ∧ win1_1.index t 1 = 0 := by decide +kernel
theorem index2 : ∀ t : Fin grid1.N, win1_2.index t 0 = 0 ∧ win1_2.index t 1 = 0 := by decide +kernel
theorem index3 : ∀ t : Fin grid1.N, win1_3.index t 0 = 0 ∧ win1_3.index t 1 = 0 := by decide +kernel
theorem index4 : ∀ t : Fin grid1.N, win1_4.index t 0 = t.val ∧ win1_4.index t 1 = 0 := by decide +kernel
theorem index5 : ∀ t : Fin grid1.N, win1_5.index t 0 = t.val ∧ win1_5.index t 1 = 0 := by decide +kernel
theorem lt : ∀ t : Fin grid1.N, t.val < 32 := by decide +kernel

/-- Row `r` of point `t`'s block. -/
def row (t : Fin grid1.N) (r : Fin 256) : Fin 8192 := ⟨t.val * 256 + r.val, by have := lt t; omega⟩

theorem x_blk (t : Fin grid1.N) (r : Fin 256) (k : Fin 4096) : iblk1 V c 0 t (ix2 r k) = V c main_arg0 (ix2 (row t r) k) := by
  unfold iblk1
  rw [View.read_apply]
  show V c main_arg0 _ = _
  congr 1
  funext a
  apply Fin.ext
  obtain ⟨e0, e1⟩ := index0 t
  match a with
  | ⟨0, _⟩ => blk_simp [e0]; rfl
  | ⟨1, _⟩ => blk_simp [e1]

theorem m_blk (t : Fin grid1.N) (r : Fin 256) (k : Fin 4096) : iblk1 V c 1 t (ix2 r k) = V c main_v1 (ix2 (row t r) k) := by
  unfold iblk1
  rw [View.read_apply]
  show V c main_v1 _ = _
  congr 1
  funext a
  apply Fin.ext
  obtain ⟨e0, e1⟩ := index1 t
  match a with
  | ⟨0, _⟩ => blk_simp [e0]; rfl
  | ⟨1, _⟩ => blk_simp [e1]

theorem g_blk (t : Fin grid1.N) (k : Fin 4096) : iblk1 V c 2 t (ix2 0 k) = V c main_v6 (ix2 0 k) := by
  unfold iblk1
  rw [View.read_apply]
  show V c main_v6 _ = _
  congr 1
  funext a
  apply Fin.ext
  obtain ⟨e0, e1⟩ := index2 t
  match a with
  | ⟨0, _⟩ => blk_simp [e0]
  | ⟨1, _⟩ => blk_simp [e1]

theorem n_blk (t : Fin grid1.N) (k : Fin 4096) : iblk1 V c 3 t (ix2 0 k) = V c main_v7 (ix2 0 k) := by
  unfold iblk1
  rw [View.read_apply]
  show V c main_v7 _ = _
  congr 1
  funext a
  apply Fin.ext
  obtain ⟨e0, e1⟩ := index3 t
  match a with
  | ⟨0, _⟩ => blk_simp [e0]
  | ⟨1, _⟩ => blk_simp [e1]

/-- The stream after the mixer, at an element. -/
def total (i : Fin 8192) (j : Fin 4096) : EReal :=
  resid (V c main_arg0 (ix2 i j)) (fun k : Fin 4096 => V c main_v1 (ix2 i k)) (fun k => V c main_v6 (ix2 0 k)) j

/-- The stream after the mixer. -/
def out : Buf (Elt Ideal) ((c : Thread nD τ).loc main_v8_0) := fun (i : S8192x4096.Idx) => total V c (i 0) (i 1)

/-- Its norm. -/
def outN : Buf (Elt Ideal) ((c : Thread nD τ).loc main_v8_1) := fun (i : S8192x4096.Idx) =>
  rms (fun k : Fin 4096 => total V c (i 0) k) (fun k => V c main_v7 (ix2 0 k)) (i 1)

theorem final : (dat1 V c).arrAt 4 cfg1.N = out V c := by
  refine (dat1 V c).arrAt_eq_of_covers 4 _ (by decide +kernel) fun t hf y => ?_
  show (dat1 V c).after 4 t y = _
  idx_vars y
  rw [after1_4]
  unfold out1_4
  rw [View.canon_cons_unit_lit _ _ _ (by decide), View.ld_unit_lit _ _ (by decide), View.ld_unit_lit _ _ (by decide), View.ld_unit_lit _ _ (by decide), resid_pay]
  simp only [x_blk, m_blk, g_blk]
  refine Eq.trans (b := out V c (ix2 (row t y0) y1)) rfl ?_
  congr 1
  funext a
  apply Fin.ext
  obtain ⟨e0, e1⟩ := index4 t
  match a with
  | ⟨0, _⟩ => blk_simp [e0]; rfl
  | ⟨1, _⟩ => blk_simp [e1]

theorem final_norm : (dat1 V c).arrAt 5 cfg1.N = outN V c := by
  refine (dat1 V c).arrAt_eq_of_covers 5 _ (by decide +kernel) fun t hf y => ?_
  show (dat1 V c).after 5 t y = _
  idx_vars y
  rw [after1_5]
  unfold out1_5
  rw [View.canon_cons_unit_lit _ _ _ (by decide), View.ld_unit_lit _ _ (by decide), View.ld_unit_lit _ _ (by decide), View.ld_unit_lit _ _ (by decide), View.ld_unit_lit _ _ (by decide), norm_pay]
  simp only [x_blk, m_blk, g_blk, n_blk]
  refine Eq.trans (b := outN V c (ix2 (row t y0) y1)) rfl ?_
  congr 1
  funext a
  apply Fin.ext
  obtain ⟨e0, e1⟩ := index5 t
  match a with
  | ⟨0, _⟩ => blk_simp [e0]; rfl
  | ⟨1, _⟩ => blk_simp [e1]

end Mid

end Cert.Tail

end
-- ==== Proof.TailUp.lean ====
/- The feed-forward part's first call: the hidden units, and the output weights cast beside them. -/
module

public import proofs.«01_k».proof.Proof.TailBody
public import proofs.«01_k».proof.Proof.Gen.Kernel2Ideal.Frame
public import Idealize.ShloMosaic.Lib.Pipeline.ValueKit

@[expose] public section

set_option maxRecDepth 16384
set_option maxHeartbeats 1000000

noncomputable section

namespace Cert.Tail

open Idealize.ShloMosaic Idealize.ShloMosaic.TcCoe Cert.Kernel2Ideal Cert.Kernel2Ideal.Gen Cert.Layer

variable (V : (c : Dev nD) → (b : Ref sig .tc) → Buf (Elt Ideal) ((c : Thread nD τ).loc b)) (c : Dev nD)

namespace Up

theorem index0 : ∀ t : Fin grid2.N, win2_0.index t 0 = t.val / 43 ∧ win2_0.index t 1 = 0 := by decide +kernel
theorem index1 : ∀ t : Fin grid2.N, win2_1.index t 0 = 1 ∧ win2_1.index t 1 = 0 ∧ win2_1.index t 2 = t.val % 43 := by decide +kernel
theorem index2 : ∀ t : Fin grid2.N, win2_2.index t 0 = 1 ∧ win2_2.index t 1 = 0 ∧ win2_2.index t 2 = t.val % 43 := by decide +kernel
theorem index3 : ∀ t : Fin grid2.N, win2_3.index t 0 = 1 ∧ win2_3.index t 1 = t.val ∧ win2_3.index t 2 = 0 := by decide +kernel
theorem index4 : ∀ t : Fin grid2.N, win2_4.index t 0 = t.val / 43 ∧ win2_4.index t 1 = t.val % 43 := by decide +kernel
theorem index5 : ∀ t : Fin grid2.N, win2_5.index t 0 = t.val ∧ win2_5.index t 1 = 0 := by decide +kernel
theorem lt : ∀ t : Fin grid2.N, t.val < 172 := by decide +kernel

/-- Row `r` of point `t`'s panel. -/
def row (t : Fin grid2.N) (r : Fin 2048) : Fin 8192 := ⟨t.val / 43 * 2048 + r.val, by have := lt t; omega⟩

/-- Column `j` of point `t`'s tile. -/
def col (t : Fin grid2.N) (j : Fin 256) : Fin 11008 := ⟨t.val % 43 * 256 + j.val, by omega⟩

/-- Row `r` of the slab of output weights that point `t` casts. -/
def slab (t : Fin grid2.N) (r : Fin 64) : Fin 11008 := ⟨t.val * 64 + r.val, by have := lt t; omega⟩

theorem h_blk (t : Fin grid2.N) (r : Fin 2048) (k : Fin 4096) : iblk2 V c 0 t (ix2 r k) = V c main_v8_1 (ix2 (row t r) k) := by
  unfold iblk2
  rw [View.read_apply]
  show V c main_v8_1 _ = _
  congr 1
  funext a
  apply Fin.ext
  obtain ⟨e0, e1⟩ := index0 t
  match a with
  | ⟨0, _⟩ => blk_simp [e0]; rfl
  | ⟨1, _⟩ => blk_simp [e1]

theorem a_blk (t : Fin grid2.N) (k : Fin 4096) (j : Fin 256) : iblk2 V c 1 t (ix3 0 k j) = V c main_arg5 (ix3 1 k (col t j)) := by
  unfold iblk2
  rw [View.read_apply]
  show V c main_arg5 _ = _
  congr 1
  funext a
  apply Fin.ext
  obtain ⟨e0, e1, e2⟩ := index1 t
  match a with
  | ⟨0, _⟩ => blk_simp [e0]; rfl
  | ⟨1, _⟩ => blk_simp [e1]
  | ⟨2, _⟩ => blk_simp [e2]; rfl

theorem b_blk (t : Fin grid2.N) (k : Fin 4096) (j : Fin 256) : iblk2 V c 2 t (ix3 0 k j) = V c main_arg6 (ix3 1 k (col t j)) := by
  unfold iblk2
  rw [View.read_apply]
  show V c main_arg6 _ = _
  congr 1
  funext a
  apply Fin.ext
  obtain ⟨e0, e1, e2⟩ := index2 t
  match a with
  | ⟨0, _⟩ => blk_simp [e0]; rfl
  | ⟨1, _⟩ => blk_simp [e1]
  | ⟨2, _⟩ => blk_simp [e2]; rfl

theorem w_blk (t : Fin grid2.N) (r : Fin 64) (j : Fin 4096) : iblk2 V c 3 t (ix3 0 r j) = V c main_arg7 (ix3 1 (slab t r) j) := by
  unfold iblk2
  rw [View.read_apply]
  show V c main_arg7 _ = _
  congr 1
  funext a
  apply Fin.ext
  obtain ⟨e0, e1, e2⟩ := index3 t
  match a with
  | ⟨0, _⟩ => blk_simp [e0]; rfl
  | ⟨1, _⟩ => blk_simp [e1]; rfl
  | ⟨2, _⟩ => blk_simp [e2]

/-- The hidden units. -/
def out : Buf (Elt Ideal) ((c : Thread nD τ).loc main_v9_0) := fun (i : S8192x11008.Idx) =>
  swi (fun k : Fin 4096 => V c main_v8_1 (ix2 (i 0) k)) (fun k => V c main_arg5 (ix3 1 k (i 1))) (fun k => V c main_arg6 (ix3 1 k (i 1)))

/-- The output weights of the odd layer. -/
def outW : Buf (Elt Ideal) ((c : Thread nD τ).loc main_v9_1) := fun (i : S11008x4096.Idx) => V c main_arg7 (ix3 1 (i 0) (i 1))

theorem final : (dat2 V c).arrAt 4 cfg2.N = out V c := by
  refine (dat2 V c).arrAt_eq_of_covers 4 _ (by decide +kernel) fun t hf y => ?_
  show (dat2 V c).after 4 t y = _
  idx_vars y
  rw [after2_4]
  unfold out2_4
  rw [View.canon_cons_unit_lit _ _ _ (by decide), View.ld_unit_lit _ _ (by decide), View.ld_unit_lit _ _ (by decide), View.ld_unit_lit _ _ (by decide), swi_pay]
  simp only [h_blk, a_blk, b_blk]
  refine Eq.trans (b := out V c (ix2 (row t y0) (col t y1))) rfl ?_
  congr 1
  funext a
  apply Fin.ext
  obtain ⟨e0, e1⟩ := index4 t
  match a with
  | ⟨0, _⟩ => blk_simp [e0]; rfl
  | ⟨1, _⟩ => blk_simp [e1]; rfl

theorem final_weights : (dat2 V c).arrAt 5 cfg2.N = outW V c := by
  refine (dat2 V c).arrAt_eq_of_covers 5 _ (by decide +kernel) fun t hf y => ?_
  show (dat2 V c).after 5 t y = _
  idx_vars y
  rw [after2_5]
  unfold out2_5
  rw [View.canon_cons_unit_lit _ _ _ (by decide), View.ld_unit_lit _ _ (by decide), cast_pay]
  simp only [w_blk]
  refine Eq.trans (b := outW V c (ix2 (slab t y0) y1)) rfl ?_
  congr 1
  funext a
  apply Fin.ext
  obtain ⟨e0, e1⟩ := index5 t
  match a with
  | ⟨0, _⟩ => blk_simp [e0]; rfl
  | ⟨1, _⟩ => blk_simp [e1]

end Up

end Cert.Tail

end
-- ==== Proof.TailDown.lean ====
/- The feed-forward part's second call: the product with the output weights. -/
module

public import proofs.«01_k».proof.Proof.TailBody
public import proofs.«01_k».proof.Proof.Gen.Kernel2Ideal.Frame
public import Idealize.ShloMosaic.Lib.Pipeline.ValueKit

@[expose] public section

set_option maxRecDepth 16384
set_option maxHeartbeats 1000000

noncomputable section

namespace Cert.Tail

open Idealize.ShloMosaic Idealize.ShloMosaic.TcCoe Cert.Kernel2Ideal Cert.Kernel2Ideal.Gen Cert.Layer

variable (V : (c : Dev nD) → (b : Ref sig .tc) → Buf (Elt Ideal) ((c : Thread nD τ).loc b)) (c : Dev nD)

namespace Down

theorem index0 : ∀ t : Fin grid3.N, win3_0.index t 0 = t.val / 8 ∧ win3_0.index t 1 = 0 := by decide +kernel
theorem index1 : ∀ t : Fin grid3.N, win3_1.index t 0 = 0 ∧ win3_1.index t 1 = t.val % 8 := by decide +kernel
theorem index2 : ∀ t : Fin grid3.N, win3_2.index t 0 = t.val / 8 ∧ win3_2.index t 1 = t.val % 8 := by decide +kernel
theorem lt : ∀ t : Fin grid3.N, t.val / 8 < 16 := by decide +kernel

/-- Row `r` of point `t`'s panel. -/
def row (t : Fin grid3.N) (r : Fin 512) : Fin 8192 := ⟨t.val / 8 * 512 + r.val, by have := lt t; omega⟩

/-- Column `j` of point `t`'s tile. -/
def col (t : Fin grid3.N) (j : Fin 512) : Fin 4096 := ⟨t.val % 8 * 512 + j.val, by omega⟩

theorem h_blk (t : Fin grid3.N) (r : Fin 512) (k : Fin 11008) : iblk3 V c 0 t (ix2 r k) = V c main_v9_0 (ix2 (row t r) k) := by
  unfold iblk3
  rw [View.read_apply]
  show V c main_v9_0 _ = _
  congr 1
  funext a
  apply Fin.ext
  obtain ⟨e0, e1⟩ := index0 t
  match a with
  | ⟨0, _⟩ => blk_simp [e0]; rfl
  | ⟨1, _⟩ => blk_simp [e1]

theorem w_blk (t : Fin grid3.N) (k : Fin 11008) (j : Fin 512) : iblk3 V c 1 t (ix2 k j) = V c main_v9_1 (ix2 k (col t j)) := by
  unfold iblk3
  rw [View.read_apply]
  show V c main_v9_1 _ = _
  congr 1
  funext a
  apply Fin.ext
  obtain ⟨e0, e1⟩ := index1 t
  match a with
  | ⟨0, _⟩ => blk_simp [e0]
  | ⟨1, _⟩ => blk_simp [e1]; rfl

/-- The array that the call leaves. -/
def out : Buf (Elt Ideal) ((c : Thread nD τ).loc main_v10) := fun (i : S8192x4096.Idx) =>
  dotp (fun k : Fin 11008 => V c main_v9_0 (ix2 (i 0) k)) (fun k => V c main_v9_1 (ix2 k (i 1)))

theorem final : (dat3 V c).arrAt 2 cfg3.N = out V c := by
  refine (dat3 V c).arrAt_eq_of_covers 2 _ (by decide +kernel) fun t hf y => ?_
  show (dat3 V c).after 2 t y = _
  idx_vars y
  rw [after3_2]
  unfold out3_2
  rw [View.canon_cons_unit_lit _ _ _ (by decide), View.ld_unit_lit _ _ (by decide), View.ld_unit_lit _ _ (by decide), down_pay]
  simp only [h_blk, w_blk]
  refine Eq.trans (b := out V c (ix2 (row t y0) (col t y1))) rfl ?_
  congr 1
  funext a
  apply Fin.ext
  obtain ⟨e0, e1⟩ := index2 t
  match a with
  | ⟨0, _⟩ => blk_simp [e0]; rfl
  | ⟨1, _⟩ => blk_simp [e1]; rfl

end Down

end Cert.Tail

end
-- ==== Proof.TailLast.lean ====
/- The last call: the normed feed-forward part added to the stream. -/
module

public import proofs.«01_k».proof.Proof.TailBody
public import proofs.«01_k».proof.Proof.Gen.Kernel2Ideal.Frame
public import Idealize.ShloMosaic.Lib.Pipeline.ValueKit

@[expose] public section

set_option maxRecDepth 16384
set_option maxHeartbeats 1000000

noncomputable section

namespace Cert.Tail

open Idealize.ShloMosaic Idealize.ShloMosaic.TcCoe Cert.Kernel2Ideal Cert.Kernel2Ideal.Gen Cert.Layer

variable (V : (c : Dev nD) → (b : Ref sig .tc) → Buf (Elt Ideal) ((c : Thread nD τ).loc b)) (c : Dev nD)

namespace Last

theorem index0 : ∀ t : Fin grid4.N, win4_0.index t 0 = t.val ∧ win4_0.index t 1 = 0 := by decide +kernel
theorem index1 : ∀ t : Fin grid4.N, win4_1.index t 0 = t.val ∧ win4_1.index t 1 = 0 := by decide +kernel
theorem index2 : ∀ t : Fin grid4.N, win4_2.index t 0 = 0 ∧ win4_2.index t 1 = 0 := by decide +kernel
theorem index3 : ∀ t : Fin grid4.N, win4_3.index t 0 = t.val ∧ win4_3.index t 1 = 0 := by decide +kernel
theorem lt : ∀ t : Fin grid4.N, t.val < 32 := by decide +kernel

/-- Row `r` of point `t`'s block. -/
def row (t : Fin grid4.N) (r : Fin 256) : Fin 8192 := ⟨t.val * 256 + r.val, by have := lt t; omega⟩

theorem x_blk (t : Fin grid4.N) (r : Fin 256) (k : Fin 4096) : iblk4 V c 0 t (ix2 r k) = V c main_v8_0 (ix2 (row t r) k) := by
  unfold iblk4
  rw [View.read_apply]
  show V c main_v8_0 _ = _
  congr 1
  funext a
  apply Fin.ext
  obtain ⟨e0, e1⟩ := index0 t
  match a with
  | ⟨0, _⟩ => blk_simp [e0]; rfl
  | ⟨1, _⟩ => blk_simp [e1]

theorem f_blk (t : Fin grid4.N) (r : Fin 256) (k : Fin 4096) : iblk4 V c 1 t (ix2 r k) = V c main_v10 (ix2 (row t r) k) := by
  unfold iblk4
  rw [View.read_apply]
  show V c main_v10 _ = _
  congr 1
  funext a
  apply Fin.ext
  obtain ⟨e0, e1⟩ := index1 t
  match a with
  | ⟨0, _⟩ => blk_simp [e0]; rfl
  | ⟨1, _⟩ => blk_simp [e1]

theorem g_blk (t : Fin grid4.N) (k : Fin 4096) : iblk4 V c 2 t (ix2 0 k) = V c main_v13 (ix2 0 k) := by
  unfold iblk4
  rw [View.read_apply]
  show V c main_v13 _ = _
  congr 1
  funext a
  apply Fin.ext
  obtain ⟨e0, e1⟩ := index2 t
  match a with
  | ⟨0, _⟩ => blk_simp [e0]
  | ⟨1, _⟩ => blk_simp [e1]

/-- The array that the call leaves. -/
def out : Buf (Elt Ideal) ((c : Thread nD τ).loc main_v14) := fun (i : S8192x4096.Idx) =>
  resid (V c main_v8_0 (ix2 (i 0) (i 1))) (fun k : Fin 4096 => V c main_v10 (ix2 (i 0) k)) (fun k => V c main_v13 (ix2 0 k)) (i 1)

theorem final : (dat4 V c).arrAt 3 cfg4.N = out V c := by
  refine (dat4 V c).arrAt_eq_of_covers 3 _ (by decide +kernel) fun t hf y => ?_
  show (dat4 V c).after 3 t y = _
  idx_vars y
  rw [after4_3]
  unfold out4_3
  rw [View.canon_cons_unit_lit _ _ _ (by decide), View.ld_unit_lit _ _ (by decide), View.ld_unit_lit _ _ (by decide), View.ld_unit_lit _ _ (by decide), last_pay]
  simp only [x_blk, f_blk, g_blk]
  refine Eq.trans (b := out V c (ix2 (row t y0) y1)) rfl ?_
  congr 1
  funext a
  apply Fin.ext
  obtain ⟨e0, e1⟩ := index3 t
  match a with
  | ⟨0, _⟩ => blk_simp [e0]; rfl
  | ⟨1, _⟩ => blk_simp [e1]

end Last

end Cert.Tail

end
-- ==== Proof.TailRun.lean ====
/- The odd layer's tail: the run of its five calls, and its result at an element. -/
module

public import proofs.«01_k».proof.Proof.TailGlu
public import proofs.«01_k».proof.Proof.TailMid
public import proofs.«01_k».proof.Proof.TailUp
public import proofs.«01_k».proof.Proof.TailDown
public import proofs.«01_k».proof.Proof.TailLast
public import Idealize.ShloMosaic.Lib.StableHlo.ReadAt

@[expose] public section

set_option maxRecDepth 16384
set_option maxHeartbeats 1000000

noncomputable section

namespace Cert.Tail

open Idealize.ShloMosaic Idealize.ShloMosaic.TcCoe Cert.Kernel2Ideal Cert.Kernel2Ideal.Gen Cert.Layer
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg) (c : Dev nD)

/-! ## The arguments, as matrices -/

def aX (i : Fin 8192) (j : Fin 4096) : EReal := m ((c : Thread nD τ).loc main_arg0) (ix2 i j)
def aY (i : Fin 8192) (j : Fin 4096) : EReal := m ((c : Thread nD τ).loc main_arg1) (ix2 i j)
def aG (n : Fin 4) (j : Fin 4096) : EReal := m ((c : Thread nD τ).loc main_arg2) (ix3 1 n j)
def aA (k j : Fin 4096) : EReal := m ((c : Thread nD τ).loc main_arg3) (ix3 0 k j)
def aB (k j : Fin 4096) : EReal := m ((c : Thread nD τ).loc main_arg4) (ix3 0 k j)
def aGate (k : Fin 4096) (j : Fin 11008) : EReal := m ((c : Thread nD τ).loc main_arg5) (ix3 1 k j)
def aUp (k : Fin 4096) (j : Fin 11008) : EReal := m ((c : Thread nD τ).loc main_arg6) (ix3 1 k j)
def aDown (k : Fin 11008) (j : Fin 4096) : EReal := m ((c : Thread nD τ).loc main_arg7) (ix3 1 k j)

/-! ## What each call finds -/

theorem at_y (i : Fin 8192) (k : Fin 4096) : V1 m ρ c main_v0 (ix2 i k) = aY m c i k := by
  unfold V1 W1 hostOps0
  after_reads_at
  rfl

theorem at_g1 (k : Fin 4096) : V3 m ρ c main_v6 (ix2 0 k) = aG m c 1 k := by
  refine Eq.trans (b := W2 m ρ c (Proc.devRef .tc main_arg2) (ix3 1 1 k)) ?_ (congrFun (W2_args m ρ c main_arg2 (by decide)) _)
  unfold V3 W3 hostOps1
  after_reads_at

theorem at_g2 (k : Fin 4096) : V3 m ρ c main_v7 (ix2 0 k) = aG m c 2 k := by
  refine Eq.trans (b := W2 m ρ c (Proc.devRef .tc main_arg2) (ix3 1 2 k)) ?_ (congrFun (W2_args m ρ c main_arg2 (by decide)) _)
  unfold V3 W3 hostOps1
  after_reads_at

theorem at_g3 (k : Fin 4096) : V7 m ρ c main_v13 (ix2 0 k) = aG m c 3 k := by
  refine Eq.trans (b := W6 m ρ c (Proc.devRef .tc main_arg2) (ix3 1 3 k)) ?_ (congrFun (W6_args m ρ c main_arg2 (by decide)) _)
  unfold V7 W7 hostOps4
  after_reads_at

theorem at_mixed (i : Fin 8192) (j : Fin 4096) : V3 m ρ c main_v1 (ix2 i j) = mixed (aY m c) (aA m c) (aB m c) i j := by
  have h : V3 m ρ c main_v1 = Glu.out (V1 m ρ) c :=
    (W3_of m ρ c main_v1 (by decide)).trans ((W2_arr m ρ c 3).trans (Glu.final (V1 m ρ) c))
  rw [h]
  have ha : V1 m ρ c main_arg3 = m ((c : Thread nD τ).loc main_arg3) := W1_args m ρ c main_arg3 (by decide)
  have hb : V1 m ρ c main_arg4 = m ((c : Thread nD τ).loc main_arg4) := W1_args m ρ c main_arg4 (by decide)
  exact glu_congr (at_y m ρ c i) (fun k => congrFun ha (ix3 0 k j)) (fun k => congrFun hb (ix3 0 k j))

theorem at_total (i : Fin 8192) (j : Fin 4096) :
    Mid.total (V3 m ρ) c i j = stream (aX m c) (aY m c) (aG m c) (aA m c) (aB m c) i j := by
  have hx : V3 m ρ c main_arg0 = m ((c : Thread nD τ).loc main_arg0) := W3_args m ρ c main_arg0 (by decide)
  exact resid_congr (congrFun hx (ix2 i j)) (at_mixed m ρ c i) (at_g1 m ρ c) j

theorem at_normed (i : Fin 8192) (j : Fin 4096) :
    V4 m ρ c main_v8_1 (ix2 i j) = normed (aX m c) (aY m c) (aG m c) (aA m c) (aB m c) i j := by
  have h : V4 m ρ c main_v8_1 = Mid.outN (V3 m ρ) c := (W4_arr m ρ c 5).trans (Mid.final_norm (V3 m ρ) c)
  rw [h]
  exact rms_congr (at_total m ρ c i) (at_g2 m ρ c) j

theorem at_hidden (i : Fin 8192) (j : Fin 11008) :
    V5 m ρ c main_v9_0 (ix2 i j) = hidden (aX m c) (aY m c) (aG m c) (aA m c) (aB m c) (aGate m c) (aUp m c) i j := by
  have h : V5 m ρ c main_v9_0 = Up.out (V4 m ρ) c := (W5_arr m ρ c 4).trans (Up.final (V4 m ρ) c)
  rw [h]
  have ha : V4 m ρ c main_arg5 = m ((c : Thread nD τ).loc main_arg5) := W4_args m ρ c main_arg5 (by decide)
  have hb : V4 m ρ c main_arg6 = m ((c : Thread nD τ).loc main_arg6) := W4_args m ρ c main_arg6 (by decide)
  exact swi_congr (at_normed m ρ c i) (fun k => congrFun ha (ix3 1 k j)) (fun k => congrFun hb (ix3 1 k j))

theorem at_weights (k : Fin 11008) (j : Fin 4096) : V5 m ρ c main_v9_1 (ix2 k j) = aDown m c k j := by
  have h : V5 m ρ c main_v9_1 = Up.outW (V4 m ρ) c := (W5_arr m ρ c 5).trans (Up.final_weights (V4 m ρ) c)
  rw [h]
  exact congrFun (W4_args m ρ c main_arg7 (by decide)) (ix3 1 k j)

theorem at_fed (i : Fin 8192) (j : Fin 4096) :
    V7 m ρ c main_v10 (ix2 i j) = fed (aX m c) (aY m c) (aG m c) (aA m c) (aB m c) (aGate m c) (aUp m c) (aDown m c) i j := by
  have h : V7 m ρ c main_v10 = Down.out (V5 m ρ) c :=
    (W7_of m ρ c main_v10 (by decide)).trans ((W6_arr m ρ c 2).trans (Down.final (V5 m ρ) c))
  rw [h]
  exact dotp_congr (at_hidden m ρ c i) (fun k => at_weights m ρ c k j)

theorem at_stream (i : Fin 8192) (j : Fin 4096) :
    V7 m ρ c main_v8_0 (ix2 i j) = stream (aX m c) (aY m c) (aG m c) (aA m c) (aB m c) i j := by
  have h : V7 m ρ c main_v8_0 = Mid.out (V3 m ρ) c :=
    (W7_of m ρ c main_v8_0 (by decide)).trans ((W6_of m ρ c main_v8_0 (by decide +kernel)).trans
      ((W5_of m ρ c main_v8_0 (by decide +kernel)).trans ((W4_arr m ρ c 4).trans (Mid.final (V3 m ρ) c))))
  rw [h]
  exact at_total m ρ c i j

/-! ## The result -/

/-- The stream after the layer, as an array. -/
def result : Buf (Elt Ideal) ((c : Thread nD τ).loc main_v14) := fun (i : S8192x4096.Idx) =>
  tail (aX m c) (aY m c) (aG m c) (aA m c) (aB m c) (aGate m c) (aUp m c) (aDown m c) (i 0) (i 1)

theorem final : W8 m ρ c (Proc.devRef .tc main_v14) = result m c := by
  refine (W8_arr m ρ c 3).trans ((Last.final (V7 m ρ) c).trans ?_)
  funext i
  idx_vars i
  exact resid_congr (at_stream m ρ c i0 i1) (at_fed m ρ c i0) (at_g3 m ρ c) i1

/-- The run of the five calls: the result array, and the arguments as they were. -/
theorem run : θ_run defs (onTc (τ := τ) (main (F := Ideal))) ⟨m, fun _ => 0, ρ⟩ (fun r => ∀ c : Dev nD,
      r.2.mem ((c.tc : Thread nD τ).loc main_v14) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ c =>
      ⟨(h c _ (mem_uc main_v14 (by decide))).trans (final m ρ c),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.Tail

end
-- ==== Proof.TailRef.lean ====
/- The odd layer's tail: the reference at an element. -/
module

public import proofs.«01_k».proof.Proof.Layer
public import proofs.«01_k».proof.Proof.Gen.Reference2Ideal.Read

@[expose] public section

set_option maxRecDepth 16384
set_option maxHeartbeats 1000000

noncomputable section

namespace Cert.Tail.Ref

open Idealize.ShloMosaic Cert.Reference2Ideal Cert.Reference2Ideal.Read Cert.Layer

variable (x0 x1 : S8192x4096.Idx → EReal) (x2 : S2x4x4096.Idx → EReal) (x3 x4 : S1x4096x4096.Idx → EReal)
  (x5 x6 : S2x4096x11008.Idx → EReal) (x7 : S2x11008x4096.Idx → EReal)

abbrev mX (i : Fin 8192) (j : Fin 4096) : EReal := x0 (ix2 i j)
abbrev mG (n : Fin 4) (j : Fin 4096) : EReal := x2 (ix3 1 n j)
abbrev mA (k j : Fin 4096) : EReal := x3 (ix3 0 k j)
abbrev mUp (k : Fin 4096) (j : Fin 11008) : EReal := x5 (ix3 1 k j)
abbrev mDown (k : Fin 11008) (j : Fin 4096) : EReal := x7 (ix3 1 k j)

theorem gain1_at (j : Fin 4096) : val_main_v14 (F := Ideal) x2 (ix1 j) = mG x2 1 j := by
  pointwise [val_main_v14, val_main_v13, val_main_v1, val_main_v0]

theorem gain2_at (j : Fin 4096) : val_main_v30 (F := Ideal) x2 (ix1 j) = mG x2 2 j := by
  pointwise [val_main_v30, val_main_v29, val_main_v1, val_main_v0]

theorem gain3_at (j : Fin 4096) : val_main_v56 (F := Ideal) x2 (ix1 j) = mG x2 3 j := by
  pointwise [val_main_v56, val_main_v55, val_main_v1, val_main_v0]

theorem mixed_at (i : Fin 8192) (j : Fin 4096) :
    val_main_v12 (F := Ideal) x1 x3 x4 (ix2 i j) = mixed (mX x1) (mA x3) (mA x4) i j := by
  pointwise [val_main_v12, val_main_v3, val_main_v2, val_main_v11, val_main_v10, val_main_v9, val_main_v8, val_main_v7, val_main_v6, val_main_v5, val_main_v4, val_main_cst, val_main_cst_0]
  rfl

theorem stream_at (i : Fin 8192) (j : Fin 4096) :
    val_main_v28 (F := Ideal) x0 x1 x2 x3 x4 (ix2 i j) = stream (mX x0) (mX x1) (mG x2) (mA x3) (mA x4) i j := by
  pointwise [val_main_v28, val_main_v27, val_main_v26, val_main_v25, val_main_v24, val_main_v23, val_main_v22, val_main_v21, val_main_v20, val_main_v19, val_main_v18, val_main_v17, val_main_v16, val_main_v15, val_main_cst_1, val_main_cst_2, val_main_cst_3]
  simp only [mixed_at, gain1_at]
  rfl

theorem normed_at (i : Fin 8192) (j : Fin 4096) :
    val_main_v43 (F := Ideal) x0 x1 x2 x3 x4 (ix2 i j) = normed (mX x0) (mX x1) (mG x2) (mA x3) (mA x4) i j := by
  pointwise [val_main_v43, val_main_v42, val_main_v41, val_main_v40, val_main_v39, val_main_v38, val_main_v37, val_main_v36, val_main_v35, val_main_v34, val_main_v33, val_main_v32, val_main_v31, val_main_cst_4, val_main_cst_5, val_main_cst_6]
  simp only [stream_at, gain2_at]
  rfl

theorem hidden_at (i : Fin 8192) (j : Fin 11008) :
    val_main_v53 (F := Ideal) x0 x1 x2 x3 x4 x5 x6 (ix2 i j)
      = hidden (mX x0) (mX x1) (mG x2) (mA x3) (mA x4) (mUp x5) (mUp x6) i j := by
  pointwise [val_main_v53, val_main_v52, val_main_v51, val_main_v50, val_main_v47, val_main_v46, val_main_v45, val_main_v44, val_main_call0_v5, val_main_call0_v4, val_main_call0_v3, val_main_call0_v2, val_main_call0_v1, val_main_call0_v0, val_main_call0_cst, val_main_call0_cst_0]
  simp only [normed_at]
  rfl

theorem fed_at (i : Fin 8192) (j : Fin 4096) :
    val_main_v54 (F := Ideal) x0 x1 x2 x3 x4 x5 x6 x7 (ix2 i j)
      = fed (mX x0) (mX x1) (mG x2) (mA x3) (mA x4) (mUp x5) (mUp x6) (mDown x7) i j := by
  pointwise [val_main_v54, val_main_v49, val_main_v48]
  simp only [hidden_at]
  rfl

theorem result_at (i : Fin 8192) (j : Fin 4096) :
    val_main_v70 (F := Ideal) x0 x1 x2 x3 x4 x5 x6 x7 (ix2 i j)
      = tail (mX x0) (mX x1) (mG x2) (mA x3) (mA x4) (mUp x5) (mUp x6) (mDown x7) i j := by
  pointwise [val_main_v70, val_main_v69, val_main_v68, val_main_v67, val_main_v66, val_main_v65, val_main_v64, val_main_v63, val_main_v62, val_main_v61, val_main_v60, val_main_v59, val_main_v58, val_main_v57, val_main_cst_7, val_main_cst_8, val_main_cst_9]
  simp only [fed_at, stream_at, gain3_at]
  rfl

end Cert.Tail.Ref

end
-- ==== Proof.TailClaims.lean ====
/- The claims about the odd layer's tail. -/
module

public import proofs.«01_k».proof.Defs
public import proofs.«01_k».proof.Proof.TailRun
public import proofs.«01_k».proof.Proof.TailRef
public import proofs.«01_k».proof.Proof.Gen.Kernel2.Frame

@[expose] public section

set_option maxRecDepth 16384
set_option maxHeartbeats 1000000

noncomputable section

namespace Cert.Tail

open Idealize.ShloMosaic Idealize.SL.Sem

theorem frame_p : Cert.quiescent_Kernel2 := fun m ρ _ => Cert.Kernel2.Gen.frame m ρ

theorem frame_pi : Cert.quiescent_Kernel2Ideal := fun m ρ _ => Cert.Kernel2Ideal.Gen.frame m ρ

theorem frame_ri : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem preserves : Cert.preserves_Kernel2_Kernel2Ideal := trivial

theorem algebraic : Cert.algebraic_Kernel2Ideal_Reference2Ideal := by
  intro m ρ m' ρ' _ hagree
  refine ⟨fun c => result m c, run m ρ, ?_⟩
  refine (θ_run Cert.Reference2Ideal.defs _ _).mono (fun r h c => ⟨(h c).1.trans ?_, (h c).2⟩) (Cert.Reference2Ideal.Value.run (F := Ideal) m' ρ')
  obtain ⟨e0, e1, e2, e3, e4, e5, e6, e7⟩ := hagree c
  rw [Cert.Reference2Ideal.Read.val_main_v70_eq, e0, e1, e2, e3, e4, e5, e6, e7]
  funext y
  idx_vars y
  exact Ref.result_at _ _ _ _ _ _ _ _ y0 y1

end Cert.Tail

end
-- ==== Proof.FoxProj.lean ====
/- The even layer's norm and its projections onto the forgetting attention's queries, keys and values: what each call leaves. -/
module

public import proofs.«01_k».proof.Proof.Layer
public import proofs.«01_k».proof.Proof.Gen.Kernel3Ideal.Frame
public import Idealize.ShloMosaic.Lib.Pipeline.ValueKit
public import Idealize.ShloMosaic.Lib.Pointwise

@[expose] public section

set_option maxRecDepth 16384
set_option maxHeartbeats 1000000

noncomputable section

namespace Cert.FoxProj

open Idealize.ShloMosaic Idealize.ShloMosaic.TcCoe Cert.Kernel3Ideal Cert.Kernel3Ideal.Gen Cert.Layer

theorem norm_pay (x : Vec Ideal S256x4096 .f32) (g : Vec Ideal S1x4096 .f32) (r : Fin 256) (j : Fin 4096) :
    k0_pay1 x g (ix2 r j) = rms (fun k => x (ix2 r k)) (fun k => g (ix2 0 k)) j := by
  pointwise [k0_pay1]
  rfl

theorem q_pay (h : Vec Ideal S1024x4096 .bf16) (w : Vec Ideal S4096x512 .bf16) (r : Fin 1024) (j : Fin 512) :
    k1_pay1 h w (ix2 r j) = dotp (fun k => h (ix2 r k)) (fun k => w (ix2 k j)) := by
  pointwise [k1_pay1]
  rfl

theorem kv_pay (h : Vec Ideal S1024x4096 .bf16) (w : Vec Ideal S4096x512 .bf16) (r : Fin 1024) (j : Fin 512) :
    k2_pay1 h w (ix2 r j) = dotp (fun k => h (ix2 r k)) (fun k => w (ix2 k j)) := q_pay h w r j

variable (V : (c : Dev nD) → (b : Ref sig .tc) → Buf (Elt Ideal) ((c : Thread nD τ).loc b)) (c : Dev nD)

namespace Norm

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel
theorem lt : ∀ t : Fin grid0.N, t.val < 32 := by decide +kernel

/-- Row `r` of point `t`'s panel. -/
def row (t : Fin grid0.N) (r : Fin 256) : Fin 8192 := ⟨t.val * 256 + r.val, by have := lt t; omega⟩

theorem x_blk (t : Fin grid0.N) (r : Fin 256) (k : Fin 4096) : iblk0 V c 0 t (ix2 r k) = V c main_arg0 (ix2 (row t r) k) := by
  unfold iblk0
  rw [View.read_apply]
  show V c main_arg0 _ = _
  congr 1
  funext a
  apply Fin.ext
  obtain ⟨e0, e1⟩ := index0 t
  match a with
  | ⟨0, _⟩ => blk_simp [e0]; rfl
  | ⟨1, _⟩ => blk_simp [e1]

theorem g_blk (t : Fin grid0.N) (k : Fin 4096) : iblk0 V c 1 t (ix2 0 k) = V c main_v5 (ix2 0 k) := by
  unfold iblk0
  rw [View.read_apply]
  show V c main_v5 _ = _
  congr 1
  funext a
  apply Fin.ext
  obtain ⟨e0, e1⟩ := index1 t
  match a with
  | ⟨0, _⟩ => blk_simp [e0]
  | ⟨1, _⟩ => blk_simp [e1]

/-- The array that the call leaves. -/
def out : Buf (Elt Ideal) ((c : Thread nD τ).loc main_v6) := fun (i : S8192x4096.Idx) =>
  rms (fun k : Fin 4096 => V c main_arg0 (ix2 (i 0) k)) (fun k => V c main_v5 (ix2 0 k)) (i 1)

theorem final : (dat0 V c).arrAt 2 cfg0.N = out V c := by
  refine (dat0 V c).arrAt_eq_of_covers 2 _ (by decide +kernel) fun t hf y => ?_
  show (dat0 V c).after 2 t y = _
  idx_vars y
  rw [after0_2]
  unfold out0_2
  rw [View.canon_cons_unit_lit _ _ _ (by decide), View.ld_unit_lit _ _ (by decide), View.ld_unit_lit _ _ (by decide), norm_pay]
  simp only [x_blk, g_blk]
  refine Eq.trans (b := out V c (ix2 (row t y0) y1)) rfl ?_
  congr 1
  funext a
  apply Fin.ext
  obtain ⟨e0, e1⟩ := index2 t
  match a with
  | ⟨0, _⟩ => blk_simp [e0]; rfl
  | ⟨1, _⟩ => blk_simp [e1]

end Norm

namespace Q

theorem index0 : ∀ t : Fin grid1.N, win1_0.index t 0 = t.val / 4 ∧ win1_0.index t 1 = 0 := by decide +kernel
theorem index1 : ∀ t : Fin grid1.N, win1_1.index t 0 = 0 ∧ win1_1.index t 1 = t.val % 4 := by decide +kernel
theorem index2 : ∀ t : Fin grid1.N, win1_2.index t 0 = t.val / 4 ∧ win1_2.index t 1 = t.val % 4 := by decide +kernel
theorem lt : ∀ t : Fin grid1.N, t.val / 4 < 8 := by decide +kernel

/-- Row `r` of point `t`'s panel. -/
def row (t : Fin grid1.N) (r : Fin 1024) : Fin 8192 := ⟨t.val / 4 * 1024 + r.val, by have := lt t; omega⟩

/-- Column `j` of point `t`'s tile, -/
def col (t : Fin grid1.N) (j : Fin 512) : Fin 2048 := ⟨t.val % 4 * 512 + j.val, by omega⟩

/-- and among the columns of the weights. -/
def wide (j : Fin 2048) : Fin 6144 := ⟨j.val, by omega⟩

theorem h_blk (t : Fin grid1.N) (r : Fin 1024) (k : Fin 4096) : iblk1 V c 0 t (ix2 r k) = V c main_v6 (ix2 (row t r) k) := by
  unfold iblk1
  rw [View.read_apply]
  show V c main_v6 _ = _
  congr 1
  funext a
  apply Fin.ext
  obtain ⟨e0, e1⟩ := index0 t
  match a with
  | ⟨0, _⟩ => blk_simp [e0]; rfl
  | ⟨1, _⟩ => blk_simp [e1]

theorem w_blk (t : Fin grid1.N) (k : Fin 4096) (j : Fin 512) : iblk1 V c 1 t (ix2 k j) = V c main_v2 (ix2 k (wide (col t j))) := by
  unfold iblk1
  rw [View.read_apply]
  show V c main_v2 _ = _
  congr 1
  funext a
  apply Fin.ext
  obtain ⟨e0, e1⟩ := index1 t
  match a with
  | ⟨0, _⟩ => blk_simp [e0]
  | ⟨1, _⟩ => blk_simp [e1]; rfl

/-- The array that the call leaves. -/
def out : Buf (Elt Ideal) ((c : Thread nD τ).loc main_v7) := fun (i : S8192x2048.Idx) =>
  dotp (fun k : Fin 4096 => V c main_v6 (ix2 (i 0) k)) (fun k => V c main_v2 (ix2 k (wide (i 1))))

theorem final : (dat1 V c).arrAt 2 cfg1.N = out V c := by
  refine (dat1 V c).arrAt_eq_of_covers 2 _ (by decide +kernel) fun t hf y => ?_
  show (dat1 V c).after 2 t y = _
  idx_vars y
  rw [after1_2]
  unfold out1_2
  rw [View.canon_cons_unit_lit _ _ _ (by decide), View.ld_unit_lit _ _ (by decide), View.ld_unit_lit _ _ (by decide), q_pay]
  simp only [h_blk, w_blk]
  refine Eq.trans (b := out V c (ix2 (row t y0) (col t y1))) rfl ?_
  congr 1
  funext a
  apply Fin.ext
  obtain ⟨e0, e1⟩ := index2 t
  match a with
  | ⟨0, _⟩ => blk_simp [e0]; rfl
  | ⟨1, _⟩ => blk_simp [e1]; rfl

end Q

namespace KV

theorem index0 : ∀ t : Fin grid2.N, win2_0.index t 0 = t.val / 8 ∧ win2_0.index t 1 = 0 := by decide +kernel
theorem index1 : ∀ t : Fin grid2.N, win2_1.index t 0 = 0 ∧ win2_1.index t 1 = 4 + t.val % 8 := by decide +kernel
theorem index2 : ∀ t : Fin grid2.N, win2_2.index t 0 = t.val / 8 ∧ win2_2.index t 1 = t.val % 8 := by decide +kernel
theorem lt : ∀ t : Fin grid2.N, t.val / 8 < 8 := by decide +kernel

/-- Row `r` of point `t`'s panel. -/
def row (t : Fin grid2.N) (r : Fin 1024) : Fin 8192 := ⟨t.val / 8 * 1024 + r.val, by have := lt t; omega⟩

/-- Column `j` of point `t`'s tile, -/
def col (t : Fin grid2.N) (j : Fin 512) : Fin 4096 := ⟨t.val % 8 * 512 + j.val, by omega⟩

/-- and among the columns of the weights. -/
def wide (j : Fin 4096) : Fin 6144 := ⟨2048 + j.val, by omega⟩

theorem h_blk (t : Fin grid2.N) (r : Fin 1024) (k : Fin 4096) : iblk2 V c 0 t (ix2 r k) = V c main_v6 (ix2 (row t r) k) := by
  unfold iblk2
  rw [View.read_apply]
  show V c main_v6 _ = _
  congr 1
  funext a
  apply Fin.ext
  obtain ⟨e0, e1⟩ := index0 t
  match a with
  | ⟨0, _⟩ => blk_simp [e0]; rfl
  | ⟨1, _⟩ => blk_simp [e1]

theorem w_blk (t : Fin grid2.N) (k : Fin 4096) (j : Fin 512) : iblk2 V c 1 t (ix2 k j) = V c main_v2 (ix2 k (wide (col t j))) := by
  unfold iblk2
  rw [View.read_apply]
  show V c main_v2 _ = _
  congr 1
  funext a
  apply Fin.ext
  obtain ⟨e0, e1⟩ := index1 t
  match a with
  | ⟨0, _⟩ => blk_simp [e0]
  | ⟨1, _⟩ => blk_simp [e1]; show (4 + t.val % 8) * 512 + j.val = 2048 + (t.val % 8 * 512 + j.val); omega

/-- The array that the call leaves. -/
def out : Buf (Elt Ideal) ((c : Thread nD τ).loc main_v8) := fun (i : S8192x4096.Idx) =>
  dotp (fun k : Fin 4096 => V c main_v6 (ix2 (i 0) k)) (fun k => V c main_v2 (ix2 k (wide (i 1))))

theorem final : (dat2 V c).arrAt 2 cfg2.N = out V c := by
  refine (dat2 V c).arrAt_eq_of_covers 2 _ (by decide +kernel) fun t hf y => ?_
  show (dat2 V c).after 2 t y = _
  idx_vars y
  rw [after2_2]
  unfold out2_2
  rw [View.canon_cons_unit_lit _ _ _ (by decide), View.ld_unit_lit _ _ (by decide), View.ld_unit_lit _ _ (by decide), kv_pay]
  simp only [h_blk, w_blk]
  refine Eq.trans (b := out V c (ix2 (row t y0) (col t y1))) rfl ?_
  congr 1
  funext a
  apply Fin.ext
  obtain ⟨e0, e1⟩ := index2 t
  match a with
  | ⟨0, _⟩ => blk_simp [e0]; rfl
  | ⟨1, _⟩ => blk_simp [e1]; rfl

end KV

end Cert.FoxProj

end
-- ==== Proof.FoxProjClaims.lean ====
/- The even layer's norm and projections: the run of its three calls, the reference, and the claims. -/
module

public import proofs.«01_k».proof.Defs
public import proofs.«01_k».proof.Proof.FoxProj
public import proofs.«01_k».proof.Proof.Gen.Kernel3.Frame
public import proofs.«01_k».proof.Proof.Gen.Reference3Ideal.Read
public import Idealize.ShloMosaic.Lib.StableHlo.ReadAt

@[expose] public section

set_option maxRecDepth 16384
set_option maxHeartbeats 1000000

noncomputable section

namespace Cert.FoxProj

open Idealize.ShloMosaic Idealize.ShloMosaic.TcCoe Cert.Layer
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- Column `j` of the queries' weights, -/
def qcol (j : Fin 2048) : Fin 14384 := ⟨8224 + j.val, by omega⟩

/-- and of the keys' and values'. -/
def kvcol (j : Fin 4096) : Fin 14384 := ⟨10272 + j.val, by omega⟩

/-- The normed row times a column of the weights. -/
def proj (x : Fin 8192 → Fin 4096 → EReal) (g : Fin 4096 → EReal) (w : Fin 4096 → Fin 14384 → EReal) (i : Fin 8192) (j : Fin 14384) : EReal :=
  dotp (fun k => rms (x i) g k) (fun k => w k j)

/-! ## The kernel -/

section kernel

open Cert.Kernel3Ideal Cert.Kernel3Ideal.Gen

variable (m : (ℓ : Loc nD τ sig) → Buf (Elt Ideal) ℓ) (ρ : Dev nD → PrngReg) (c : Dev nD)

def aX (i : Fin 8192) (j : Fin 4096) : EReal := m ((c : Thread nD τ).loc main_arg0) (ix2 i j)
def aG (j : Fin 4096) : EReal := m ((c : Thread nD τ).loc main_arg1) (ix3 0 0 j)
def aW (k : Fin 4096) (j : Fin 14384) : EReal := m ((c : Thread nD τ).loc main_arg2) (ix3 0 k j)

theorem at_g (k : Fin 4096) : V1 m ρ c main_v5 (ix2 0 k) = aG m c k := by
  unfold V1 W1 hostOps0
  after_reads_at
  rfl

theorem at_wq (k : Fin 4096) (j : Fin 2048) : V1 m ρ c main_v2 (ix2 k (Q.wide j)) = aW m c k (qcol j) := by
  unfold V1 W1 hostOps0 Q.wide
  after_reads_at
  rfl

theorem at_wkv (k : Fin 4096) (j : Fin 4096) : V1 m ρ c main_v2 (ix2 k (KV.wide j)) = aW m c k (kvcol j) := by
  refine Eq.trans (b := aW m c k ⟨8224 + (2048 + j.val), by omega⟩) ?_
    (congrArg (aW m c k) (Fin.ext (by show 8224 + (2048 + j.val) = 10272 + j.val; omega)))
  unfold V1 W1 hostOps0 KV.wide
  after_reads_at
  rfl

theorem at_normed (i : Fin 8192) (j : Fin 4096) : V2 m ρ c main_v6 (ix2 i j) = rms (aX m c i) (aG m c) j := by
  have h : V2 m ρ c main_v6 = Norm.out (V1 m ρ) c := (W2_arr m ρ c 2).trans (Norm.final (V1 m ρ) c)
  rw [h]
  have hx : V1 m ρ c main_arg0 = m ((c : Thread nD τ).loc main_arg0) := W1_args m ρ c main_arg0 (by decide)
  exact rms_congr (fun k => congrFun hx (ix2 i k)) (at_g m ρ c) j

theorem weights_kept : V2 m ρ c main_v2 = V1 m ρ c main_v2 := W2_of m ρ c main_v2 (by decide +kernel)

theorem weights_kept' : V3 m ρ c main_v2 = V1 m ρ c main_v2 :=
  (W3_of m ρ c main_v2 (by decide +kernel)).trans (weights_kept m ρ c)

theorem normed_kept : V3 m ρ c main_v6 = V2 m ρ c main_v6 := W3_of m ρ c main_v6 (by decide +kernel)

/-- The queries, as an array. -/
def queries : Buf (Elt Ideal) ((c : Thread nD τ).loc main_v7) := fun (i : S8192x2048.Idx) =>
  proj (aX m c) (aG m c) (aW m c) (i 0) (qcol (i 1))

/-- The keys and values, as an array. -/
def keysValues : Buf (Elt Ideal) ((c : Thread nD τ).loc main_v8) := fun (i : S8192x4096.Idx) =>
  proj (aX m c) (aG m c) (aW m c) (i 0) (kvcol (i 1))

theorem final_q : W4 m ρ c (Proc.devRef .tc main_v7) = queries m c := by
  refine (W4_of m ρ c main_v7 (by decide +kernel)).trans ((W3_arr m ρ c 2).trans ((Q.final (V2 m ρ) c).trans ?_))
  funext i
  idx_vars i
  exact dotp_congr (at_normed m ρ c i0) (fun k => (congrFun (weights_kept m ρ c) (ix2 k (Q.wide i1))).trans (at_wq m ρ c k i1))

theorem final_kv : W4 m ρ c (Proc.devRef .tc main_v8) = keysValues m c := by
  refine (W4_arr m ρ c 2).trans ((KV.final (V3 m ρ) c).trans ?_)
  funext i
  idx_vars i
  exact dotp_congr (fun k => (congrFun (normed_kept m ρ c) (ix2 i0 k)).trans (at_normed m ρ c i0 k))
    (fun k => (congrFun (weights_kept' m ρ c) (ix2 k (KV.wide i1))).trans (at_wkv m ρ c k i1))

/-- The run of the three calls: the two results, and the arguments as they were. -/
theorem run : θ_run defs (onTc (τ := τ) (main (F := Ideal))) ⟨m, fun _ => 0, ρ⟩ (fun r => ∀ c : Dev nD,
      r.2.mem ((c.tc : Thread nD τ).loc main_v7) = queries m c
      ∧ r.2.mem ((c.tc : Thread nD τ).loc main_v8) = keysValues m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v7 (by decide))).trans (final_q m ρ c),
       (h c _ (mem_uc main_v8 (by decide))).trans (final_kv m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end kernel

/-! ## The reference -/

section reference

open Cert.Reference3Ideal Cert.Reference3Ideal.Read

variable (x0 : S8192x4096.Idx → EReal) (x1 : S2x4x4096.Idx → EReal) (x2 : S1x4096x14384.Idx → EReal)

theorem gain_at (j : Fin 4096) : val_main_v1 (F := Ideal) x1 (ix1 j) = x1 (ix3 0 0 j) := by
  pointwise [val_main_v1, val_main_v0]

theorem normed_at (i : Fin 8192) (j : Fin 4096) :
    val_main_v14 (F := Ideal) x0 x1 (ix2 i j) = rms (fun k => x0 (ix2 i k)) (fun k => x1 (ix3 0 0 k)) j := by
  pointwise [val_main_v14, val_main_v13, val_main_v12, val_main_v11, val_main_v10, val_main_v9, val_main_v8, val_main_v7, val_main_v6, val_main_v5, val_main_v4, val_main_v3, val_main_v2, val_main_cst, val_main_cst_0, val_main_cst_1]
  simp only [gain_at]
  rfl

theorem q_at (i : Fin 8192) (j : Fin 2048) :
    val_main_v18 (F := Ideal) x0 x1 x2 (ix2 i j)
      = proj (fun i k => x0 (ix2 i k)) (fun k => x1 (ix3 0 0 k)) (fun k j => x2 (ix3 0 k j)) i (qcol j) := by
  pointwise [val_main_v18, val_main_v17, val_main_v16, val_main_v15]
  simp only [normed_at]
  rfl

theorem kv_at (i : Fin 8192) (j : Fin 4096) :
    val_main_v20 (F := Ideal) x0 x1 x2 (ix2 i j)
      = proj (fun i k => x0 (ix2 i k)) (fun k => x1 (ix3 0 0 k)) (fun k j => x2 (ix3 0 k j)) i (kvcol j) := by
  pointwise [val_main_v20, val_main_v19, val_main_v16, val_main_v15]
  simp only [normed_at]
  rfl

end reference

/-! ## The claims -/

theorem frame_p : Cert.quiescent_Kernel3 := fun m ρ _ => Cert.Kernel3.Gen.frame m ρ

theorem frame_pi : Cert.quiescent_Kernel3Ideal := fun m ρ _ => Cert.Kernel3Ideal.Gen.frame m ρ

theorem frame_ri : Cert.quiescent_Reference3Ideal := fun m ρ _ =>
  (θ_run Cert.Reference3Ideal.defs _ _).mono (fun r h => ⟨fun c => (h c).2.2, Idealize.ShloMosaic.sem_eq_zero_of_no_sems (by decide) r.2⟩)
    (Cert.Reference3Ideal.Value.run (F := Ideal) m ρ)

theorem preserves : Cert.preserves_Kernel3_Kernel3Ideal := trivial

theorem algebraic : Cert.algebraic_Kernel3Ideal_Reference3Ideal := by
  intro m ρ m' ρ' _ hagree
  refine ⟨fun c => queries m c, fun c => keysValues m c, run m ρ, ?_⟩
  refine (θ_run Cert.Reference3Ideal.defs _ _).mono (fun r h c => ⟨(h c).1.trans ?_, (h c).2.1.trans ?_, (h c).2.2⟩)
    (Cert.Reference3Ideal.Value.run (F := Ideal) m' ρ')
  · obtain ⟨e0, e1, e2⟩ := hagree c
    rw [Cert.Reference3Ideal.Read.val_main_v18_eq, e0, e1, e2]
    funext y
    idx_vars y
    exact q_at _ _ _ y0 y1
  · obtain ⟨e0, e1, e2⟩ := hagree c
    rw [Cert.Reference3Ideal.Read.val_main_v20_eq, e0, e1, e2]
    funext y
    idx_vars y
    exact kv_at _ _ _ y0 y1

end Cert.FoxProj

end
-- ==== Proof.OutProj.lean ====
/- The even layer's output projection: the product of the two mixers' outputs, side by side, with the weights. -/
module

public import proofs.«01_k».proof.Defs
public import proofs.«01_k».proof.Proof.Layer
public import proofs.«01_k».proof.Proof.Gen.Kernel4.Frame
public import proofs.«01_k».proof.Proof.Gen.Kernel4Ideal.Value
public import proofs.«01_k».proof.Proof.Gen.Reference4Ideal.Read
public import Idealize.ShloMosaic.Lib.Pipeline.ValueKit
public import Idealize.ShloMosaic.Lib.StableHlo.ReadAt
public import Idealize.ShloMosaic.Lib.Pointwise

@[expose] public section

set_option maxRecDepth 16384
set_option maxHeartbeats 1000000

noncomputable section

namespace Cert.OutProj

open Idealize.ShloMosaic Idealize.ShloMosaic.TcCoe Idealize.SL.Sem Cert.Layer

/-! ## The kernel -/

section kernel

open Cert.Kernel4Ideal Cert.Kernel4Ideal.Gen

theorem pay (a b : Vec Ideal S1024x2048 .bf16) (v w : Vec Ideal S1x2048x512 .f32) (r : Fin 1024) (j : Fin 512) :
    k0_pay1 a v b w (ix2 r j) = dotp (fun k => a (ix2 r k)) (fun k => v (ix3 0 k j)) + dotp (fun k => b (ix2 r k)) (fun k => w (ix3 0 k j)) := by
  pointwise [k0_pay1]
  rfl

variable (m : (ℓ : Loc nD τ sig) → Buf (Elt Ideal) ℓ) (c : Dev nD)

theorem index0 : ∀ t : Fin grid0.N, win0_0.index t 0 = t.val / 8 ∧ win0_0.index t 1 = 0 := by decide +kernel
theorem index1 : ∀ t : Fin grid0.N, win0_1.index t 0 = t.val / 8 ∧ win0_1.index t 1 = 0 := by decide +kernel
theorem index2 : ∀ t : Fin grid0.N, win0_2.index t 0 = 0 ∧ win0_2.index t 1 = 0 ∧ win0_2.index t 2 = t.val % 8 := by decide +kernel
theorem index3 : ∀ t : Fin grid0.N, win0_3.index t 0 = 0 ∧ win0_3.index t 1 = 1 ∧ win0_3.index t 2 = t.val % 8 := by decide +kernel
theorem index4 : ∀ t : Fin grid0.N, win0_4.index t 0 = t.val / 8 ∧ win0_4.index t 1 = t.val % 8 := by decide +kernel
theorem lt : ∀ t : Fin grid0.N, t.val / 8 < 8 := by decide +kernel

/-- Row `r` of point `t`'s panel. -/
def row (t : Fin grid0.N) (r : Fin 1024) : Fin 8192 := ⟨t.val / 8 * 1024 + r.val, by have := lt t; omega⟩

/-- Column `j` of point `t`'s tile. -/
def col (t : Fin grid0.N) (j : Fin 512) : Fin 4096 := ⟨t.val % 8 * 512 + j.val, by omega⟩

/-- Row `k` of the upper half of the weights, -/
def up (k : Fin 2048) : Fin 4096 := ⟨k.val, by omega⟩

/-- and of the lower half. -/
def low (k : Fin 2048) : Fin 4096 := ⟨2048 + k.val, by omega⟩

theorem a_blk (t : Fin grid0.N) (r : Fin 1024) (k : Fin 2048) : iblk m c 0 t (ix2 r k) = V m c main_v0 (ix2 (row t r) k) := by
  unfold iblk
  rw [View.read_apply]
  show V m c main_v0 _ = _
  congr 1
  funext a
  apply Fin.ext
  obtain ⟨e0, e1⟩ := index0 t
  match a with
  | ⟨0, _⟩ => blk_simp [e0]; rfl
  | ⟨1, _⟩ => blk_simp [e1]

theorem b_blk (t : Fin grid0.N) (r : Fin 1024) (k : Fin 2048) : iblk m c 1 t (ix2 r k) = V m c main_v1 (ix2 (row t r) k) := by
  unfold iblk
  rw [View.read_apply]
  show V m c main_v1 _ = _
  congr 1
  funext a
  apply Fin.ext
  obtain ⟨e0, e1⟩ := index1 t
  match a with
  | ⟨0, _⟩ => blk_simp [e0]; rfl
  | ⟨1, _⟩ => blk_simp [e1]

theorem v_blk (t : Fin grid0.N) (k : Fin 2048) (j : Fin 512) : iblk m c 2 t (ix3 0 k j) = V m c main_arg2 (ix3 0 (up k) (col t j)) := by
  unfold iblk
  rw [View.read_apply]
  show V m c main_arg2 _ = _
  congr 1
  funext a
  apply Fin.ext
  obtain ⟨e0, e1, e2⟩ := index2 t
  match a with
  | ⟨0, _⟩ => blk_simp [e0]
  | ⟨1, _⟩ => blk_simp [e1]; rfl
  | ⟨2, _⟩ => blk_simp [e2]; rfl

theorem w_blk (t : Fin grid0.N) (k : Fin 2048) (j : Fin 512) : iblk m c 3 t (ix3 0 k j) = V m c main_arg2 (ix3 0 (low k) (col t j)) := by
  unfold iblk
  rw [View.read_apply]
  show V m c main_arg2 _ = _
  congr 1
  funext a
  apply Fin.ext
  obtain ⟨e0, e1, e2⟩ := index3 t
  match a with
  | ⟨0, _⟩ => blk_simp [e0]
  | ⟨1, _⟩ => blk_simp [e1]; rfl
  | ⟨2, _⟩ => blk_simp [e2]; rfl

theorem at_a (i : Fin 8192) (k : Fin 2048) : V m c main_v0 (ix2 i k) = m ((c : Thread nD τ).loc main_arg0) (ix2 i k) := by
  unfold V hostOps0
  after_reads_at

theorem at_b (i : Fin 8192) (k : Fin 2048) : V m c main_v1 (ix2 i k) = m ((c : Thread nD τ).loc main_arg1) (ix2 i k) := by
  unfold V hostOps0
  after_reads_at

/-- The two products, added. -/
def entry (i : Fin 8192) (j : Fin 4096) : EReal :=
  dotp (fun k : Fin 2048 => m ((c : Thread nD τ).loc main_arg0) (ix2 i k)) (fun k => m ((c : Thread nD τ).loc main_arg2) (ix3 0 (up k) j))
    + dotp (fun k : Fin 2048 => m ((c : Thread nD τ).loc main_arg1) (ix2 i k)) (fun k => m ((c : Thread nD τ).loc main_arg2) (ix3 0 (low k) j))

/-- The array that the call leaves. -/
def result : Buf (Elt Ideal) ((c : Thread nD τ).loc main_v2) := fun (i : S8192x4096.Idx) => entry m c (i 0) (i 1)

theorem final : (dats m 0 c).arrAt 4 cfg0.N = result m c := by
  refine (dats m 0 c).arrAt_eq_of_covers 4 _ (by decide +kernel) fun t hf y => ?_
  show (dats m 0 c).after 4 t y = _
  idx_vars y
  rw [after0_4]
  unfold out0_4
  rw [View.canon_cons_unit_lit _ _ _ (by decide), View.ld_unit_lit _ _ (by decide), View.ld_unit_lit _ _ (by decide), View.ld_unit_lit _ _ (by decide), View.ld_unit_lit _ _ (by decide), pay]
  simp only [a_blk, b_blk, v_blk, w_blk, at_a, at_b, V_main_arg2]
  refine Eq.trans (b := result m c (ix2 (row t y0) (col t y1))) rfl ?_
  congr 1
  funext a
  apply Fin.ext
  obtain ⟨e0, e1⟩ := index4 t
  match a with
  | ⟨0, _⟩ => blk_simp [e0]; rfl
  | ⟨1, _⟩ => blk_simp [e1]; rfl

end kernel

/-! ## The reference -/

section reference

open Cert.Reference4Ideal Cert.Reference4Ideal.Read

variable (x0 x1 : S8192x2048.Idx → EReal) (x2 : S1x4096x4096.Idx → EReal)

theorem joined_up (i : Fin 8192) (k : Fin 2048) : val_main_v0 (F := Ideal) x0 x1 (ix2 i (up k)) = x0 (ix2 i k) := by
  unfold up
  pointwise [val_main_v0]

theorem joined_low (i : Fin 8192) (k : Fin 2048) : val_main_v0 (F := Ideal) x0 x1 (ix2 i (low k)) = x1 (ix2 i k) := by
  unfold low
  pointwise [val_main_v0]

/-- A sum over the joined row is the sum over its two halves. -/
theorem sum_halves (f : Fin 4096 → EReal) : ∑ k, f k = (∑ k : Fin 2048, f (up k)) + ∑ k : Fin 2048, f (low k) :=
  Fin.sum_univ_add (a := 2048) (b := 2048) f

theorem product_at (i : Fin 8192) (j : Fin 4096) :
    val_main_v3 (F := Ideal) x0 x1 x2 (ix2 i j) = dotp (fun k : Fin 4096 => val_main_v0 (F := Ideal) x0 x1 (ix2 i k)) (fun k => x2 (ix3 0 k j)) := by
  pointwise [val_main_v3, val_main_v2, val_main_v1]
  rfl

theorem ref_at (i : Fin 8192) (j : Fin 4096) :
    val_main_v3 (F := Ideal) x0 x1 x2 (ix2 i j)
      = dotp (fun k : Fin 2048 => x0 (ix2 i k)) (fun k => x2 (ix3 0 (up k) j)) + dotp (fun k : Fin 2048 => x1 (ix2 i k)) (fun k => x2 (ix3 0 (low k) j)) := by
  rw [product_at]
  unfold dotp
  rw [sum_halves]
  simp only [joined_up, joined_low]

end reference

/-! ## The claims -/

theorem frame_p : Cert.quiescent_Kernel4 := fun m ρ _ => Cert.Kernel4.Gen.frame m ρ

theorem frame_pi : Cert.quiescent_Kernel4Ideal := fun m ρ _ => Cert.Kernel4Ideal.Gen.frame m ρ

theorem frame_ri : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

theorem preserves : Cert.preserves_Kernel4_Kernel4Ideal := trivial

theorem algebraic : Cert.algebraic_Kernel4Ideal_Reference4Ideal := by
  intro m ρ m' ρ' _ hagree
  refine ⟨fun c => result m c, ?_, ?_⟩
  · exact (θ_run Cert.Kernel4Ideal.defs _ _).mono (fun r h c => ⟨(h c).1.trans (final m c), (h c).2⟩)
      (Cert.Kernel4Ideal.Value.run_blocks (F := Ideal) m ρ)
  · refine (θ_run Cert.Reference4Ideal.defs _ _).mono (fun r h c => ⟨(h c).1.trans ?_, (h c).2⟩) (Cert.Reference4Ideal.Value.run (F := Ideal) m' ρ')
    obtain ⟨e0, e1, e2⟩ := hagree c
    rw [Cert.Reference4Ideal.Read.val_main_v3_eq, e0, e1, e2]
    funext y
    idx_vars y
    exact ref_at _ _ _ y0 y1

end Cert.OutProj

end
-- ==== Proof.DeltaProj.lean ====
/- The even layer's projection onto the gated delta rule's channels. -/
module

public import proofs.«01_k».proof.Defs
public import proofs.«01_k».proof.Proof.Layer
public import proofs.«01_k».proof.Proof.Gen.Kernel5.Frame
public import proofs.«01_k».proof.Proof.Gen.Kernel5Ideal.Value
public import proofs.«01_k».proof.Proof.Gen.Reference5Ideal.Read
public import Idealize.ShloMosaic.Lib.Pipeline.ValueKit
public import Idealize.ShloMosaic.Lib.StableHlo.ReadAt
public import Idealize.ShloMosaic.Lib.Pointwise

@[expose] public section

set_option maxRecDepth 16384
set_option maxHeartbeats 1000000

noncomputable section

namespace Cert.DeltaProj

open Idealize.ShloMosaic Idealize.ShloMosaic.TcCoe Idealize.SL.Sem Cert.Layer

/-! ## The kernel -/

section kernel

open Cert.Kernel5Ideal Cert.Kernel5Ideal.Gen

theorem pay (h : Vec Ideal S1024x4096 .bf16) (w : Vec Ideal S1x4096x512 .f32) (r : Fin 1024) (j : Fin 512) :
    k0_pay1 h w (ix2 r j) = dotp (fun k => h (ix2 r k)) (fun k => w (ix3 0 k j)) := by
  pointwise [k0_pay1]
  rfl

variable (m : (ℓ : Loc nD τ sig) → Buf (Elt Ideal) ℓ) (c : Dev nD)

theorem index0 : ∀ t : Fin grid0.N, win0_0.index t 0 = t.val / 16 ∧ win0_0.index t 1 = 0 := by decide +kernel
theorem index1 : ∀ t : Fin grid0.N, win0_1.index t 0 = 0 ∧ win0_1.index t 1 = 0 ∧ win0_1.index t 2 = t.val % 16 := by decide +kernel
theorem index2 : ∀ t : Fin grid0.N, win0_2.index t 0 = t.val / 16 ∧ win0_2.index t 1 = t.val % 16 := by decide +kernel
theorem lt : ∀ t : Fin grid0.N, t.val / 16 < 8 := by decide +kernel

/-- Row `r` of point `t`'s panel. -/
def row (t : Fin grid0.N) (r : Fin 1024) : Fin 8192 := ⟨t.val / 16 * 1024 + r.val, by have := lt t; omega⟩

/-- Column `j` of point `t`'s tile, -/
def col (t : Fin grid0.N) (j : Fin 512) : Fin 8192 := ⟨t.val % 16 * 512 + j.val, by omega⟩

/-- and among the columns of the weights. -/
def wide (j : Fin 8192) : Fin 14384 := ⟨j.val, by omega⟩

theorem h_blk (t : Fin grid0.N) (r : Fin 1024) (k : Fin 4096) : iblk m c 0 t (ix2 r k) = V m c main_v0 (ix2 (row t r) k) := by
  unfold iblk
  rw [View.read_apply]
  show V m c main_v0 _ = _
  congr 1
  funext a
  apply Fin.ext
  obtain ⟨e0, e1⟩ := index0 t
  match a with
  | ⟨0, _⟩ => blk_simp [e0]; rfl
  | ⟨1, _⟩ => blk_simp [e1]

/-- No block of the weights is cut, so the staging buffer holds the block whole. -/
theorem w_blk (t : Fin grid0.N) (k : Fin 4096) (j : Fin 512) : X0_1 m c t (ix3 0 k j) = V m c main_arg1 (ix3 0 k (wide (col t j))) := by
  unfold X0_1 Pipeline.Window.fill
  rw [dif_pos (moved0_1 t _)]
  unfold iblk
  rw [View.read_apply]
  show V m c main_arg1 _ = _
  congr 1
  funext a
  apply Fin.ext
  obtain ⟨e0, e1, e2⟩ := index1 t
  match a with
  | ⟨0, _⟩ => blk_simp [e0]
  | ⟨1, _⟩ => blk_simp [e1]
  | ⟨2, _⟩ => blk_simp [e2]; rfl

theorem at_h (i : Fin 8192) (k : Fin 4096) : V m c main_v0 (ix2 i k) = m ((c : Thread nD τ).loc main_arg0) (ix2 i k) := by
  unfold V hostOps0
  after_reads_at

theorem out_at (t : Fin grid0.N) (r : Fin 1024) (j : Fin 512) :
    outsAt0 m c t (ix2 r j) = dotp (fun k => iblk m c 0 t (ix2 r k)) (fun k => X0_1 m c t (ix3 0 k j)) := by
  unfold outsAt0 out0_A_2
  rw [View.read_writes_junk_eq_canon]
  unfold kernelRun0_A
  dsimp only
  rw [View.canon_cons_unit_lit _ _ _ (by decide), pay]
  refine dotp_congr (fun k => ?_) (fun k => ?_)
  · rw [View.readAt_apply, (hs0_0 t).read_unread]
    exact congrFun (View.ld_unit_lit _ _ (by decide)) _
  · rw [View.readAt_apply, (hs0_1 t).read_unread]
    exact congrFun (View.ld_unit_lit _ _ (by decide)) _

/-- The array that the call leaves. -/
def result : Buf (Elt Ideal) ((c : Thread nD τ).loc main_v1) := fun (i : S8192x8192.Idx) =>
  dotp (fun k : Fin 4096 => m ((c : Thread nD τ).loc main_arg0) (ix2 (i 0) k)) (fun k => m ((c : Thread nD τ).loc main_arg1) (ix3 0 k (wide (i 1))))

theorem final : (dats m 0 c).arrAt 2 cfg0.N = result m c := by
  refine (dats m 0 c).arrAt_eq_of_covers 2 _ (by decide +kernel) fun t hf y => ?_
  show (dats m 0 c).after 2 t y = _
  idx_vars y
  rw [after0_2, out_at]
  simp only [h_blk, w_blk, at_h, V_main_arg1]
  refine Eq.trans (b := result m c (ix2 (row t y0) (col t y1))) rfl ?_
  congr 1
  funext a
  apply Fin.ext
  obtain ⟨e0, e1⟩ := index2 t
  match a with
  | ⟨0, _⟩ => blk_simp [e0]; rfl
  | ⟨1, _⟩ => blk_simp [e1]; rfl

end kernel

/-! ## The reference -/

section reference

open Cert.Reference5Ideal Cert.Reference5Ideal.Read

theorem ref_at (x0 : S8192x4096.Idx → EReal) (x1 : S1x4096x14384.Idx → EReal) (i j : Fin 8192) :
    val_main_v2 (F := Ideal) x0 x1 (ix2 i j) = dotp (fun k : Fin 4096 => x0 (ix2 i k)) (fun k => x1 (ix3 0 k (wide j))) := by
  pointwise [val_main_v2, val_main_v1, val_main_v0]
  rfl

end reference

/-! ## The claims -/

theorem frame_p : Cert.quiescent_Kernel5 := fun m ρ _ => Cert.Kernel5.Gen.frame m ρ

theorem frame_pi : Cert.quiescent_Kernel5Ideal := fun m ρ _ => Cert.Kernel5Ideal.Gen.frame m ρ

theorem frame_ri : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

theorem preserves : Cert.preserves_Kernel5_Kernel5Ideal := trivial

theorem algebraic : Cert.algebraic_Kernel5Ideal_Reference5Ideal := by
  intro m ρ m' ρ' _ hagree
  refine ⟨fun c => result m c, ?_, ?_⟩
  · exact (θ_run Cert.Kernel5Ideal.defs _ _).mono (fun r h c => ⟨(h c).1.trans (final m c), (h c).2⟩)
      (Cert.Kernel5Ideal.Value.run_blocks (F := Ideal) m ρ)
  · refine (θ_run Cert.Reference5Ideal.defs _ _).mono (fun r h c => ⟨(h c).1.trans ?_, (h c).2⟩) (Cert.Reference5Ideal.Value.run (F := Ideal) m' ρ')
    obtain ⟨e0, e1⟩ := hagree c
    rw [Cert.Reference5Ideal.Read.val_main_v2_eq, e0, e1]
    funext y
    idx_vars y
    exact ref_at _ _ y0 y1

end Cert.DeltaProj

end
-- ==== Proof.GateMath.lean ====
/- The gates of the even layer's two mixers over the extended reals: softplus and the two log decays it gives, the sum of a
   value with the remainders of its own rounding, and a running sum read off a padded window. -/
module

public import Idealize.ShloMosaic.PureOps.Ideal
public import Mathlib.Analysis.SpecialFunctions.Log.Basic
public import Mathlib.Algebra.BigOperators.Fin

@[expose] public section

noncomputable section

namespace Cert.Gates

open Idealize.ShloMosaic

/-- `log (1 + e^x)`, in the form that does not overflow. -/
def sp (x : EReal) : EReal := max x 0 + Ideal.log1p (Ideal.exp (-(max x (-x))))

theorem log1p_exp_nonneg (y : EReal) : 0 ≤ Ideal.log1p (Ideal.exp y) := by
  have h : ∀ r : ℝ, 0 ≤ r → (0 : EReal) ≤ Ideal.log1p (r : EReal) := by
    intro r hr
    unfold Ideal.log1p
    rw [← EReal.coe_one, ← EReal.coe_add]
    show (0 : EReal) ≤ if 1 + r ≤ 0 then ⊥ else (Real.log (1 + r) : EReal)
    rw [if_neg (by linarith)]
    exact_mod_cast Real.log_nonneg (by linarith)
  induction y with
  | bot => exact h 0 le_rfl
  | top =>
    show (0 : EReal) ≤ Ideal.log (1 + ⊤)
    rw [EReal.add_top_of_ne_bot (by decide)]
    exact le_top
  | coe r => exact h _ (Real.exp_pos r).le

theorem sp_nonneg (x : EReal) : 0 ≤ sp x := add_nonneg (le_max_right _ _) (log1p_exp_nonneg _)

theorem exp_nonneg (a : EReal) : 0 ≤ Ideal.exp a := by
  induction a with
  | bot => exact le_rfl
  | top => exact le_top
  | coe r => exact EReal.coe_nonneg.mpr (Real.exp_pos r).le

theorem neg_le_zero {x : EReal} (h : 0 ≤ x) : -x ≤ 0 := by
  have := EReal.neg_le_neg_iff.mpr h
  rwa [neg_zero] at this

/-- The gated delta rule's log decay, from the projection `p`, the rate `a` and the bias `d`. -/
def decay (p a d : EReal) : EReal := -Ideal.exp a * sp (p + d)

/-- The attention's log forget gate, from the projection `p` and the bias `b`. -/
def forget (p b : EReal) : EReal := -sp (-(p + b))

theorem decay_ne_top (p a d : EReal) : decay p a d ≠ ⊤ := by
  have h : decay p a d ≤ 0 := by
    unfold decay
    rw [EReal.neg_mul]
    exact neg_le_zero (mul_nonneg (exp_nonneg a) (sp_nonneg _))
  exact (h.trans_lt EReal.zero_lt_top).ne

theorem forget_ne_top (p b : EReal) : forget p b ≠ ⊤ := by
  have h : forget p b ≤ 0 := neg_le_zero (sp_nonneg _)
  exact (h.trans_lt EReal.zero_lt_top).ne

/-! ## Sums -/

/-- A value other than `+∞` is its own sum with what is left of it when it is taken away, once and twice. -/
theorem add_rests {v : EReal} (h : v ≠ ⊤) : v + (v - v) + (v - v - (v - v)) = v := by
  induction v with
  | bot => rfl
  | top => exact absurd rfl h
  | coe r =>
    rw [← EReal.coe_sub, ← EReal.coe_sub, ← EReal.coe_add, ← EReal.coe_add]
    congr 1
    ring

/-- The three sums over the rows up to `r`, of the values and of what is left of them, are the sum of the values. -/
theorem sum_rests {n : ℕ} (T v : Fin n → EReal) (r : Fin n) (hT : ∀ k, T k = if k ≤ r then 1 else 0) (f : ℕ → EReal)
    (hv : ∀ k, v k = f k.val) (hf : ∀ k, f k ≠ ⊤) :
    ∑ k, T k * v k + ∑ k, T k * (v k - v k) + ∑ k, T k * (v k - v k - (v k - v k)) = ∑ k ∈ Finset.range (r.val + 1), f k := by
  rw [← Finset.sum_add_distrib, ← Finset.sum_add_distrib]
  have e : ∀ k : Fin n, T k * v k + T k * (v k - v k) + T k * (v k - v k - (v k - v k)) = (fun j : ℕ => if j ≤ r.val then f j else 0) k.val := by
    intro k
    rw [hT, hv]
    by_cases h : k ≤ r
    · rw [if_pos h, one_mul, one_mul, one_mul, add_rests (hf _)]
      exact (if_pos (show k.val ≤ r.val from h)).symm
    · rw [if_neg h, zero_mul, zero_mul, zero_mul, add_zero, add_zero]
      exact (if_neg (show ¬k.val ≤ r.val from h)).symm
  rw [Finset.sum_congr rfl fun k _ => e k, Fin.sum_univ_eq_sum_range (fun j : ℕ => if j ≤ r.val then f j else 0) n,
    ← Finset.sum_filter]
  congr 1
  ext k
  simp only [Finset.mem_filter, Finset.mem_range]
  have := r.isLt
  omega

theorem sum_extend (f : ℕ → EReal) (a n : ℕ) :
    ∑ k ∈ Finset.range n, f (a + k) + ∑ k ∈ Finset.range a, f k = ∑ k ∈ Finset.range (a + n), f k := by
  rw [Finset.sum_range_add, add_comm]

/-- A window of `N` rows that ends at row `i`, the rows before the first padded with zeros. -/
theorem sum_window (N i : ℕ) (hi : i < N) (f : ℕ → EReal) :
    ∑ n : Fin N, (if N - 1 ≤ i + n.val then f (i + n.val - (N - 1)) else 0) = ∑ k ∈ Finset.range (i + 1), f k := by
  rw [Fin.sum_univ_eq_sum_range (fun n : ℕ => if N - 1 ≤ i + n then f (i + n - (N - 1)) else 0) N]
  obtain ⟨d, rfl⟩ : ∃ d, N = d + (i + 1) := ⟨N - (i + 1), by omega⟩
  rw [Finset.sum_range_add, Finset.sum_eq_zero, zero_add]
  · refine Finset.sum_congr rfl fun k hk => ?_
    rw [if_pos (by omega)]
    congr 1
    omega
  · intro n hn
    rw [if_neg]
    have := Finset.mem_range.mp hn
    omega

/-- A sum taken from the left, over a list of positions. -/
theorem foldl_add {n : ℕ} (g : Fin n → EReal) (v : EReal) : (List.finRange n).foldl (fun r k => r + g k) v = v + ∑ k, g k := by
  rw [← List.sum_ofFn, List.ofFn_eq_map]
  generalize List.finRange n = l
  induction l generalizing v with
  | nil => simp
  | cons a l ih => simp only [List.foldl_cons, List.map_cons, List.sum_cons, ih, add_assoc]

end Cert.Gates

end
-- ==== Proof.GateBody.lean ====
/- The gates' kernel at one point of its grid: the values, their running sums over a chunk of 128 rows, and what it stores. -/
module

public import proofs.«01_k».proof.Defs
public import proofs.«01_k».proof.Proof.Layer
public import proofs.«01_k».proof.Proof.GateMath
public import proofs.«01_k».proof.Proof.Gen.Kernel6Ideal.Value
public import Idealize.ShloMosaic.Lib.Pipeline.ValueKit
public import Idealize.ShloMosaic.Lib.Pointwise

@[expose] public section

set_option maxRecDepth 16384
set_option maxHeartbeats 1000000

noncomputable section

namespace Cert.Gates

open Idealize.ShloMosaic Idealize.ShloMosaic.TcCoe Cert.Layer Cert.Kernel6Ideal Cert.Kernel6Ideal.Gen

/-! ## The lanes -/

theorem ge_word : ∀ r k : Fin 128, BitVec.setWidth 32 (IntOp.cmpi CmpIPredicate.sge (BitVec.ofNat 32 r.val) (BitVec.ofNat 32 k.val))
    = if k ≤ r then 1#32 else 0#32 := by decide +kernel

theorem lane_decay (l : Fin 128) : k0_pay5 (ix2 0 l) = if l.val < 16 then 1#1 else 0#1 := by
  pointwise [k0_pay5]
  revert l
  decide +kernel

theorem lane_beta (l : Fin 128) : k0_pay6 (ix2 0 l) = if 16 ≤ l.val ∧ l.val < 32 then 1#1 else 0#1 := by
  pointwise [k0_pay6]
  revert l
  decide +kernel

theorem lane_forget (l : Fin 128) : k0_pay7 (ix2 0 l) = if 32 ≤ l.val ∧ l.val < 48 then 1#1 else 0#1 := by
  pointwise [k0_pay7]
  revert l
  decide +kernel

theorem tri (r k : Fin 128) : k0_pay15 (F := Ideal) (ix2 r k) = if k ≤ r then 1 else 0 := by
  pointwise [k0_pay15]
  rw [ge_word]
  split
  · show (((1#32 : BitVec 32).toInt : ℝ) : EReal) = 1
    simp
  · show (((0#32 : BitVec 32).toInt : ℝ) : EReal) = 0
    simp

/-- The kind a lane is of: a running decay, a logistic, a running forget gate, or nothing. -/
def lane (l : Fin 128) (x y z : EReal) : EReal :=
  if l.val < 16 then x else if 16 ≤ l.val ∧ l.val < 32 then y else if 32 ≤ l.val ∧ l.val < 48 then z else 0

theorem select_bit (p : Prop) [Decidable p] (x y : EReal) : Scalar.select (if p then 1#1 else 0#1) x y = if p then x else y := by
  unfold Scalar.select
  by_cases h : p
  · rw [if_pos h, if_pos h]; exact if_pos rfl
  · rw [if_neg h, if_neg h]; exact if_neg (by decide)

theorem prod (h : Vec Ideal S512x4096 .bf16) (w : Vec Ideal S4096x128 .bf16) (r : Fin 512) (l : Fin 128) :
    k0_pay4 h w (ix2 r l) = dotp (fun k => h (ix2 r k)) (fun k => w (ix2 k l)) := by
  pointwise [k0_pay4]
  rfl

/-- The value whose running sum the lane keeps. -/
def val (l : Fin 128) (p a d b : EReal) : EReal :=
  if l.val < 16 then decay p a d else if 32 ≤ l.val ∧ l.val < 48 then forget p b else 0

theorem val_ne_top (l : Fin 128) (p a d b : EReal) : val l p a d b ≠ ⊤ := by
  unfold val
  split
  · exact decay_ne_top _ _ _
  · split
    · exact forget_ne_top _ _
    · exact EReal.zero_ne_top

theorem vals (h : Vec Ideal S512x4096 .bf16) (w : Vec Ideal S4096x128 .bf16) (a d b : Vec Ideal S1x128 .f32) (r : Fin 512) (l : Fin 128) :
    k0_pay14 (k0_pay4 h w) k0_pay5 k0_pay7 (k0_pay8 b) (k0_pay9 a) (k0_pay11 h w d) (k0_pay12 h w d) (ix2 r l)
      = val l (k0_pay4 h w (ix2 r l)) (a (ix2 0 l)) (d (ix2 0 l)) (b (ix2 0 l)) := by
  pointwise [k0_pay14, k0_pay8, k0_pay9, k0_pay11, k0_pay12, k0_pay10, lane_decay, lane_forget]
  rw [select_bit, select_bit]
  simp only [zero_sub]
  rfl

/-! ## The running sums -/

section chunks

variable (V P : FVec Ideal S512x128 .f32) (f : Fin 128 → ℕ → EReal) (C : Fin 128 → EReal)
variable (hV : ∀ (i : Fin 512) (l : Fin 128), V (ix2 i l) = f l i.val) (hf : ∀ (l : Fin 128) (j : ℕ), f l j ≠ ⊤)

/-- The sum over the rows up to `r` of the chunk that starts at row `o`. -/
def csum (f : ℕ → EReal) (o r : ℕ) : EReal := ∑ k ∈ Finset.range (r + 1), f (o + k)

/-- What is carried into row `n` of the block. -/
def run (f : ℕ → EReal) (C : EReal) (n : ℕ) : EReal := C + ∑ k ∈ Finset.range n, f k

/-- What is carried from one chunk to the next: the running sum in the forget gates' lanes. -/
def kept (l : Fin 128) (z : EReal) : EReal := if 32 ≤ l.val ∧ l.val < 48 then z else 0

theorem run_step (f : ℕ → EReal) (C : EReal) (o r : ℕ) : csum f o r + run f C o = run f C (o + r + 1) := by
  unfold csum run
  rw [add_left_comm, sum_extend, add_assoc]

theorem run_lane (l : Fin 128) (hl : 32 ≤ l.val ∧ l.val < 48) (o r : ℕ) :
    csum (f l) o r + kept l (run (f l) (C l) o) = run (f l) (C l) (o + r + 1) := by
  unfold kept
  rw [if_pos hl, run_step]

theorem lane_congr (l : Fin 128) {x x' y y' z z' : EReal} (hx : x = x') (hy : y = y') (hz : 32 ≤ l.val ∧ l.val < 48 → z = z') :
    lane l x y z = lane l x' y' z' := by
  unfold lane
  rw [hx, hy]
  split
  · rfl
  · split
    · rfl
    · split
      · next h => exact hz h
      · rfl

include hV hf in
theorem sum1 (r l : Fin 128) : k0_pay20 V k0_pay15 (ix2 r l) = csum (f l) 128 r := by
  pointwise [k0_pay20]
  exact sum_rests _ _ r (tri r) (fun k => f l (128 + k)) (fun k => hV _ _) fun k => hf _ _

include hV hf in
theorem sum2 (r l : Fin 128) : k0_pay27 k0_pay15 (k0_pay24 V) (k0_pay25 V) (k0_pay26 V) (ix2 r l) = csum (f l) 256 r := by
  pointwise [k0_pay27, k0_pay26, k0_pay25, k0_pay24]
  exact sum_rests _ _ r (tri r) (fun k => f l (256 + k)) (fun k => hV _ _) fun k => hf _ _

include hV hf in
theorem sum3 (r l : Fin 128) : k0_pay30 V k0_pay15 (ix2 r l) = csum (f l) 384 r := by
  pointwise [k0_pay30]
  exact sum_rests _ _ r (tri r) (fun k => f l (384 + k)) (fun k => hV _ _) fun k => hf _ _

theorem carry_read (l : Fin 128) (z : EReal) : Scalar.select (if 32 ≤ l.val ∧ l.val < 48 then 1#1 else 0#1) z 0 = kept l z := select_bit _ _ _

theorem lanes_read (l : Fin 128) (x y z : EReal) :
    Scalar.select (if l.val < 16 then 1#1 else 0#1) x
      (Scalar.select (if 16 ≤ l.val ∧ l.val < 32 then 1#1 else 0#1) y (Scalar.select (if 32 ≤ l.val ∧ l.val < 48 then 1#1 else 0#1) z 0))
      = lane l x y z := by
  rw [select_bit, select_bit, select_bit]
  rfl

/-- The sums with what is carried in: after the first chunk, -/
abbrev Run0 (v85 : FVec Ideal S128x128 .f32) : Prop :=
  ∀ r l : Fin 128, 32 ≤ l.val ∧ l.val < 48 → v85 (ix2 r l) = run (f l) (C l) (r.val + 1)

include hV hf in
/-- the second, -/
theorem run1 (v85 : FVec Ideal S128x128 .f32) (h : Run0 f C v85) (r l : Fin 128) (hl : 32 ≤ l.val ∧ l.val < 48) :
    k0_pay21 k0_pay7 V k0_pay15 v85 (ix2 r l) = run (f l) (C l) (128 + r.val + 1) := by
  pointwise [k0_pay21, lane_forget]
  rw [carry_read, sum1 V f hV hf, h _ l hl]
  exact run_lane f C l hl 128 r

include hV hf in
theorem carry1 (v85 : FVec Ideal S128x128 .f32) (h : Run0 f C v85) (l : Fin 128) :
    k0_pay23 k0_pay7 V k0_pay15 v85 (ix2 0 l) = kept l (run (f l) (C l) 256) := by
  pointwise [k0_pay23, lane_forget]
  rw [carry_read]
  unfold kept
  split
  · next hl => exact run1 V f C hV hf v85 h _ l hl
  · rfl

include hV hf in
/-- the third, -/
theorem run2 (v130 : FVec Ideal S1x128 .f32) (h : ∀ l : Fin 128, v130 (ix2 0 l) = kept l (run (f l) (C l) 256)) (r l : Fin 128)
    (hl : 32 ≤ l.val ∧ l.val < 48) :
    k0_pay28 k0_pay15 v130 (k0_pay24 V) (k0_pay25 V) (k0_pay26 V) (ix2 r l) = run (f l) (C l) (256 + r.val + 1) := by
  pointwise [k0_pay28]
  rw [sum2 V f hV hf, h]
  exact run_lane f C l hl 256 r

include hV hf in
/-- and the fourth. -/
theorem run3 (v130 : FVec Ideal S1x128 .f32) (h : ∀ l : Fin 128, v130 (ix2 0 l) = kept l (run (f l) (C l) 256)) (r l : Fin 128)
    (hl : 32 ≤ l.val ∧ l.val < 48) :
    k0_pay31 k0_pay7 V k0_pay15 v130 (k0_pay24 V) (k0_pay25 V) (k0_pay26 V) (ix2 r l) = run (f l) (C l) (384 + r.val + 1) := by
  pointwise [k0_pay31, lane_forget]
  rw [carry_read, sum3 V f hV hf, run2 V f C hV hf v130 h _ l hl]
  exact run_lane f C l hl 384 r

/-! ## The stores -/

include hV hf in
theorem store1 (v85 : FVec Ideal S128x128 .f32) (h : Run0 f C v85) (r l : Fin 128) :
    k0_pay22 k0_pay5 k0_pay6 k0_pay7 P V k0_pay15 v85 (ix2 r l)
      = lane l (csum (f l) 128 r) (P (ix2 ⟨128 + r.val, by omega⟩ l)) (run (f l) (C l) (128 + r.val + 1)) := by
  pointwise [k0_pay22, lane_decay, lane_beta, lane_forget]
  rw [lanes_read]
  exact lane_congr l (sum1 V f hV hf r l) rfl (run1 V f C hV hf v85 h r l)

include hV hf in
theorem store2 (v130 : FVec Ideal S1x128 .f32) (h : ∀ l : Fin 128, v130 (ix2 0 l) = kept l (run (f l) (C l) 256)) (r l : Fin 128) :
    k0_pay29 k0_pay5 k0_pay6 k0_pay7 P k0_pay15 v130 (k0_pay24 V) (k0_pay25 V) (k0_pay26 V) (ix2 r l)
      = lane l (csum (f l) 256 r) (P (ix2 ⟨256 + r.val, by omega⟩ l)) (run (f l) (C l) (256 + r.val + 1)) := by
  pointwise [k0_pay29, lane_decay, lane_beta, lane_forget]
  rw [lanes_read]
  exact lane_congr l (sum2 V f hV hf r l) rfl (run2 V f C hV hf v130 h r l)

include hV hf in
theorem store3 (v130 : FVec Ideal S1x128 .f32) (h : ∀ l : Fin 128, v130 (ix2 0 l) = kept l (run (f l) (C l) 256)) (r l : Fin 128) :
    k0_pay1 k0_pay5 (k0_pay30 V k0_pay15) (k0_pay32 P) (k0_pay33 k0_pay7 V k0_pay15 v130 (k0_pay24 V) (k0_pay25 V) (k0_pay26 V))
        (k0_pay34 k0_pay6) (ix2 r l)
      = lane l (csum (f l) 384 r) (P (ix2 ⟨384 + r.val, by omega⟩ l)) (run (f l) (C l) (384 + r.val + 1)) := by
  pointwise [k0_pay1, k0_pay32, k0_pay33, k0_pay34, lane_decay, lane_beta, lane_forget]
  rw [lanes_read]
  exact lane_congr l (sum3 V f hV hf r l) rfl (run3 V f C hV hf v130 h r l)

include hV hf in
theorem carry3 (v130 : FVec Ideal S1x128 .f32) (h : ∀ l : Fin 128, v130 (ix2 0 l) = kept l (run (f l) (C l) 256)) (l : Fin 128) :
    k0_pay2 k0_pay7 (k0_pay31 k0_pay7 V k0_pay15 v130 (k0_pay24 V) (k0_pay25 V) (k0_pay26 V)) (ix2 0 l) = kept l (run (f l) (C l) 512) := by
  pointwise [k0_pay2, lane_forget]
  rw [carry_read]
  unfold kept
  split
  · next hl => exact run3 V f C hV hf v130 h _ l hl
  · rfl

end chunks

section first

variable (v7 v33 v36 : FVec Ideal S512x128 .f32) (v26 v29 v70 : FVec Ideal S1x128 .f32) (f : Fin 128 → ℕ → EReal) (C : Fin 128 → EReal)
variable (hV : ∀ (i : Fin 512) (l : Fin 128), k0_pay14 v7 k0_pay5 k0_pay7 v26 v29 v33 v36 (ix2 i l) = f l i.val)
variable (hf : ∀ (l : Fin 128) (j : ℕ), f l j ≠ ⊤)

include hV hf in
theorem sum0 (r l : Fin 128) : k0_pay16 v7 k0_pay5 k0_pay7 v26 v29 v33 v36 (ix2 r l) = csum (f l) 0 r := by
  pointwise [k0_pay16]
  exact sum_rests _ _ r (tri r) (fun k => f l (0 + k)) (fun k => (hV _ _).trans (congrArg (f l) (Nat.zero_add _).symm)) fun k => hf _ _

include hV hf in
theorem run0 (h : ∀ l : Fin 128, v70 (ix2 0 l) = kept l (C l)) : Run0 f C (k0_pay17 v7 k0_pay5 k0_pay7 v26 v29 v33 v36 v70) := by
  intro r l hl
  pointwise [k0_pay17]
  rw [sum0 v7 v33 v36 v26 v29 f hV hf, h]
  have e := run_lane f C l hl 0 r
  rw [show run (f l) (C l) 0 = C l from by unfold run; simp, Nat.zero_add] at e
  exact e

include hV hf in
theorem store0 (h : ∀ l : Fin 128, v70 (ix2 0 l) = kept l (C l)) (r l : Fin 128) :
    k0_pay19 k0_pay5 k0_pay6 k0_pay7 (k0_pay16 v7 k0_pay5 k0_pay7 v26 v29 v33 v36) (k0_pay17 v7 k0_pay5 k0_pay7 v26 v29 v33 v36 v70)
        (k0_pay18 v7) (ix2 r l)
      = lane l (csum (f l) 0 r) (k0_pay13 v7 (ix2 ⟨r.val, by omega⟩ l)) (run (f l) (C l) (r.val + 1)) := by
  pointwise [k0_pay19, k0_pay18, lane_decay, lane_beta, lane_forget]
  rw [lanes_read]
  exact lane_congr l (sum0 v7 v33 v36 v26 v29 f hV hf r l) rfl (run0 v7 v33 v36 v26 v29 v70 f C hV hf h r l)

end first

end Cert.Gates

end
-- ==== Proof.GatePoint.lean ====
/- What one point of the gates' grid leaves behind: its 512 rows of the result, and the row it carries to the next point. -/
module

public import proofs.«01_k».proof.Proof.GateBody

@[expose] public section

set_option maxRecDepth 16384
set_option maxHeartbeats 1000000

noncomputable section

namespace Cert.Gates

open Idealize.ShloMosaic Idealize.ShloMosaic.TcCoe Cert.Layer Cert.Kernel6Ideal Cert.Kernel6Ideal.Gen

/-! ## The four chunks of the block -/

/-- The writes to the block, the last one first. -/
abbrev Writes := List (View.Piece (Elt Ideal) S512x128 .f32)

theorem canon_hit (o : ℕ) (ho : ∀ a, (![o, 0] : Fin 2 → ℕ) a + S128x128.size a ≤ S512x128.size a) (v : FVec Ideal S128x128 .f32) (L : Writes)
    (i : Fin 512) (r l : Fin 128) (hi : i.val = o + r.val) :
    View.canon (⟨Rect.unit (s := S512x128) ![o, 0] S128x128.size ho, v⟩ :: L) (ix2 i l) = v (ix2 r l) := by
  have e : (ix2 i l : S512x128.Idx) = (Rect.unit (s := S512x128) ![o, 0] S128x128.size ho).emb (ix2 r l) := by
    funext a
    apply Fin.ext
    match a with
    | ⟨0, _⟩ => show i.val = o + 1 * r.val; omega
    | ⟨1, _⟩ => show l.val = 0 + 1 * l.val; omega
  rw [e]
  exact View.canon_cons_emb (Rect.unit (s := S512x128) ![o, 0] S128x128.size ho) v L _

theorem canon_miss (o : ℕ) (ho : ∀ a, (![o, 0] : Fin 2 → ℕ) a + S128x128.size a ≤ S512x128.size a) (v : FVec Ideal S128x128 .f32) (L : Writes)
    (i : Fin 512) (l : Fin 128) (hi : i.val < o ∨ o + 128 ≤ i.val) :
    View.canon (⟨Rect.unit (s := S512x128) ![o, 0] S128x128.size ho, v⟩ :: L) (ix2 i l) = View.canon L (ix2 i l) := by
  rw [View.canon_cons]
  refine Rect.overlay_of_not_mem _ _ _ fun h => ?_
  obtain ⟨k, hk, he⟩ := (Rect.unit (s := S512x128) ![o, 0] S128x128.size ho).mem_set.mp h 0
  have hk' : k < 128 := hk
  have he' : i.val = o + 1 * k := he
  omega

section body

variable (h : Vec Ideal S512x4096 .bf16) (w : Vec Ideal S4096x128 .bf16) (a d b c0 : Vec Ideal S1x128 .f32)

/-- The values of the block, -/
abbrev vs : FVec Ideal S512x128 .f32 := k0_pay14 (k0_pay4 h w) k0_pay5 k0_pay7 (k0_pay8 b) (k0_pay9 a) (k0_pay11 h w d) (k0_pay12 h w d)
/-- the first chunk's sums with what is carried in, -/
abbrev r0 : FVec Ideal S128x128 .f32 :=
  k0_pay17 (k0_pay4 h w) k0_pay5 k0_pay7 (k0_pay8 b) (k0_pay9 a) (k0_pay11 h w d) (k0_pay12 h w d) c0
/-- what the second chunk carries out, -/
abbrev c2 : FVec Ideal S1x128 .f32 := k0_pay23 k0_pay7 (vs h w a d b) k0_pay15 (r0 h w a d b c0)

/-- the four chunks stored, -/
def stores : Writes :=
  [⟨Rect.unit ![384, 0] S128x128.size inb_S512x128_S128x128_384_0,
      k0_pay1 k0_pay5 (k0_pay30 (vs h w a d b) k0_pay15) (k0_pay32 (k0_pay13 (k0_pay4 h w)))
        (k0_pay33 k0_pay7 (vs h w a d b) k0_pay15 (c2 h w a d b c0) (k0_pay24 (vs h w a d b)) (k0_pay25 (vs h w a d b)) (k0_pay26 (vs h w a d b)))
        (k0_pay34 k0_pay6)⟩,
    ⟨Rect.unit ![256, 0] S128x128.size inb_S512x128_S128x128_256_0,
      k0_pay29 k0_pay5 k0_pay6 k0_pay7 (k0_pay13 (k0_pay4 h w)) k0_pay15 (c2 h w a d b c0) (k0_pay24 (vs h w a d b)) (k0_pay25 (vs h w a d b))
        (k0_pay26 (vs h w a d b))⟩,
    ⟨Rect.unit ![128, 0] S128x128.size inb_S512x128_S128x128_128_0,
      k0_pay22 k0_pay5 k0_pay6 k0_pay7 (k0_pay13 (k0_pay4 h w)) (vs h w a d b) k0_pay15 (r0 h w a d b c0)⟩,
    ⟨Rect.unit ![0, 0] S128x128.size inb_S512x128_S128x128_0_0,
      k0_pay19 k0_pay5 k0_pay6 k0_pay7
        (k0_pay16 (k0_pay4 h w) k0_pay5 k0_pay7 (k0_pay8 b) (k0_pay9 a) (k0_pay11 h w d) (k0_pay12 h w d)) (r0 h w a d b c0)
        (k0_pay18 (k0_pay4 h w))⟩]

/-- and the row carried out of the block. -/
def last : FVec Ideal S1x128 .f32 :=
  k0_pay2 k0_pay7
    (k0_pay31 k0_pay7 (vs h w a d b) k0_pay15 (c2 h w a d b c0) (k0_pay24 (vs h w a d b)) (k0_pay25 (vs h w a d b)) (k0_pay26 (vs h w a d b)))

variable (f : Fin 128 → ℕ → EReal) (C : Fin 128 → EReal)
variable (hV : ∀ (i : Fin 512) (l : Fin 128), val l (k0_pay4 h w (ix2 i l)) (a (ix2 0 l)) (d (ix2 0 l)) (b (ix2 0 l)) = f l i.val)
variable (hf : ∀ (l : Fin 128) (j : ℕ), f l j ≠ ⊤) (hC : ∀ l : Fin 128, c0 (ix2 0 l) = kept l (C l))

include hV hf hC in
theorem last_at (l : Fin 128) : last h w a d b c0 (ix2 0 l) = kept l (run (f l) (C l) 512) := by
  have hvs : ∀ (i : Fin 512) (l : Fin 128), vs h w a d b (ix2 i l) = f l i.val := fun i l => (vals h w a d b i l).trans (hV i l)
  have h0 := run0 _ _ _ _ _ c0 f C hvs hf hC
  exact carry3 _ f C hvs hf _ (carry1 _ f C hvs hf _ h0) l

include hV hf hC in
theorem stores_at (i : Fin 512) (l : Fin 128) :
    View.canon (stores h w a d b c0) (ix2 i l)
      = lane l (csum (f l) (i.val / 128 * 128) (i.val % 128)) (Ideal.logistic (k0_pay4 h w (ix2 i l))) (run (f l) (C l) (i.val + 1)) := by
  have hvs : ∀ (i : Fin 512) (l : Fin 128), vs h w a d b (ix2 i l) = f l i.val := fun i l => (vals h w a d b i l).trans (hV i l)
  have h0 := run0 _ _ _ _ _ c0 f C hvs hf hC
  have h2 := carry1 _ f C hvs hf _ h0
  have hi := i.isLt
  obtain ⟨q, r, hr, e⟩ : ∃ (q : ℕ) (r : Fin 128), q < 4 ∧ i.val = q * 128 + r.val :=
    ⟨i.val / 128, ⟨i.val % 128, by omega⟩, by omega, by show i.val = i.val / 128 * 128 + i.val % 128; omega⟩
  have eq : i.val / 128 * 128 = q * 128 := by omega
  have er : i.val % 128 = r.val := by omega
  have hlog : ∀ j : Fin 512, j = i → k0_pay13 (k0_pay4 h w) (ix2 j l) = Ideal.logistic (k0_pay4 h w (ix2 i l)) := by
    rintro j rfl
    pointwise [k0_pay13]
  rw [eq, er]
  unfold stores
  match q, hr with
  | 3, _ =>
    rw [canon_hit 384 _ _ _ i r l (by omega), store3 _ _ f C hvs hf _ h2]
    exact lane_congr l rfl (hlog _ (Fin.ext (by show 384 + r.val = i.val; omega))) fun _ => by rw [e]
  | 2, _ =>
    rw [canon_miss 384 _ _ _ i l (by omega), canon_hit 256 _ _ _ i r l (by omega), store2 _ _ f C hvs hf _ h2]
    exact lane_congr l rfl (hlog _ (Fin.ext (by show 256 + r.val = i.val; omega))) fun _ => by rw [e]
  | 1, _ =>
    rw [canon_miss 384 _ _ _ i l (by omega), canon_miss 256 _ _ _ i l (by omega), canon_hit 128 _ _ _ i r l (by omega),
      store1 _ _ f C hvs hf _ h0]
    exact lane_congr l rfl (hlog _ (Fin.ext (by show 128 + r.val = i.val; omega))) fun _ => by rw [e]
  | 0, _ =>
    rw [canon_miss 384 _ _ _ i l (by omega), canon_miss 256 _ _ _ i l (by omega), canon_miss 128 _ _ _ i l (by omega),
      canon_hit 0 _ _ _ i r l (by omega), store0 _ _ _ _ _ c0 f C hvs hf hC]
    exact lane_congr l (by rw [Nat.zero_mul]) (hlog _ (Fin.ext (by show r.val = i.val; omega))) fun _ => by rw [e, Nat.zero_mul, Nat.zero_add]

end body

/-! ## The point -/

section point

variable (m : (ℓ : Loc nD τ sig) → Buf (Elt Ideal) ℓ) (c : Dev nD)

/-- What the point before carried to point `t`: nothing to the first. -/
def before (t : Fin cfg0.N) : Vec Ideal S1x128 .f32 :=
  if t.val = 0 then fun _ => 0 else (outsAt0 m c (t.val - 1) (Nat.lt_of_le_of_lt (Nat.sub_le _ _) t.isLt)).2

theorem rd_h (M : Memref sig .tc .vmem S512x4096 .bf16) (hM : M.IsWhole) (x : Vec Ideal S512x4096 .bf16) :
    View.readAt (Elt Ideal) M.view (Rect.unit ![0, 0] S512x4096.size inb_S512x4096_S512x4096_0_0).toLoadRect (hM.unread x) = x := by
  funext y
  rw [View.readAt_apply, hM.read_unread]
  exact congrFun (View.ld_unit_lit _ _ (by decide)) _

theorem rd_w (M : Memref sig .tc .vmem S4096x128 .bf16) (hM : M.IsWhole) (x : Vec Ideal S4096x128 .bf16) :
    View.readAt (Elt Ideal) M.view (Rect.unit ![0, 0] S4096x128.size inb_S4096x128_S4096x128_0_0).toLoadRect (hM.unread x) = x := by
  funext y
  rw [View.readAt_apply, hM.read_unread]
  exact congrFun (View.ld_unit_lit _ _ (by decide)) _

theorem rd_c (M : Memref sig .tc .vmem S1x128 .f32) (hM : M.IsWhole) (x : Vec Ideal S1x128 .f32) :
    View.readAt (Elt Ideal) M.view (Rect.unit ![0, 0] S1x128.size inb_S1x128_S1x128_0_0).toLoadRect (hM.unread x) = x := by
  funext y
  rw [View.readAt_apply, hM.read_unread]
  exact congrFun (View.ld_unit_lit _ _ (by decide)) _

/-- Row `r` of a table. -/
def prow (x : Vec Ideal S8x128 .f32) (r : Fin 8) : Vec Ideal S1x128 .f32 := fun y => x (ix2 r (y 1))

theorem rd_p (M : Memref sig .tc .vmem S8x128 .f32) (hM : M.IsWhole) (x : Vec Ideal S8x128 .f32) (o : ℕ) (r : Fin 8) (hr : r.val = o)
    (ho : ∀ a, (![o, 0] : Fin 2 → ℕ) a + S1x128.size a ≤ S8x128.size a) :
    View.readAt (Elt Ideal) M.view (Rect.unit (s := S8x128) ![o, 0] S1x128.size ho).toLoadRect (hM.unread x) = prow x r := by
  funext y
  rw [View.readAt_apply, hM.read_unread]
  idx_vars y
  obtain rfl : y0 = 0 := Subsingleton.elim _ _
  unfold prow
  congr 1
  funext a
  apply Fin.ext
  match a with
  | ⟨0, _⟩ => show o + 1 * 0 = r.val; omega
  | ⟨1, _⟩ => show 0 + 1 * y1.val = y1.val; omega

section runs

variable (i : grid0.Coords) (M1 : Memref sig .tc .vmem S512x4096 .bf16) (h1 : M1.IsWhole) (M2 : Memref sig .tc .vmem S4096x128 .bf16) (h2 : M2.IsWhole)
variable (M3 : Memref sig .tc .vmem S8x128 .f32) (h3 : M3.IsWhole) (M4 : Memref sig .tc .vmem S512x128 .f32) (h4 : M4.IsWhole)
variable (M5 : Memref sig .tc .vmem S1x128 .f32) (h5 : M5.IsWhole)
variable (x0 : Vec Ideal S512x4096 .bf16) (x1 : Vec Ideal S4096x128 .bf16) (x2 : Vec Ideal S8x128 .f32) (xs : Vec Ideal S1x128 .f32)

theorem stored_B (hc : ¬cond0_0 i) :
    (kernelRun0_B c i M1 h1 M2 h2 M3 h3 M4 h4 M5 h5 hc x0 x1 x2 xs).1 = stores x0 x1 (prow x2 0) (prow x2 1) (prow x2 2) xs := by
  have e : (kernelRun0_B c i M1 h1 M2 h2 M3 h3 M4 h4 M5 h5 hc x0 x1 x2 xs).1
      = stores (View.readAt (Elt Ideal) M1.view (Rect.unit ![0, 0] S512x4096.size inb_S512x4096_S512x4096_0_0).toLoadRect (h1.unread x0))
          (View.readAt (Elt Ideal) M2.view (Rect.unit ![0, 0] S4096x128.size inb_S4096x128_S4096x128_0_0).toLoadRect (h2.unread x1))
          (View.readAt (Elt Ideal) M3.view (Rect.unit (s := S8x128) ![0, 0] S1x128.size inb_S8x128_S1x128_0_0).toLoadRect (h3.unread x2))
          (View.readAt (Elt Ideal) M3.view (Rect.unit (s := S8x128) ![1, 0] S1x128.size inb_S8x128_S1x128_1_0).toLoadRect (h3.unread x2))
          (View.readAt (Elt Ideal) M3.view (Rect.unit (s := S8x128) ![2, 0] S1x128.size inb_S8x128_S1x128_2_0).toLoadRect (h3.unread x2))
          (View.readAt (Elt Ideal) M5.view (Rect.unit ![0, 0] S1x128.size inb_S1x128_S1x128_0_0).toLoadRect (h5.unread xs)) := by
    unfold kernelRun0_B stores c2 r0 vs
    dsimp only
    simp only [kernelRun0_B.sl.r, kernelRun0_B.sl.r_1, kernelRun0_B.sl.r_2, kernelRun0_B.sl.r_3, kernelRun0_B.sl.r_4, kernelRun0_B.sl.r_5,
      kernelRun0_B.sl.r_6, kernelRun0_B.sl.r_7, kernelRun0_B.sl.r_8, kernelRun0_B.sl.r_9, kernelRun0_B.sl.r_10, kernelRun0_B.sl.r_11,
      kernelRun0_B.sl.r_12, kernelRun0_B.sl.r_13, kernelRun0_B.sl.r_14, kernelRun0_B.sl.r_15, kernelRun0_B.sl.r_16, kernelRun0_B.sl.r_17]
  rw [e, rd_h, rd_w, rd_c, rd_p M3 h3 x2 0 0 rfl, rd_p M3 h3 x2 1 1 rfl, rd_p M3 h3 x2 2 2 rfl]

theorem kept_B (hc : ¬cond0_0 i) :
    View.canon (kernelRun0_B c i M1 h1 M2 h2 M3 h3 M4 h4 M5 h5 hc x0 x1 x2 xs).2.1 = last x0 x1 (prow x2 0) (prow x2 1) (prow x2 2) xs := by
  have e : View.canon (kernelRun0_B c i M1 h1 M2 h2 M3 h3 M4 h4 M5 h5 hc x0 x1 x2 xs).2.1
      = last (View.readAt (Elt Ideal) M1.view (Rect.unit ![0, 0] S512x4096.size inb_S512x4096_S512x4096_0_0).toLoadRect (h1.unread x0))
          (View.readAt (Elt Ideal) M2.view (Rect.unit ![0, 0] S4096x128.size inb_S4096x128_S4096x128_0_0).toLoadRect (h2.unread x1))
          (View.readAt (Elt Ideal) M3.view (Rect.unit (s := S8x128) ![0, 0] S1x128.size inb_S8x128_S1x128_0_0).toLoadRect (h3.unread x2))
          (View.readAt (Elt Ideal) M3.view (Rect.unit (s := S8x128) ![1, 0] S1x128.size inb_S8x128_S1x128_1_0).toLoadRect (h3.unread x2))
          (View.readAt (Elt Ideal) M3.view (Rect.unit (s := S8x128) ![2, 0] S1x128.size inb_S8x128_S1x128_2_0).toLoadRect (h3.unread x2))
          (View.readAt (Elt Ideal) M5.view (Rect.unit ![0, 0] S1x128.size inb_S1x128_S1x128_0_0).toLoadRect (h5.unread xs)) := by
    unfold kernelRun0_B last c2 r0 vs
    dsimp only
    rw [View.canon_cons_unit_lit _ _ _ (by decide)]
    simp only [
      kernelRun0_B.sl.r, kernelRun0_B.sl.r_1, kernelRun0_B.sl.r_2, kernelRun0_B.sl.r_3, kernelRun0_B.sl.r_4, kernelRun0_B.sl.r_5,
      kernelRun0_B.sl.r_6, kernelRun0_B.sl.r_7, kernelRun0_B.sl.r_8, kernelRun0_B.sl.r_9, kernelRun0_B.sl.r_10, kernelRun0_B.sl.r_11,
      kernelRun0_B.sl.r_12, kernelRun0_B.sl.r_13, kernelRun0_B.sl.r_14, kernelRun0_B.sl.r_15, kernelRun0_B.sl.r_16, kernelRun0_B.sl.r_17]
  rw [e, rd_h, rd_w, rd_c, rd_p M3 h3 x2 0 0 rfl, rd_p M3 h3 x2 1 1 rfl, rd_p M3 h3 x2 2 2 rfl]

/-- The first point's row: zeros, stored and read back. -/
theorem v70_A : kernelRun0_A.sl.v70 (F := Ideal) c M5 = fun _ => 0 := by
  funext y
  unfold kernelRun0_A.sl.v70 kernelRun0_A.sl.HS0_1
  rw [View.readCov_eq_canon', View.canon_cons_unit_lit _ _ _ (by decide)]
  have z : ∀ y : S1x128.Idx, k0_pay3 (F := Ideal) y = 0 := by
    intro y
    idx_vars y
    pointwise [k0_pay3]
  exact z _

theorem stored_A (hc : cond0_0 i) :
    (kernelRun0_A c i M1 h1 M2 h2 M3 h3 M4 h4 M5 h5 hc x0 x1 x2).1
      = stores x0 x1 (prow x2 0) (prow x2 1) (prow x2 2) fun _ => 0 := by
  have e : (kernelRun0_A c i M1 h1 M2 h2 M3 h3 M4 h4 M5 h5 hc x0 x1 x2).1
      = stores (View.readAt (Elt Ideal) M1.view (Rect.unit ![0, 0] S512x4096.size inb_S512x4096_S512x4096_0_0).toLoadRect (h1.unread x0))
          (View.readAt (Elt Ideal) M2.view (Rect.unit ![0, 0] S4096x128.size inb_S4096x128_S4096x128_0_0).toLoadRect (h2.unread x1))
          (View.readAt (Elt Ideal) M3.view (Rect.unit (s := S8x128) ![0, 0] S1x128.size inb_S8x128_S1x128_0_0).toLoadRect (h3.unread x2))
          (View.readAt (Elt Ideal) M3.view (Rect.unit (s := S8x128) ![1, 0] S1x128.size inb_S8x128_S1x128_1_0).toLoadRect (h3.unread x2))
          (View.readAt (Elt Ideal) M3.view (Rect.unit (s := S8x128) ![2, 0] S1x128.size inb_S8x128_S1x128_2_0).toLoadRect (h3.unread x2))
          (kernelRun0_A.sl.v70 (F := Ideal) c M5) := by
    unfold kernelRun0_A stores c2 r0 vs
    dsimp only
    simp only [
      kernelRun0_A.sl.r, kernelRun0_A.sl.r_1, kernelRun0_A.sl.r_2, kernelRun0_A.sl.r_3, kernelRun0_A.sl.r_4, kernelRun0_A.sl.r_5,
      kernelRun0_A.sl.r_6, kernelRun0_A.sl.r_7, kernelRun0_A.sl.r_8, kernelRun0_A.sl.r_9, kernelRun0_A.sl.r_10, kernelRun0_A.sl.r_11,
      kernelRun0_A.sl.r_12, kernelRun0_A.sl.r_13, kernelRun0_A.sl.r_14, kernelRun0_A.sl.r_15, kernelRun0_A.sl.r_16, kernelRun0_A.sl.r_17]
  rw [e, v70_A, rd_h, rd_w, rd_p M3 h3 x2 0 0 rfl, rd_p M3 h3 x2 1 1 rfl, rd_p M3 h3 x2 2 2 rfl]
  rfl

theorem kept_A (hc : cond0_0 i) :
    View.canon (kernelRun0_A c i M1 h1 M2 h2 M3 h3 M4 h4 M5 h5 hc x0 x1 x2).2.1
      = last x0 x1 (prow x2 0) (prow x2 1) (prow x2 2) fun _ => 0 := by
  have e : View.canon (kernelRun0_A c i M1 h1 M2 h2 M3 h3 M4 h4 M5 h5 hc x0 x1 x2).2.1
      = last (View.readAt (Elt Ideal) M1.view (Rect.unit ![0, 0] S512x4096.size inb_S512x4096_S512x4096_0_0).toLoadRect (h1.unread x0))
          (View.readAt (Elt Ideal) M2.view (Rect.unit ![0, 0] S4096x128.size inb_S4096x128_S4096x128_0_0).toLoadRect (h2.unread x1))
          (View.readAt (Elt Ideal) M3.view (Rect.unit (s := S8x128) ![0, 0] S1x128.size inb_S8x128_S1x128_0_0).toLoadRect (h3.unread x2))
          (View.readAt (Elt Ideal) M3.view (Rect.unit (s := S8x128) ![1, 0] S1x128.size inb_S8x128_S1x128_1_0).toLoadRect (h3.unread x2))
          (View.readAt (Elt Ideal) M3.view (Rect.unit (s := S8x128) ![2, 0] S1x128.size inb_S8x128_S1x128_2_0).toLoadRect (h3.unread x2))
          (kernelRun0_A.sl.v70 (F := Ideal) c M5) := by
    unfold kernelRun0_A last c2 r0 vs
    dsimp only
    rw [View.canon_cons_unit_lit _ _ _ (by decide)]
    simp only [
      kernelRun0_A.sl.r, kernelRun0_A.sl.r_1, kernelRun0_A.sl.r_2, kernelRun0_A.sl.r_3, kernelRun0_A.sl.r_4, kernelRun0_A.sl.r_5,
      kernelRun0_A.sl.r_6, kernelRun0_A.sl.r_7, kernelRun0_A.sl.r_8, kernelRun0_A.sl.r_9, kernelRun0_A.sl.r_10, kernelRun0_A.sl.r_11,
      kernelRun0_A.sl.r_12, kernelRun0_A.sl.r_13, kernelRun0_A.sl.r_14, kernelRun0_A.sl.r_15, kernelRun0_A.sl.r_16, kernelRun0_A.sl.r_17]
  rw [e, v70_A, rd_h, rd_w, rd_p M3 h3 x2 0 0 rfl, rd_p M3 h3 x2 1 1 rfl, rd_p M3 h3 x2 2 2 rfl]
  rfl

end runs

theorem out_eq (t : Fin cfg0.N) :
    (outsAt0 m c t.val t.isLt).1
      = View.canon (stores (iblk m c 0 t) (iblk m c 1 t) (prow (iblk m c 2 t) 0) (prow (iblk m c 2 t) 1) (prow (iblk m c 2 t) 2) (before m c t)) := by
  have hN := lt_of_lt_of_eq t.isLt (show cfg0.N = 16 from N_0)
  by_cases h0 : t.val = 0
  · rw [outsAt0_A m c t (by omega), show before m c t = fun _ => 0 from if_pos h0]
    dsimp only
    unfold out0_A_3
    rw [View.read_writes_junk_eq_canon, stored_A]
  · rw [outsAt0_B m c t (by omega), show before m c t = _ from if_neg h0]
    dsimp only
    unfold out0_B_3
    rw [View.read_writes_junk_eq_canon, stored_B]

theorem last_eq (t : Fin cfg0.N) :
    (outsAt0 m c t.val t.isLt).2
      = last (iblk m c 0 t) (iblk m c 1 t) (prow (iblk m c 2 t) 0) (prow (iblk m c 2 t) 1) (prow (iblk m c 2 t) 2) (before m c t) := by
  have hN := lt_of_lt_of_eq t.isLt (show cfg0.N = 16 from N_0)
  by_cases h0 : t.val = 0
  · rw [outsAt0_A m c t (by omega), show before m c t = fun _ => 0 from if_pos h0]
    dsimp only
    unfold sout0_A_0
    rw [View.read_writes_junk_eq_canon, kept_A]
  · rw [outsAt0_B m c t (by omega), show before m c t = _ from if_neg h0]
    dsimp only
    unfold sout0_B_0
    rw [View.read_writes_junk_eq_canon, kept_B]

end point

end Cert.Gates

end
-- ==== Proof.GateHost.lean ====
/- What the gates' kernel is called with: the gate columns of the input projection side by side, and the table of the lanes' parameters. -/
module

public import proofs.«01_k».proof.Proof.GatePoint
public import Idealize.ShloMosaic.Lib.StableHlo.ReadAt
public import Idealize.ShloMosaic.Lib.Routing.OpsOne
public import Idealize.ShloMosaic.Lib.WordArith

@[expose] public section

set_option maxRecDepth 16384
set_option maxHeartbeats 1000000

noncomputable section

namespace Cert.Gates

open Idealize.ShloMosaic Idealize.ShloMosaic.TcCoe Cert.Layer Cert.Kernel6Ideal Cert.Kernel6Ideal.Gen

/-! ## A row of a matrix, set in part -/

open Routing in
/-- Update `k` of a row's part lands at the row the first index word names and the column `k` past the second. -/
theorem lands_row {R C U w : ℕ} (d : ScatterDims (shape2 R C) (shape1 2) (shape1 U)) (hiw : d.insertedWindowDims = [0])
    (hsd : d.scatterDimsToOperandDims = [0, 1]) (hivd : d.indexVectorDim = 0) (idx : IVec (shape1 2) w) (k : Fin U) (r : Fin R) (c : Fin C) :
    d.resultIdx? (ValueIdx.ix1 k) idx = some (ValueIdx.ix2 r c)
      ↔ (idx (ValueIdx.ix1 (0 : Fin 2))).toInt = r.val ∧ (idx (ValueIdx.ix1 (1 : Fin 2))).toInt + (k.val : Int) = c.val := by
  have e1 : d.window (ValueIdx.ix1 k) 1 = k.val := by
    have hk : d.sKept = [1] := by
      show (shape2 R C).kept d.insertedWindowDims = _
      rw [hiw]
      rfl
    unfold ScatterDims.window
    rw [dif_pos (by rw [hk]; simp)]
    exact congrArg (fun t => ((ValueIdx.ix1 k : (shape1 U).Idx) t).val) (Subsingleton.elim (α := Fin 1) _ 0)
  have e0 : d.window (ValueIdx.ix1 k) 0 = 0 := by
    unfold ScatterDims.window
    rw [dif_neg fun h => (of_decide_eq_true (List.mem_filter.1 h).2) (by rw [hiw]; simp)]
  rw [resultIdx?_ix2, start_pair d hsd hivd, start_pair d hsd hivd, e0, e1]
  omega

open Routing in
/-- A row's part from column `o` on, set to `v`. -/
theorem set_row {R C U w : ℕ} (d : ScatterDims (shape2 R C) (shape1 2) (shape1 U)) (hiw : d.insertedWindowDims = [0])
    (hsd : d.scatterDimsToOperandDims = [0, 1]) (hivd : d.indexVectorDim = 0) (x : (shape2 R C).Idx → EReal) (idx : IVec (shape1 2) w)
    (v : (shape1 U).Idx → EReal) (q o : ℕ) (hq : (idx (ValueIdx.ix1 (0 : Fin 2))).toInt = q) (ho : (idx (ValueIdx.ix1 (1 : Fin 2))).toInt = o) (r : Fin R) (c : Fin C) :
    Host.scatter d (fun _ b => b) x idx v (ValueIdx.ix2 r c)
      = if h : r.val = q ∧ o ≤ c.val ∧ c.val - o < U then v (ValueIdx.ix1 ⟨c.val - o, h.2.2⟩) else x (ValueIdx.ix2 r c) := by
  have key : ∀ k : (shape1 U).Idx, d.resultIdx? k idx = some (ValueIdx.ix2 r c) → r.val = q ∧ o + (k 0).val = c.val := by
    intro k hk
    have h := (lands_row d hiw hsd hivd idx (k 0) r c).1 ((congrArg (fun t => d.resultIdx? t idx) (ValueIdx.eq_ix1 k).symm).trans hk)
    rw [hq, ho] at h
    omega
  by_cases h : r.val = q ∧ o ≤ c.val ∧ c.val - o < U
  · rw [dif_pos h]
    refine scatter_set_hit d x idx v _ _ (fun k hk => ?_) (ValueIdx.ix1 ⟨c.val - o, h.2.2⟩) ((lands_row d hiw hsd hivd idx _ r c).2 ⟨?_, ?_⟩)
    · have e := (key k hk).2
      rw [ValueIdx.eq_ix1 k]
      exact congrArg (fun e => v (ValueIdx.ix1 e)) (Fin.ext (by show (k 0).val = c.val - o; omega))
    · rw [hq, h.1]
    · rw [ho]
      show (o : ℤ) + ((c.val - o : ℕ) : ℤ) = c.val
      omega
  · rw [dif_neg h]
    refine scatter_set_miss d x idx v _ fun k hk => h ?_
    obtain ⟨e0, e1⟩ := key k hk
    have hlt : (k 0).val < U := (k 0).isLt
    exact ⟨e0, by omega, by omega⟩

variable (m : (ℓ : Loc nD τ sig) → Buf (Elt Ideal) ℓ) (c : Dev nD)

theorem at_h (i : Fin 8192) (k : Fin 4096) : V m c main_v22 (ix2 i k) = m ((c : Thread nD τ).loc main_arg0) (ix2 i k) := by
  unfold V hostOps0
  after_reads_at

/-- The gate columns side by side, eighty columns of zeros after them. -/
def wcat (x : FVec Ideal S1x4096x14384 .f32) : FVec Ideal S4096x128 .f32 :=
  concatenate S4096x128 1
    [⟨S4096x32, extractStridedSlice S4096x32 ![0, 8192] (shapeCast S4096x14384 x shapeCasts_S1x4096x14384_S4096x14384) slices_S4096x14384_S4096x32_0_8192⟩,
      ⟨S4096x16, extractStridedSlice S4096x16 ![0, 14368] (shapeCast S4096x14384 x shapeCasts_S1x4096x14384_S4096x14384) slices_S4096x14384_S4096x16_0_14368⟩,
      ⟨S4096x80, broadcastInDim S4096x80 ![] bcast_S_S4096x80 (constant S_ FTy.f32 0#32)⟩] concatenates_S4096x32_S4096x16_S4096x80_S4096x128_d1

theorem w_eq : V m c main_v5 = wcat (m ((c : Thread nD τ).loc main_arg1)) := by
  unfold V hostOps0
  after_reads_simp
  rfl

/-- The column of the input projection behind a lane. -/
def col (l : ℕ) : Fin 14384 := if h : l < 32 then ⟨8192 + l, by omega⟩ else ⟨14368 + (l - 32) % 16, by omega⟩

theorem wcat_at (x : FVec Ideal S1x4096x14384 .f32) (k : Fin 4096) (l : Fin 128) (hl : l.val < 48) : wcat x (ix2 k l) = x (ix3 0 k (col l)) := by
  pointwise [wcat]
  unfold col
  by_cases h : l.val < 32
  · rw [dif_pos h, dif_pos h]
  · rw [dif_neg h, dif_neg h, dif_pos (show l.val - 32 < 16 by omega)]
    congr 2
    apply Fin.ext
    show 14368 + (l.val - 32) = 14368 + (l.val - 32) % 16
    omega

/-- A row's number and the column from which it is set. -/
def pair (r o : ℕ) : IVec S2 32 :=
  concatenate S2 0 [⟨S1, broadcastInDim S1 ![] bcast_S_S1 (constantI S_ 32 (BitVec.ofNat 32 r))⟩, ⟨S1, broadcastInDim S1 ![] bcast_S_S1 (constantI S_ 32 (BitVec.ofNat 32 o))⟩]
    concatenates_S1_S1_S2_d0

/-- A table with sixteen entries of a row set. -/
def setRow (x : FVec Ideal S8x128 .f32) (r o : ℕ) (v : FVec Ideal S1x16 .f32) : FVec Ideal S8x128 .f32 :=
  Host.scatter scatter_S8x128_S2_S16_0_0_01_0 (fun _ b => b) x (pair r o) (shapeCast S16 v shapeCasts_S1x16_S16)

theorem p_eq : V m c main_v21 = setRow (setRow (setRow (broadcastInDim S8x128 ![] bcast_S_S8x128 (constant S_ FTy.f32 0#32)) 0 0 (m ((c : Thread nD τ).loc main_arg2)))
    1 0 (m ((c : Thread nD τ).loc main_arg3))) 2 32 (m ((c : Thread nD τ).loc main_arg4)) := by
  unfold V hostOps0
  after_reads_simp
  rfl

theorem pair0 (r o : ℕ) : pair r o (ix1 0) = BitVec.ofNat 32 r := by
  pointwise [pair]

theorem pair1 (r o : ℕ) : pair r o (ix1 1) = BitVec.ofNat 32 o := by
  pointwise [pair]

theorem setRow_at (x : FVec Ideal S8x128 .f32) (q o : ℕ) (hq : q < 2 ^ 31) (ho : o < 2 ^ 31) (v : FVec Ideal S1x16 .f32) (r : Fin 8) (l : Fin 128) :
    setRow x q o v (ix2 r l) = if h : r.val = q ∧ o ≤ l.val ∧ l.val - o < 16 then v (ix2 0 ⟨l.val - o, h.2.2⟩) else x (ix2 r l) := by
  refine (set_row scatter_S8x128_S2_S16_0_0_01_0 rfl rfl rfl x (pair q o) _ q o
    ((congrArg BitVec.toInt (pair0 q o)).trans (WordArith.toInt_ofNat_small _ hq))
    ((congrArg BitVec.toInt (pair1 q o)).trans (WordArith.toInt_ofNat_small _ ho)) r l).trans ?_
  split
  · pointwise
  · rfl

/-- The lanes' rates, -/
theorem at_rate (l : Fin 128) (hl : l.val < 16) : V m c main_v21 (ix2 0 l) = m ((c : Thread nD τ).loc main_arg2) (ix2 0 ⟨l.val, hl⟩) := by
  rw [p_eq, setRow_at _ 2 32 (by norm_num) (by norm_num), dif_neg (fun h => absurd h.1 (by decide)),
    setRow_at _ 1 0 (by norm_num) (by norm_num), dif_neg (fun h => absurd h.1 (by decide)),
    setRow_at _ 0 0 (by norm_num) (by norm_num), dif_pos ⟨rfl, Nat.zero_le _, hl⟩]
  rfl

/-- their biases, -/
theorem at_bias (l : Fin 128) (hl : l.val < 16) : V m c main_v21 (ix2 1 l) = m ((c : Thread nD τ).loc main_arg3) (ix2 0 ⟨l.val, hl⟩) := by
  rw [p_eq, setRow_at _ 2 32 (by norm_num) (by norm_num), dif_neg (fun h => absurd h.1 (by decide)),
    setRow_at _ 1 0 (by norm_num) (by norm_num), dif_pos ⟨rfl, Nat.zero_le _, hl⟩]
  rfl

/-- and the biases of the forget gates. -/
theorem at_fbias (l : Fin 128) (hl : 32 ≤ l.val ∧ l.val < 48) :
    V m c main_v21 (ix2 2 l) = m ((c : Thread nD τ).loc main_arg4) (ix2 0 ⟨l.val - 32, by omega⟩) := by
  rw [p_eq, setRow_at _ 2 32 (by norm_num) (by norm_num), dif_pos ⟨rfl, hl.1, by omega⟩]

theorem at_w (k : Fin 4096) (l : Fin 128) (hl : l.val < 48) : V m c main_v5 (ix2 k l) = m ((c : Thread nD τ).loc main_arg1) (ix3 0 k (col l)) := by
  rw [w_eq, wcat_at _ _ _ hl]

end Cert.Gates

end
-- ==== Proof.GateRef.lean ====
/- The gates the reference computes, at an element. -/
module

public import proofs.«01_k».proof.Proof.GateBody
public import proofs.«01_k».proof.Proof.Gen.Reference6Ideal.Read
public import Idealize.ShloMosaic.Lib.Pointwise

@[expose] public section

set_option maxRecDepth 16384
set_option maxHeartbeats 1000000

noncomputable section

namespace Cert.Gates

open Idealize.ShloMosaic Cert.Layer Cert.Reference6Ideal Cert.Reference6Ideal.Read

/-! ## Running sums -/

/-- A window's sum, its terms counted off along the axis of its `N` positions. -/
theorem window_sum {s t : Shape} {window strides lo hi : Fin s.rank → ℕ} (h : s.ReduceWindows window strides lo hi t) (x : s.Idx → EReal) (j : t.Idx)
    {N : ℕ} (e : Fin N → Shape.Idx ⟨s.rank, window⟩) (he : Function.Bijective e) (g : Fin N → EReal)
    (hg : ∀ n, (if hin : ∀ a, lo a ≤ (j (a.cast h.1.symm)).val * strides a + (e n a).val
          ∧ (j (a.cast h.1.symm)).val * strides a + (e n a).val - lo a < s.size a
        then x (fun a => ⟨(j (a.cast h.1.symm)).val * strides a + (e n a).val - lo a, (hin a).2⟩) else 0) = g n) :
    Ideal.hostReduceWindowAdd window strides lo hi h x 0 j = ∑ n, g n := by
  let G : Shape.Idx ⟨s.rank, window⟩ → EReal := fun w =>
    if hin : ∀ a, lo a ≤ (j (a.cast h.1.symm)).val * strides a + (w a).val
      ∧ (j (a.cast h.1.symm)).val * strides a + (w a).val - lo a < s.size a
    then x (fun a => ⟨(j (a.cast h.1.symm)).val * strides a + (w a).val - lo a, (hin a).2⟩) else 0
  have q : Ideal.hostReduceWindowAdd window strides lo hi h x 0 j
      = (List.finRange (Shape.numel ⟨s.rank, window⟩)).foldl (fun r n => r + G ((Shape.rowMajor ⟨s.rank, window⟩).symm n)) 0 := by
    unfold Ideal.hostReduceWindowAdd Host.reduceWindow
    dsimp only
    congr 1
    funext r n
    congr 1
    exact dite_congr rfl (fun _ => rfl) (fun _ => rfl)
  rw [q]
  refine (foldl_add (fun n => G ((Shape.rowMajor ⟨s.rank, window⟩).symm n)) 0).trans ?_
  rw [zero_add, Equiv.sum_comp (Shape.rowMajor ⟨s.rank, window⟩).symm G, ← he.sum_comp G]
  exact Finset.sum_congr rfl fun n _ => hg n

/-- A running sum down the rows, as a window of all of them padded with zeros above the first. -/
theorem window_rows {R C : ℕ} (x : (⟨2, ![R, C]⟩ : Shape).Idx → EReal) (f : ℕ → EReal) (j : Fin R) (c : Fin C)
    (hx : ∀ i : Fin R, x (ix2 i c) = f i.val)
    (h : (⟨2, ![R, C]⟩ : Shape).ReduceWindows (![R, 1] : Fin 2 → ℕ) ![1, 1] ![R - 1, 0] ![0, 0] ⟨2, ![R, C]⟩) :
    Ideal.hostReduceWindowAdd ![R, 1] ![1, 1] ![R - 1, 0] ![0, 0] h x 0 (ix2 j c) = ∑ k ∈ Finset.range (j.val + 1), f k := by
  have hj := j.isLt
  rw [← sum_window R j.val hj f]
  refine window_sum h x (ix2 j c) (fun k : Fin R => ix2 k 0) ⟨fun a b q => congrFun q 0, fun w => ⟨w 0, ?_⟩⟩ _ fun n => ?_
  · funext a
    match a with
    | ⟨0, _⟩ => rfl
    | ⟨1, _⟩ => exact Subsingleton.elim (α := Fin 1) _ _
  have hn := n.isLt
  split
  · next hin =>
    have h0 : R - 1 ≤ j.val * 1 + n.val ∧ j.val * 1 + n.val - (R - 1) < R := hin 0
    rw [if_pos (by omega)]
    refine (congrArg x (funext fun a => Fin.ext ?_)).trans (hx ⟨j.val + n.val - (R - 1), by omega⟩)
    match a with
    | ⟨0, _⟩ =>
      show j.val * 1 + n.val - (R - 1) = j.val + n.val - (R - 1)
      rw [Nat.mul_one]
    | ⟨1, _⟩ =>
      show c.val * 1 + 0 - 0 = c.val
      omega
  · next hin =>
    rw [if_neg fun q => hin fun a => ?_]
    match a with
    | ⟨0, _⟩ =>
      show R - 1 ≤ j.val * 1 + n.val ∧ j.val * 1 + n.val - (R - 1) < R
      omega
    | ⟨1, _⟩ =>
      show 0 ≤ c.val * 1 + 0 ∧ c.val * 1 + 0 - 0 < C
      have := c.isLt
      omega

/-- A running sum down the middle axis. -/
theorem window_mid {B R C : ℕ} (x : (⟨3, ![B, R, C]⟩ : Shape).Idx → EReal) (f : ℕ → EReal) (b : Fin B) (j : Fin R) (c : Fin C)
    (hx : ∀ i : Fin R, x (ix3 b i c) = f i.val)
    (h : (⟨3, ![B, R, C]⟩ : Shape).ReduceWindows (![1, R, 1] : Fin 3 → ℕ) ![1, 1, 1] ![0, R - 1, 0] ![0, 0, 0] ⟨3, ![B, R, C]⟩) :
    Ideal.hostReduceWindowAdd ![1, R, 1] ![1, 1, 1] ![0, R - 1, 0] ![0, 0, 0] h x 0 (ix3 b j c) = ∑ k ∈ Finset.range (j.val + 1), f k := by
  have hj := j.isLt
  rw [← sum_window R j.val hj f]
  refine window_sum h x (ix3 b j c) (fun k : Fin R => ix3 0 k 0) ⟨fun a b q => congrFun q 1, fun w => ⟨w 1, ?_⟩⟩ _ fun n => ?_
  · funext a
    match a with
    | ⟨0, _⟩ => exact Subsingleton.elim (α := Fin 1) _ _
    | ⟨1, _⟩ => rfl
    | ⟨2, _⟩ => exact Subsingleton.elim (α := Fin 1) _ _
  have hn := n.isLt
  split
  · next hin =>
    have h1 : R - 1 ≤ j.val * 1 + n.val ∧ j.val * 1 + n.val - (R - 1) < R := hin 1
    rw [if_pos (by omega)]
    refine (congrArg x (funext fun a => Fin.ext ?_)).trans (hx ⟨j.val + n.val - (R - 1), by omega⟩)
    match a with
    | ⟨0, _⟩ =>
      show b.val * 1 + 0 - 0 = b.val
      omega
    | ⟨1, _⟩ =>
      show j.val * 1 + n.val - (R - 1) = j.val + n.val - (R - 1)
      rw [Nat.mul_one]
    | ⟨2, _⟩ =>
      show c.val * 1 + 0 - 0 = c.val
      omega
  · next hin =>
    rw [if_neg fun q => hin fun a => ?_]
    match a with
    | ⟨0, _⟩ =>
      show 0 ≤ b.val * 1 + 0 ∧ b.val * 1 + 0 - 0 < B
      have := b.isLt
      omega
    | ⟨1, _⟩ =>
      show R - 1 ≤ j.val * 1 + n.val ∧ j.val * 1 + n.val - (R - 1) < R
      omega
    | ⟨2, _⟩ =>
      show 0 ≤ c.val * 1 + 0 ∧ c.val * 1 + 0 - 0 < C
      have := c.isLt
      omega

/-! ## The reference -/

section

variable (x0 : S8192x4096.Idx → EReal) (x1 : S1x4096x14384.Idx → EReal) (x2 x3 x4 : S1x16.Idx → EReal)

/-- The input projection. -/
def proj (j : Fin 8192) (o : Fin 14384) : EReal := dotp (fun k : Fin 4096 => x0 (ix2 j k)) (fun k => x1 (ix3 0 k o))

theorem proj_at (j : Fin 8192) (o : Fin 14384) : val_main_v1 (F := Ideal) x0 x1 (ix2 j o) = proj x0 x1 j o := by
  pointwise [val_main_v1, val_main_v0]
  rfl

theorem g_at (j : Fin 8192) (h : Fin 16) :
    val_main_v15 (F := Ideal) x0 x1 x2 x3 (ix2 j h) = decay (proj x0 x1 j ⟨8192 + h.val, by omega⟩) (x2 (ix2 0 h)) (x3 (ix2 0 h)) := by
  pointwise [val_main_v15, val_main_v14, val_main_v13, val_main_v12, val_main_v11, val_main_v10, val_main_v9, val_main_v8, val_main_v7, val_main_v6,
    val_main_v5, val_main_v2, val_main_call0_cst, val_main_call0_v0, val_main_call0_v1, val_main_call0_v2, val_main_call0_v3, val_main_call0_v4, val_main_call0_v5,
    val_main_call0_v6, val_main_call0_v7, val_main_call0_v8, val_main_call0_v9, val_main_call0_v10, val_main_call0_v11, proj_at]
  rw [if_neg (fun q => q rfl)]
  rfl

theorem ff_at (j : Fin 8192) (h : Fin 16) :
    val_main_v23 (F := Ideal) x0 x1 x4 (ix2 j h) = forget (proj x0 x1 j ⟨14368 + h.val, by omega⟩) (x4 (ix2 0 h)) := by
  pointwise [val_main_v23, val_main_v22, val_main_v21, val_main_v20, val_main_v19, val_main_v4, val_main_call2_v0, val_main_call2_v1, val_main_call2_call0_cst,
    val_main_call2_call0_v0, val_main_call2_call0_v1, val_main_call2_call0_v2, val_main_call2_call0_v3, val_main_call2_call0_v4, val_main_call2_call0_v5,
    val_main_call2_call0_v6, val_main_call2_call0_v7, val_main_call2_call0_v8, val_main_call2_call0_v9, val_main_call2_call0_v10, val_main_call2_call0_v11, proj_at]
  rw [if_neg (fun q => q rfl)]
  rfl

theorem beta_at (j : Fin 8192) (h : Fin 16) :
    val_main_v30 (F := Ideal) x0 x1 (ix2 j h) = Ideal.logistic (proj x0 x1 j ⟨8208 + h.val, by omega⟩) := by
  pointwise [val_main_v30, val_main_v29, val_main_v28, val_main_v27, val_main_v26, val_main_v25, val_main_v3, val_main_cst, val_main_cst_0, proj_at]
  rfl

/-- A chunk's running log decay. -/
theorem chunk_at (j : Fin 8192) (h : Fin 16) (f : ℕ → EReal)
    (hf : ∀ i : Fin 8192, decay (proj x0 x1 i ⟨8192 + h.val, by omega⟩) (x2 (ix2 0 h)) (x3 (ix2 0 h)) = f i.val) :
    val_main_v18 (F := Ideal) x0 x1 x2 x3 (ix2 j h) = csum f (j.val / 128 * 128) (j.val % 128) := by
  have hj := j.isLt
  have e : val_main_v18 (F := Ideal) x0 x1 x2 x3 (ix2 j h)
      = val_main_v17 (F := Ideal) x0 x1 x2 x3 (ix3 ⟨j.val / 128, by omega⟩ ⟨j.val % 128, by omega⟩ h) := by
    pointwise [val_main_v18]
  rw [e]
  unfold val_main_v17 csum
  have z : ∀ y, val_main_call1_call0_v0 (F := Ideal) y = 0 := fun y => by
    rw [val_main_call1_call0_v0_apply]
    pointwise [val_main_call1_call0_cst]
  unfold Host.reduceWindowAdd
  rw [z]
  refine window_mid (B := 64) (R := 128) (C := 16) _ (fun k => f (j.val / 128 * 128 + k)) _ ⟨j.val % 128, by omega⟩ h (fun i => ?_) _
  have hi := i.isLt
  refine Eq.trans ?_ (hf ⟨j.val / 128 * 128 + i.val, by omega⟩)
  rw [← g_at]
  pointwise [val_main_v16]

/-- The running log forget gate. -/
theorem cum_at (j : Fin 8192) (h : Fin 16) (f : ℕ → EReal)
    (hf : ∀ i : Fin 8192, forget (proj x0 x1 i ⟨14368 + h.val, by omega⟩) (x4 (ix2 0 h)) = f i.val) :
    val_main_v24 (F := Ideal) x0 x1 x4 (ix2 j h) = ∑ k ∈ Finset.range (j.val + 1), f k := by
  unfold val_main_v24
  have z : ∀ y, val_main_call3_call0_v0 (F := Ideal) y = 0 := fun y => by
    rw [val_main_call3_call0_v0_apply]
    pointwise [val_main_call3_call0_cst]
  unfold Host.reduceWindowAdd
  rw [z]
  exact window_rows (R := 8192) (C := 16) _ f j h (fun i => (ff_at x0 x1 x4 i h).trans (hf i)) _

/-- The gates at row `j` and lane `l`, from the lane's values down the rows and its projection at row `j`. -/
theorem ref_at (j : Fin 8192) (l : Fin 128) (f : ℕ → EReal) (p : EReal)
    (h1 : ∀ hl : l.val < 16, ∀ i : Fin 8192,
      decay (proj x0 x1 i ⟨8192 + l.val, by omega⟩) (x2 (ix2 0 ⟨l.val, hl⟩)) (x3 (ix2 0 ⟨l.val, hl⟩)) = f i.val)
    (h2 : ∀ hl : 16 ≤ l.val ∧ l.val < 32, proj x0 x1 j ⟨8208 + (l.val - 16), by omega⟩ = p)
    (h3 : ∀ hl : 32 ≤ l.val ∧ l.val < 48, ∀ i : Fin 8192,
      forget (proj x0 x1 i ⟨14368 + (l.val - 32), by omega⟩) (x4 (ix2 0 ⟨l.val - 32, by omega⟩)) = f i.val) :
    val_main_v32 (F := Ideal) x0 x1 x2 x3 x4 (ix2 j l)
      = lane l (csum f (j.val / 128 * 128) (j.val % 128)) (Ideal.logistic p) (∑ k ∈ Finset.range (j.val + 1), f k) := by
  have z : ∀ y, val_main_v31 (F := Ideal) y = 0 := fun y => by
    rw [val_main_v31_apply]
    pointwise [val_main_cst_1]
  pointwise [val_main_v32]
  unfold lane
  by_cases a : l.val < 16
  · refine (dif_pos a).trans (Eq.trans ?_ (if_pos a).symm)
    exact chunk_at _ _ _ _ _ _ _ (h1 a)
  refine (dif_neg a).trans (Eq.trans ?_ (if_neg a).symm)
  by_cases b : l.val < 32
  · refine (dif_pos (show l.val - 16 < 16 by omega)).trans (Eq.trans ?_ (if_pos ⟨by omega, b⟩).symm)
    exact (beta_at _ _ _ _).trans (congrArg _ (h2 ⟨by omega, b⟩))
  refine (dif_neg (show ¬l.val - 16 < 16 by omega)).trans (Eq.trans ?_ (if_neg (fun q => b q.2)).symm)
  by_cases d : l.val < 48
  · refine (dif_pos (show l.val - 16 - 16 < 16 by omega)).trans (Eq.trans ?_ (if_pos ⟨by omega, d⟩).symm)
    exact cum_at _ _ _ _ _ _ (h3 ⟨by omega, d⟩)
  · exact (dif_neg (show ¬l.val - 16 - 16 < 16 by omega)).trans ((z _).trans (if_neg (fun q => d q.2)).symm)

end

end Cert.Gates

end
-- ==== Proof.Gates.lean ====
/- The even layer's gate columns: the running log decays, the write strengths and the running log forget gates. -/
module

public import proofs.«01_k».proof.Proof.GateHost
public import proofs.«01_k».proof.Proof.GateRef
public import proofs.«01_k».proof.Proof.Gen.Kernel6
public import proofs.«01_k».proof.Proof.Gen.Kernel6Ideal
public import proofs.«01_k».proof.Proof.Gen.Reference6Ideal
public import proofs.«01_k».proof.Proof.Gen.Kernel6.Frame

@[expose] public section

set_option maxRecDepth 16384
set_option maxHeartbeats 1000000

noncomputable section

namespace Cert.Gates

open Idealize.ShloMosaic Idealize.ShloMosaic.TcCoe Idealize.SL.Sem Cert.Layer

section kernel

open Cert.Kernel6Ideal Cert.Kernel6Ideal.Gen

variable (m : (ℓ : Loc nD τ sig) → Buf (Elt Ideal) ℓ) (c : Dev nD)

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel
theorem index3 : ∀ t : Fin grid0.N, win0_3.index t 0 = t.val ∧ win0_3.index t 1 = 0 := by decide +kernel
theorem lt : ∀ t : Fin grid0.N, t.val < 16 := by decide +kernel

/-- Row `r` of point `t`'s panel. -/
def row (t : Fin grid0.N) (r : Fin 512) : Fin 8192 := ⟨t.val * 512 + r.val, by have := lt t; omega⟩

theorem h_blk (t : Fin grid0.N) (r : Fin 512) (k : Fin 4096) : iblk m c 0 t (ix2 r k) = V m c main_v22 (ix2 (row t r) k) := by
  unfold iblk
  rw [View.read_apply]
  show V m c main_v22 _ = _
  congr 1
  funext a
  apply Fin.ext
  obtain ⟨e0, e1⟩ := index0 t
  match a with
  | ⟨0, _⟩ => blk_simp [e0]; rfl
  | ⟨1, _⟩ => blk_simp [e1]

theorem w_blk (t : Fin grid0.N) (k : Fin 4096) (l : Fin 128) : iblk m c 1 t (ix2 k l) = V m c main_v5 (ix2 k l) := by
  unfold iblk
  rw [View.read_apply]
  show V m c main_v5 _ = _
  congr 1
  funext a
  apply Fin.ext
  obtain ⟨e0, e1⟩ := index1 t
  match a with
  | ⟨0, _⟩ => blk_simp [e0]
  | ⟨1, _⟩ => blk_simp [e1]

theorem p_blk (t : Fin grid0.N) (r : Fin 8) (l : Fin 128) : iblk m c 2 t (ix2 r l) = V m c main_v21 (ix2 r l) := by
  unfold iblk
  rw [View.read_apply]
  show V m c main_v21 _ = _
  congr 1
  funext a
  apply Fin.ext
  obtain ⟨e0, e1⟩ := index2 t
  match a with
  | ⟨0, _⟩ => blk_simp [e0]
  | ⟨1, _⟩ => blk_simp [e1]

/-- The projection of row `j` at a lane, -/
def pr (j : Fin 8192) (l : Fin 128) : EReal := dotp (fun k : Fin 4096 => V m c main_v22 (ix2 j k)) (fun k => V m c main_v5 (ix2 k l))

/-- and the value a running sum takes there. -/
def gval (l : Fin 128) (j : ℕ) : EReal :=
  val l (pr m c (Fin.ofNat 8192 j) l) (V m c main_v21 (ix2 0 l)) (V m c main_v21 (ix2 1 l)) (V m c main_v21 (ix2 2 l))

theorem prod_at (t : Fin grid0.N) (r : Fin 512) (l : Fin 128) : k0_pay4 (iblk m c 0 t) (iblk m c 1 t) (ix2 r l) = pr m c (row t r) l :=
  (prod _ _ r l).trans (dotp_congr (fun k => h_blk m c t r k) (fun k => w_blk m c t k l))

theorem val_at (t : Fin grid0.N) (i : Fin 512) (l : Fin 128) :
    val l (k0_pay4 (iblk m c 0 t) (iblk m c 1 t) (ix2 i l)) (prow (iblk m c 2 t) 0 (ix2 0 l)) (prow (iblk m c 2 t) 1 (ix2 0 l))
      (prow (iblk m c 2 t) 2 (ix2 0 l)) = gval m c l (t.val * 512 + i.val) := by
  have e : Fin.ofNat 8192 (t.val * 512 + i.val) = row t i := Fin.ext (Nat.mod_eq_of_lt (row t i).isLt)
  have q : ∀ r : Fin 8, prow (iblk m c 2 t) r (ix2 0 l) = V m c main_v21 (ix2 r l) := fun r => p_blk m c t r l
  unfold gval
  rw [prod_at, q, q, q, e]

/-- What point `t` is handed: the sums over the rows before its own. -/
theorem before_at : ∀ (n : ℕ) (hn : n < cfg0.N) (l : Fin 128),
    before m c ⟨n, hn⟩ (ix2 0 l) = kept l (∑ k ∈ Finset.range (n * 512), gval m c l k)
  | 0, hn, l => by
    rw [show before m c ⟨0, hn⟩ = fun _ => 0 from if_pos rfl, Nat.zero_mul, Finset.sum_range_zero]
    unfold kept
    rw [ite_self]
  | n + 1, hn, l => by
    have hp : n < cfg0.N := Nat.lt_of_succ_lt hn
    have e : before m c ⟨n + 1, hn⟩ = (outsAt0 m c n hp).2 := if_neg (Nat.succ_ne_zero n)
    rw [e, last_eq m c ⟨n, hp⟩, last_at _ _ _ _ _ _ (fun l j => gval m c l (n * 512 + j)) (fun l => ∑ k ∈ Finset.range (n * 512), gval m c l k)
      (val_at m c ⟨n, hp⟩) (fun l j => val_ne_top _ _ _ _ _) (before_at n hp) l]
    unfold run
    rw [← Finset.sum_range_add, Nat.succ_mul]

/-- The gates at an element. -/
def gate (j : Fin 8192) (l : Fin 128) : EReal :=
  lane l (csum (gval m c l) (j.val / 128 * 128) (j.val % 128)) (Ideal.logistic (pr m c j l)) (∑ k ∈ Finset.range (j.val + 1), gval m c l k)

theorem out_at (t : Fin grid0.N) (i : Fin 512) (l : Fin 128) : (outsAt0 m c t.val t.isLt).1 (ix2 i l) = gate m c (row t i) l := by
  have hi := i.isLt
  rw [out_eq m c t, stores_at _ _ _ _ _ _ (fun l j => gval m c l (t.val * 512 + j)) (fun l => ∑ k ∈ Finset.range (t.val * 512), gval m c l k)
      (val_at m c t) (fun l j => val_ne_top _ _ _ _ _) (before_at m c t.val t.isLt) i l, prod_at]
  have e1 : (t.val * 512 + i.val) / 128 * 128 = t.val * 512 + i.val / 128 * 128 := by omega
  have e2 : (t.val * 512 + i.val) % 128 = i.val % 128 := by omega
  refine lane_congr l ?_ rfl fun _ => ?_
  · show csum _ _ _ = csum (gval m c l) ((t.val * 512 + i.val) / 128 * 128) ((t.val * 512 + i.val) % 128)
    rw [e1, e2]
    unfold csum
    simp only [Nat.add_assoc]
  · unfold run
    rw [← Finset.sum_range_add]
    rfl

/-- The array that the call leaves. -/
def result : Buf (Elt Ideal) ((c : Thread nD τ).loc main_v23) := fun (i : S8192x128.Idx) => gate m c (i 0) (i 1)

theorem final : (dats m 0 c).arrAt 3 cfg0.N = result m c := by
  refine (dats m 0 c).arrAt_eq_of_covers 3 _ (by decide +kernel) fun t hf y => ?_
  show (dats m 0 c).after 3 t y = _
  idx_vars y
  rw [after0_3, out_at]
  refine Eq.trans (b := result m c (ix2 (row t y0) y1)) rfl ?_
  congr 1
  funext a
  apply Fin.ext
  obtain ⟨e0, e1⟩ := index3 t
  match a with
  | ⟨0, _⟩ => blk_simp [e0]; rfl
  | ⟨1, _⟩ => blk_simp [e1]

/-- At a lane in use, the projection is the reference's. -/
theorem pr_eq (j : Fin 8192) (l : Fin 128) (hl : l.val < 48) :
    pr m c j l = proj (m ((c : Thread nD τ).loc main_arg0)) (m ((c : Thread nD τ).loc main_arg1)) j (col l) :=
  dotp_congr (fun k => at_h m c j k) (fun k => at_w m c k l hl)

theorem ofNat_val (i : Fin 8192) : Fin.ofNat 8192 i.val = i := Fin.ext (Nat.mod_eq_of_lt i.isLt)

/-- The reference's values are the gates. -/
theorem meets (j : Fin 8192) (l : Fin 128) :
    Cert.Reference6Ideal.Read.val_main_v32 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (ix2 j l)
      = gate m c j l := by
  refine ref_at _ _ _ _ _ j l (gval m c l) (pr m c j l) (fun hl i => ?_) (fun hl => ?_) (fun hl i => ?_)
  · unfold gval val
    rw [if_pos hl, ofNat_val, pr_eq m c i l (by omega), at_rate m c l hl, at_bias m c l hl]
    have e : col l.val = ⟨8192 + l.val, by omega⟩ := dif_pos (by omega)
    rw [e]
  · have e : col l.val = ⟨8208 + (l.val - 16), by omega⟩ := (dif_pos hl.2).trans (Fin.ext (by show 8192 + l.val = 8208 + (l.val - 16); omega))
    rw [pr_eq m c j l (by omega), e]
  · unfold gval val
    have e : col l.val = ⟨14368 + (l.val - 32), by omega⟩ :=
      (dif_neg (by omega)).trans (Fin.ext (by show 14368 + (l.val - 32) % 16 = 14368 + (l.val - 32); omega))
    rw [if_neg (by omega), if_pos hl, ofNat_val, pr_eq m c i l hl.2, at_fbias m c l hl, e]

end kernel

/-! ## The claims -/

theorem frame_p : Cert.quiescent_Kernel6 := fun m ρ _ => Cert.Kernel6.Gen.frame m ρ

theorem frame_pi : Cert.quiescent_Kernel6Ideal := fun m ρ _ => Cert.Kernel6Ideal.Gen.frame m ρ

theorem frame_ri : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

theorem preserves : Cert.preserves_Kernel6_Kernel6Ideal := trivial

theorem algebraic : Cert.algebraic_Kernel6Ideal_Reference6Ideal := by
  intro m ρ m' ρ' _ hagree
  refine ⟨fun c => result m c, ?_, ?_⟩
  · exact (θ_run Cert.Kernel6Ideal.defs _ _).mono (fun r h c => ⟨(h c).1.trans (final m c), (h c).2⟩)
      (Cert.Kernel6Ideal.Value.run_blocks (F := Ideal) m ρ)
  · refine (θ_run Cert.Reference6Ideal.defs _ _).mono (fun r h c => ⟨(h c).1.trans ?_, (h c).2⟩) (Cert.Reference6Ideal.Value.run (F := Ideal) m' ρ')
    obtain ⟨e0, e1, e2, e3, e4⟩ := hagree c
    rw [Cert.Reference6Ideal.Read.val_main_v32_eq, e0, e1, e2, e3, e4]
    funext y
    idx_vars y
    exact meets m c y0 y1

end Cert.Gates

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Reference6Ideal
public import proofs.«01_k».proof.Proof.FoxClaims
public import proofs.«01_k».proof.Proof.TailClaims
public import proofs.«01_k».proof.Proof.FoxProjClaims
public import proofs.«01_k».proof.Proof.OutProj
public import proofs.«01_k».proof.Proof.DeltaProj
public import proofs.«01_k».proof.Proof.Gates
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Fox.finite_facts,
    Cert.Fox.frame_p, Cert.Fox.frame_pi, Cert.Fox.frame_pi_finite, Cert.Fox.frame_ri, Cert.Fox.frame_ri_finite,
    Cert.Tail.frame_p, Cert.Tail.frame_pi, Cert.Tail.frame_ri,
    Cert.FoxProj.frame_p, Cert.FoxProj.frame_pi, Cert.FoxProj.frame_ri,
    Cert.OutProj.frame_p, Cert.OutProj.frame_pi, Cert.OutProj.frame_ri,
    Cert.DeltaProj.frame_p, Cert.DeltaProj.frame_pi, Cert.DeltaProj.frame_ri,
    Cert.Gates.frame_p, Cert.Gates.frame_pi, Cert.Gates.frame_ri,
    Cert.Fox.preserves, Cert.Fox.algebraic, Cert.Tail.preserves, Cert.Tail.algebraic,
    Cert.FoxProj.preserves, Cert.FoxProj.algebraic,
    Cert.OutProj.preserves, Cert.OutProj.algebraic,
    Cert.DeltaProj.preserves, Cert.DeltaProj.algebraic,
    Cert.Gates.preserves, Cert.Gates.algebraic⟩

end Cert.Proof

end
